-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x256 : Shape := ⟨2, ![2048, 256]⟩
abbrev S256x2048 : Shape := ⟨2, ![256, 2048]⟩
abbrev S2048x2048 : Shape := ⟨2, ![2048, 2048]⟩
abbrev S1792x2048 : Shape := ⟨2, ![1792, 2048]⟩
abbrev S3x2x3 : Shape := ⟨3, ![3, 2, 3]⟩
abbrev S3x2x3x2 : Shape := ⟨4, ![3, 2, 3, 2]⟩
abbrev S_ : Shape := ⟨0, ![]⟩
abbrev S384x256 : Shape := ⟨2, ![384, 256]⟩
abbrev S384x2048 : Shape := ⟨2, ![384, 2048]⟩
abbrev S1x1x1 : Shape := ⟨3, ![1, 1, 1]⟩
abbrev S320x256 : Shape := ⟨2, ![320, 256]⟩
abbrev S320x2048 : Shape := ⟨2, ![320, 2048]⟩
abbrev S192x2048 : Shape := ⟨2, ![192, 2048]⟩
abbrev S160x2048 : Shape := ⟨2, ![160, 2048]⟩
abbrev S80x2048 : Shape := ⟨2, ![80, 2048]⟩
abbrev S96x2048 : Shape := ⟨2, ![96, 2048]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S2048x2048, .f32⟩
  | .local _ .vmem, ⟨0, _⟩ => ⟨S2048x256, .f32⟩
  | .local _ .vmem, ⟨1, _⟩ => ⟨S256x2048, .f32⟩
  | .local _ .vmem, ⟨2, _⟩ => ⟨S2048x2048, .f32⟩
  | .local _ .vmem, ⟨3, _⟩ => ⟨S1792x2048, .bf16⟩
  | .local _ .vmem, ⟨4, _⟩ => ⟨S1792x2048, .bf16⟩
  | .local _ .vmem, ⟨5, _⟩ => ⟨S2048x2048, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  (ofTc nBuf bufTy 1 57 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v12 : BitVec 32 := Scalar.xori v2 c1_i32_8
  let c1_i32_11 : BitVec 32 := 1#32
  let v16 : BitVec 32 := Scalar.muli v12 c1_i32_11
  let v17 : BitVec 32 := Scalar.addi c0_i32_12 v16
  v17.toNat
def k0_dev2 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_14 : BitVec 32 := 1#32
  let v18 : BitVec 32 := Scalar.muli v13 c1_i32_14
  let v19 : BitVec 32 := Scalar.addi c0_i32_15 v18
  v19.toNat
def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v14 : BitVec 32 := Scalar.xori v2 c4_i32_9
  let c1_i32_17 : BitVec 32 := 1#32
  let v20 : BitVec 32 := Scalar.muli v14 c1_i32_17
  let v21 : BitVec 32 := Scalar.addi c0_i32_18 v20
  v21.toNat
def k0_off1 (d0 : Dev nD) : Fin 2 → Nat :=
  let c1280_i32 : BitVec 32 := 1280#32
  let c0_i32_23 : BitVec 32 := 0#32
  let v24 : BitVec 32 := Scalar.addi c1280_i32 c0_i32_23
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let v25 : BitVec 32 := Scalar.subi c1_i32_24 v11
  let c384_i32 : BitVec 32 := 384#32
  let v26 : BitVec 32 := Scalar.muli v25 c384_i32
  let v27 : BitVec 32 := Scalar.addi v24 v26
  let v28 : Index := Scalar.indexCast v27
  let c0 : Index := 0#32
  ![v28.toNat, 0]
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v14 : BitVec 32 := Scalar.xori v2 c4_i32_9
  let c1_i32_34 : BitVec 32 := 1#32
  let v38 : BitVec 32 := Scalar.muli v14 c1_i32_34
  let v39 : BitVec 32 := Scalar.addi c0_i32_35 v38
  v39.toNat
def k0_off2 (d0 : Dev nD) : Fin 2 → Nat :=
  let c0_i32_20 : BitVec 32 := 0#32
  let c0_i32_21 : BitVec 32 := 0#32
  let v22 : BitVec 32 := Scalar.addi c0_i32_20 c0_i32_21
  let c1_i32_39 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v46 : BitVec 32 := Scalar.subi c1_i32_39 v7
  let c320_i32 : BitVec 32 := 320#32
  let v47 : BitVec 32 := Scalar.muli v46 c320_i32
  let v48 : BitVec 32 := Scalar.addi v22 v47
  let v49 : Index := Scalar.indexCast v48
  let c0_40 : Index := 0#32
  ![v49.toNat, 0]
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v12 : BitVec 32 := Scalar.xori v2 c1_i32_8
  let c1_i32_52 : BitVec 32 := 1#32
  let v59 : BitVec 32 := Scalar.muli v12 c1_i32_52
  let v60 : BitVec 32 := Scalar.addi c0_i32_53 v59
  v60.toNat
def k0_off3 (d0 : Dev nD) : Fin 2 → Nat :=
  let c640_i32 : BitVec 32 := 640#32
  let c0_i32_22 : BitVec 32 := 0#32
  let v23 : BitVec 32 := Scalar.addi c640_i32 c0_i32_22
  let c1_i32_58 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v67 : BitVec 32 := Scalar.subi c1_i32_58 v9
  let c320_i32_59 : BitVec 32 := 320#32
  let v68 : BitVec 32 := Scalar.muli v67 c320_i32_59
  let v69 : BitVec 32 := Scalar.addi v23 v68
  let v70 : Index := Scalar.indexCast v69
  let c0_60 : Index := 0#32
  ![v70.toNat, 0]
def k0_dev6 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_71 : BitVec 32 := 1#32
  let v80 : BitVec 32 := Scalar.muli v13 c1_i32_71
  let v81 : BitVec 32 := Scalar.addi c0_i32_72 v80
  v81.toNat
def k0_off4 (d0 : Dev nD) : Fin 2 → Nat :=
  let c0_i32_20 : BitVec 32 := 0#32
  let c0_i32_21 : BitVec 32 := 0#32
  let v22 : BitVec 32 := Scalar.addi c0_i32_20 c0_i32_21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c320_i32_76 : BitVec 32 := 320#32
  let v88 : BitVec 32 := Scalar.muli v7 c320_i32_76
  let v89 : BitVec 32 := Scalar.addi v22 v88
  let v90 : Index := Scalar.indexCast v89
  let c0_77 : Index := 0#32
  ![v90.toNat, 0]
def k0_off5 (d0 : Dev nD) : Fin 2 → Nat :=
  let c0_i32_20 : BitVec 32 := 0#32
  let c0_i32_21 : BitVec 32 := 0#32
  let v22 : BitVec 32 := Scalar.addi c0_i32_20 c0_i32_21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c320_i32_76 : BitVec 32 := 320#32
  let v88 : BitVec 32 := Scalar.muli v7 c320_i32_76
  let v89 : BitVec 32 := Scalar.addi v22 v88
  let v96 : Index := Scalar.indexCast v89
  let c0_81 : Index := 0#32
  ![v96.toNat, 0]
def k0_off6 (d0 : Dev nD) : Fin 2 → Nat :=
  let c640_i32 : BitVec 32 := 640#32
  let c0_i32_22 : BitVec 32 := 0#32
  let v23 : BitVec 32 := Scalar.addi c640_i32 c0_i32_22
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c320_i32_82 : BitVec 32 := 320#32
  let v98 : BitVec 32 := Scalar.muli v9 c320_i32_82
  let v99 : BitVec 32 := Scalar.addi v23 v98
  let v100 : Index := Scalar.indexCast v99
  let c0_83 : Index := 0#32
  ![v100.toNat, 0]
def k0_off7 (d0 : Dev nD) : Fin 2 → Nat :=
  let c640_i32 : BitVec 32 := 640#32
  let c0_i32_22 : BitVec 32 := 0#32
  let v23 : BitVec 32 := Scalar.addi c640_i32 c0_i32_22
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c320_i32_82 : BitVec 32 := 320#32
  let v98 : BitVec 32 := Scalar.muli v9 c320_i32_82
  let v99 : BitVec 32 := Scalar.addi v23 v98
  let v106 : Index := Scalar.indexCast v99
  let c0_87 : Index := 0#32
  ![v106.toNat, 0]
def k0_off8 (d0 : Dev nD) : Fin 2 → Nat :=
  let c1280_i32 : BitVec 32 := 1280#32
  let c0_i32_23 : BitVec 32 := 0#32
  let v24 : BitVec 32 := Scalar.addi c1280_i32 c0_i32_23
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c384_i32_88 : BitVec 32 := 384#32
  let v108 : BitVec 32 := Scalar.muli v11 c384_i32_88
  let v109 : BitVec 32 := Scalar.addi v24 v108
  let v110 : Index := Scalar.indexCast v109
  let c0_89 : Index := 0#32
  ![v110.toNat, 0]
def k0_off9 (d0 : Dev nD) : Fin 2 → Nat :=
  let c1280_i32 : BitVec 32 := 1280#32
  let c0_i32_23 : BitVec 32 := 0#32
  let v24 : BitVec 32 := Scalar.addi c1280_i32 c0_i32_23
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c384_i32_88 : BitVec 32 := 384#32
  let v108 : BitVec 32 := Scalar.muli v11 c384_i32_88
  let v109 : BitVec 32 := Scalar.addi v24 v108
  let v116 : Index := Scalar.indexCast v109
  let c0_93 : Index := 0#32
  ![v116.toNat, 0]
def k0_off10 (d0 : Dev nD) : Fin 2 → Nat :=
  let c1280_i32 : BitVec 32 := 1280#32
  let c0_i32_23 : BitVec 32 := 0#32
  let v24 : BitVec 32 := Scalar.addi c1280_i32 c0_i32_23
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c384_i32_117 : BitVec 32 := 384#32
  let v128 : BitVec 32 := Scalar.muli v11 c384_i32_117
  let v129 : BitVec 32 := Scalar.addi v24 v128
  let c1_i32_118 : BitVec 32 := 1#32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v130 : BitVec 32 := Scalar.subi c1_i32_118 v7
  let c192_i32 : BitVec 32 := 192#32
  let v131 : BitVec 32 := Scalar.muli v130 c192_i32
  let v133 : BitVec 32 := Scalar.addi v129 v131
  let v134 : Index := Scalar.indexCast v133
  let c0_120 : Index := 0#32
  ![v134.toNat, 0]
def k0_off11 (d0 : Dev nD) : Fin 2 → Nat :=
  let c1120_i32_121 : BitVec 32 := 1120#32
  let c1_i32_118 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v130 : BitVec 32 := Scalar.subi c1_i32_118 v7
  let c192_i32 : BitVec 32 := 192#32
  let v131 : BitVec 32 := Scalar.muli v130 c192_i32
  let v137 : BitVec 32 := Scalar.addi c1120_i32_121 v131
  let v138 : Index := Scalar.indexCast v137
  let c0_122 : Index := 0#32
  ![v138.toNat, 0]
def k0_off12 (d0 : Dev nD) : Fin 2 → Nat :=
  let c1280_i32 : BitVec 32 := 1280#32
  let c0_i32_23 : BitVec 32 := 0#32
  let v24 : BitVec 32 := Scalar.addi c1280_i32 c0_i32_23
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c384_i32_117 : BitVec 32 := 384#32
  let v128 : BitVec 32 := Scalar.muli v11 c384_i32_117
  let v129 : BitVec 32 := Scalar.addi v24 v128
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c192_i32_119 : BitVec 32 := 192#32
  let v132 : BitVec 32 := Scalar.muli v7 c192_i32_119
  let v146 : BitVec 32 := Scalar.addi v129 v132
  let v147 : Index := Scalar.indexCast v146
  let c0_124 : Index := 0#32
  ![v147.toNat, 0]
def k0_off13 (d0 : Dev nD) : Fin 2 → Nat :=
  let c1120_i32_125 : BitVec 32 := 1120#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c192_i32_119 : BitVec 32 := 192#32
  let v132 : BitVec 32 := Scalar.muli v7 c192_i32_119
  let v150 : BitVec 32 := Scalar.addi c1120_i32_125 v132
  let v151 : Index := Scalar.indexCast v150
  let c0_126 : Index := 0#32
  ![v151.toNat, 0]
def k0_off14 (d0 : Dev nD) : Fin 2 → Nat :=
  let c0_i32_20 : BitVec 32 := 0#32
  let c0_i32_21 : BitVec 32 := 0#32
  let v22 : BitVec 32 := Scalar.addi c0_i32_20 c0_i32_21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c320_i32_151 : BitVec 32 := 320#32
  let v167 : BitVec 32 := Scalar.muli v7 c320_i32_151
  let v168 : BitVec 32 := Scalar.addi v22 v167
  let c1_i32_152 : BitVec 32 := 1#32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v169 : BitVec 32 := Scalar.subi c1_i32_152 v9
  let c160_i32 : BitVec 32 := 160#32
  let v170 : BitVec 32 := Scalar.muli v169 c160_i32
  let v172 : BitVec 32 := Scalar.addi v168 v170
  let v173 : Index := Scalar.indexCast v172
  let c0_154 : Index := 0#32
  ![v173.toNat, 0]
def k0_off15 (d0 : Dev nD) : Fin 2 → Nat :=
  let c0_i32_155 : BitVec 32 := 0#32
  let c1_i32_152 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v169 : BitVec 32 := Scalar.subi c1_i32_152 v9
  let c160_i32 : BitVec 32 := 160#32
  let v170 : BitVec 32 := Scalar.muli v169 c160_i32
  let v176 : BitVec 32 := Scalar.addi c0_i32_155 v170
  let v177 : Index := Scalar.indexCast v176
  let c0_156 : Index := 0#32
  ![v177.toNat, 0]
def k0_off16 (d0 : Dev nD) : Fin 2 → Nat :=
  let c0_i32_20 : BitVec 32 := 0#32
  let c0_i32_21 : BitVec 32 := 0#32
  let v22 : BitVec 32 := Scalar.addi c0_i32_20 c0_i32_21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c320_i32_151 : BitVec 32 := 320#32
  let v167 : BitVec 32 := Scalar.muli v7 c320_i32_151
  let v168 : BitVec 32 := Scalar.addi v22 v167
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c160_i32_153 : BitVec 32 := 160#32
  let v171 : BitVec 32 := Scalar.muli v9 c160_i32_153
  let v185 : BitVec 32 := Scalar.addi v168 v171
  let v186 : Index := Scalar.indexCast v185
  let c0_158 : Index := 0#32
  ![v186.toNat, 0]
def k0_off17 (d0 : Dev nD) : Fin 2 → Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c160_i32_153 : BitVec 32 := 160#32
  let v171 : BitVec 32 := Scalar.muli v9 c160_i32_153
  let v189 : BitVec 32 := Scalar.addi c0_i32_159 v171
  let v190 : Index := Scalar.indexCast v189
  let c0_160 : Index := 0#32
  ![v190.toNat, 0]
def k0_off18 (d0 : Dev nD) : Fin 2 → Nat :=
  let c640_i32 : BitVec 32 := 640#32
  let c0_i32_22 : BitVec 32 := 0#32
  let v23 : BitVec 32 := Scalar.addi c640_i32 c0_i32_22
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c320_i32_185 : BitVec 32 := 320#32
  let v206 : BitVec 32 := Scalar.muli v9 c320_i32_185
  let v207 : BitVec 32 := Scalar.addi v23 v206
  let c1_i32_186 : BitVec 32 := 1#32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let v208 : BitVec 32 := Scalar.subi c1_i32_186 v11
  let c160_i32_187 : BitVec 32 := 160#32
  let v209 : BitVec 32 := Scalar.muli v208 c160_i32_187
  let v211 : BitVec 32 := Scalar.addi v207 v209
  let v212 : Index := Scalar.indexCast v211
  let c0_189 : Index := 0#32
  ![v212.toNat, 0]
def k0_off19 (d0 : Dev nD) : Fin 2 → Nat :=
  let c560_i32_190 : BitVec 32 := 560#32
  let c1_i32_186 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let v208 : BitVec 32 := Scalar.subi c1_i32_186 v11
  let c160_i32_187 : BitVec 32 := 160#32
  let v209 : BitVec 32 := Scalar.muli v208 c160_i32_187
  let v215 : BitVec 32 := Scalar.addi c560_i32_190 v209
  let v216 : Index := Scalar.indexCast v215
  let c0_191 : Index := 0#32
  ![v216.toNat, 0]
def k0_off20 (d0 : Dev nD) : Fin 2 → Nat :=
  let c640_i32 : BitVec 32 := 640#32
  let c0_i32_22 : BitVec 32 := 0#32
  let v23 : BitVec 32 := Scalar.addi c640_i32 c0_i32_22
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c320_i32_185 : BitVec 32 := 320#32
  let v206 : BitVec 32 := Scalar.muli v9 c320_i32_185
  let v207 : BitVec 32 := Scalar.addi v23 v206
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c160_i32_188 : BitVec 32 := 160#32
  let v210 : BitVec 32 := Scalar.muli v11 c160_i32_188
  let v224 : BitVec 32 := Scalar.addi v207 v210
  let v225 : Index := Scalar.indexCast v224
  let c0_193 : Index := 0#32
  ![v225.toNat, 0]
def k0_off21 (d0 : Dev nD) : Fin 2 → Nat :=
  let c560_i32_194 : BitVec 32 := 560#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c160_i32_188 : BitVec 32 := 160#32
  let v210 : BitVec 32 := Scalar.muli v11 c160_i32_188
  let v228 : BitVec 32 := Scalar.addi c560_i32_194 v210
  let v229 : Index := Scalar.indexCast v228
  let c0_195 : Index := 0#32
  ![v229.toNat, 0]
def k0_dev7 (d0 : Dev nD) : Nat :=
  let c0_i32_204 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_203 : BitVec 32 := 1#32
  let v235 : BitVec 32 := Scalar.muli v13 c1_i32_203
  let v236 : BitVec 32 := Scalar.addi c0_i32_204 v235
  v236.toNat
def k0_dev8 (d0 : Dev nD) : Nat :=
  let c0_i32_216 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v14 : BitVec 32 := Scalar.xori v2 c4_i32_9
  let c1_i32_215 : BitVec 32 := 1#32
  let v243 : BitVec 32 := Scalar.muli v14 c1_i32_215
  let v244 : BitVec 32 := Scalar.addi c0_i32_216 v243
  v244.toNat
def k0_dev9 (d0 : Dev nD) : Nat :=
  let c0_i32_227 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v12 : BitVec 32 := Scalar.xori v2 c1_i32_8
  let c1_i32_226 : BitVec 32 := 1#32
  let v251 : BitVec 32 := Scalar.muli v12 c1_i32_226
  let v252 : BitVec 32 := Scalar.addi c0_i32_227 v251
  v252.toNat
def k0_off22 (d0 : Dev nD) : Fin 2 → Nat :=
  let c0_i32_20 : BitVec 32 := 0#32
  let c0_i32_21 : BitVec 32 := 0#32
  let v22 : BitVec 32 := Scalar.addi c0_i32_20 c0_i32_21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c320_i32_151 : BitVec 32 := 320#32
  let v167 : BitVec 32 := Scalar.muli v7 c320_i32_151
  let v168 : BitVec 32 := Scalar.addi v22 v167
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c160_i32_254 : BitVec 32 := 160#32
  let v269 : BitVec 32 := Scalar.muli v9 c160_i32_254
  let v270 : BitVec 32 := Scalar.addi v168 v269
  let c1_i32_255 : BitVec 32 := 1#32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let v271 : BitVec 32 := Scalar.subi c1_i32_255 v11
  let c80_i32 : BitVec 32 := 80#32
  let v272 : BitVec 32 := Scalar.muli v271 c80_i32
  let v274 : BitVec 32 := Scalar.addi v270 v272
  let v275 : Index := Scalar.indexCast v274
  let c0_257 : Index := 0#32
  ![v275.toNat, 0]
def k0_off23 (d0 : Dev nD) : Fin 2 → Nat :=
  let c320_i32_258 : BitVec 32 := 320#32
  let c1_i32_255 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let v271 : BitVec 32 := Scalar.subi c1_i32_255 v11
  let c80_i32 : BitVec 32 := 80#32
  let v272 : BitVec 32 := Scalar.muli v271 c80_i32
  let v278 : BitVec 32 := Scalar.addi c320_i32_258 v272
  let v279 : Index := Scalar.indexCast v278
  let c0_259 : Index := 0#32
  ![v279.toNat, 0]
def k0_off24 (d0 : Dev nD) : Fin 2 → Nat :=
  let c0_i32_20 : BitVec 32 := 0#32
  let c0_i32_21 : BitVec 32 := 0#32
  let v22 : BitVec 32 := Scalar.addi c0_i32_20 c0_i32_21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c320_i32_151 : BitVec 32 := 320#32
  let v167 : BitVec 32 := Scalar.muli v7 c320_i32_151
  let v168 : BitVec 32 := Scalar.addi v22 v167
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c160_i32_254 : BitVec 32 := 160#32
  let v269 : BitVec 32 := Scalar.muli v9 c160_i32_254
  let v270 : BitVec 32 := Scalar.addi v168 v269
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c80_i32_256 : BitVec 32 := 80#32
  let v273 : BitVec 32 := Scalar.muli v11 c80_i32_256
  let v287 : BitVec 32 := Scalar.addi v270 v273
  let v288 : Index := Scalar.indexCast v287
  let c0_261 : Index := 0#32
  ![v288.toNat, 0]
def k0_off25 (d0 : Dev nD) : Fin 2 → Nat :=
  let c320_i32_262 : BitVec 32 := 320#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c80_i32_256 : BitVec 32 := 80#32
  let v273 : BitVec 32 := Scalar.muli v11 c80_i32_256
  let v291 : BitVec 32 := Scalar.addi c320_i32_262 v273
  let v292 : Index := Scalar.indexCast v291
  let c0_263 : Index := 0#32
  ![v292.toNat, 0]
def k0_off26 (d0 : Dev nD) : Fin 2 → Nat :=
  let c640_i32 : BitVec 32 := 640#32
  let c0_i32_22 : BitVec 32 := 0#32
  let v23 : BitVec 32 := Scalar.addi c640_i32 c0_i32_22
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c320_i32_185 : BitVec 32 := 320#32
  let v206 : BitVec 32 := Scalar.muli v9 c320_i32_185
  let v207 : BitVec 32 := Scalar.addi v23 v206
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c160_i32_288 : BitVec 32 := 160#32
  let v308 : BitVec 32 := Scalar.muli v11 c160_i32_288
  let v309 : BitVec 32 := Scalar.addi v207 v308
  let c1_i32_289 : BitVec 32 := 1#32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v310 : BitVec 32 := Scalar.subi c1_i32_289 v7
  let c80_i32_290 : BitVec 32 := 80#32
  let v311 : BitVec 32 := Scalar.muli v310 c80_i32_290
  let v313 : BitVec 32 := Scalar.addi v309 v311
  let v314 : Index := Scalar.indexCast v313
  let c0_292 : Index := 0#32
  ![v314.toNat, 0]
def k0_off27 (d0 : Dev nD) : Fin 2 → Nat :=
  let c880_i32_293 : BitVec 32 := 880#32
  let c1_i32_289 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let v310 : BitVec 32 := Scalar.subi c1_i32_289 v7
  let c80_i32_290 : BitVec 32 := 80#32
  let v311 : BitVec 32 := Scalar.muli v310 c80_i32_290
  let v317 : BitVec 32 := Scalar.addi c880_i32_293 v311
  let v318 : Index := Scalar.indexCast v317
  let c0_294 : Index := 0#32
  ![v318.toNat, 0]
def k0_off28 (d0 : Dev nD) : Fin 2 → Nat :=
  let c640_i32 : BitVec 32 := 640#32
  let c0_i32_22 : BitVec 32 := 0#32
  let v23 : BitVec 32 := Scalar.addi c640_i32 c0_i32_22
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c320_i32_185 : BitVec 32 := 320#32
  let v206 : BitVec 32 := Scalar.muli v9 c320_i32_185
  let v207 : BitVec 32 := Scalar.addi v23 v206
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c160_i32_288 : BitVec 32 := 160#32
  let v308 : BitVec 32 := Scalar.muli v11 c160_i32_288
  let v309 : BitVec 32 := Scalar.addi v207 v308
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c80_i32_291 : BitVec 32 := 80#32
  let v312 : BitVec 32 := Scalar.muli v7 c80_i32_291
  let v326 : BitVec 32 := Scalar.addi v309 v312
  let v327 : Index := Scalar.indexCast v326
  let c0_296 : Index := 0#32
  ![v327.toNat, 0]
def k0_off29 (d0 : Dev nD) : Fin 2 → Nat :=
  let c880_i32_297 : BitVec 32 := 880#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c80_i32_291 : BitVec 32 := 80#32
  let v312 : BitVec 32 := Scalar.muli v7 c80_i32_291
  let v330 : BitVec 32 := Scalar.addi c880_i32_297 v312
  let v331 : Index := Scalar.indexCast v330
  let c0_298 : Index := 0#32
  ![v331.toNat, 0]
def k0_off30 (d0 : Dev nD) : Fin 2 → Nat :=
  let c1280_i32 : BitVec 32 := 1280#32
  let c0_i32_23 : BitVec 32 := 0#32
  let v24 : BitVec 32 := Scalar.addi c1280_i32 c0_i32_23
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c384_i32_117 : BitVec 32 := 384#32
  let v128 : BitVec 32 := Scalar.muli v11 c384_i32_117
  let v129 : BitVec 32 := Scalar.addi v24 v128
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c192_i32_323 : BitVec 32 := 192#32
  let v347 : BitVec 32 := Scalar.muli v7 c192_i32_323
  let v348 : BitVec 32 := Scalar.addi v129 v347
  let c1_i32_324 : BitVec 32 := 1#32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v349 : BitVec 32 := Scalar.subi c1_i32_324 v9
  let c96_i32 : BitVec 32 := 96#32
  let v350 : BitVec 32 := Scalar.muli v349 c96_i32
  let v352 : BitVec 32 := Scalar.addi v348 v350
  let v353 : Index := Scalar.indexCast v352
  let c0_326 : Index := 0#32
  ![v353.toNat, 0]
def k0_off31 (d0 : Dev nD) : Fin 2 → Nat :=
  let c1504_i32_327 : BitVec 32 := 1504#32
  let c1_i32_324 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let v349 : BitVec 32 := Scalar.subi c1_i32_324 v9
  let c96_i32 : BitVec 32 := 96#32
  let v350 : BitVec 32 := Scalar.muli v349 c96_i32
  let v356 : BitVec 32 := Scalar.addi c1504_i32_327 v350
  let v357 : Index := Scalar.indexCast v356
  let c0_328 : Index := 0#32
  ![v357.toNat, 0]
def k0_off32 (d0 : Dev nD) : Fin 2 → Nat :=
  let c1280_i32 : BitVec 32 := 1280#32
  let c0_i32_23 : BitVec 32 := 0#32
  let v24 : BitVec 32 := Scalar.addi c1280_i32 c0_i32_23
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c384_i32_117 : BitVec 32 := 384#32
  let v128 : BitVec 32 := Scalar.muli v11 c384_i32_117
  let v129 : BitVec 32 := Scalar.addi v24 v128
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c192_i32_323 : BitVec 32 := 192#32
  let v347 : BitVec 32 := Scalar.muli v7 c192_i32_323
  let v348 : BitVec 32 := Scalar.addi v129 v347
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c96_i32_325 : BitVec 32 := 96#32
  let v351 : BitVec 32 := Scalar.muli v9 c96_i32_325
  let v365 : BitVec 32 := Scalar.addi v348 v351
  let v366 : Index := Scalar.indexCast v365
  let c0_330 : Index := 0#32
  ![v366.toNat, 0]
def k0_off33 (d0 : Dev nD) : Fin 2 → Nat :=
  let c1504_i32_331 : BitVec 32 := 1504#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c96_i32_325 : BitVec 32 := 96#32
  let v351 : BitVec 32 := Scalar.muli v9 c96_i32_325
  let v369 : BitVec 32 := Scalar.addi c1504_i32_331 v351
  let v370 : Index := Scalar.indexCast v369
  let c0_332 : Index := 0#32
  ![v370.toNat, 0]
def k0_dev10 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v14 : BitVec 32 := Scalar.xori v2 c4_i32_9
  let c1_i32_340 : BitVec 32 := 1#32
  let v376 : BitVec 32 := Scalar.muli v14 c1_i32_340
  let v377 : BitVec 32 := Scalar.addi c0_i32_341 v376
  v377.toNat
def k0_dev11 (d0 : Dev nD) : Nat :=
  let c0_i32_352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v12 : BitVec 32 := Scalar.xori v2 c1_i32_8
  let c1_i32_351 : BitVec 32 := 1#32
  let v384 : BitVec 32 := Scalar.muli v12 c1_i32_351
  let v385 : BitVec 32 := Scalar.addi c0_i32_352 v384
  v385.toNat
def k0_dev12 (d0 : Dev nD) : Nat :=
  let c0_i32_363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_362 : BitVec 32 := 1#32
  let v392 : BitVec 32 := Scalar.muli v13 c1_i32_362
  let v393 : BitVec 32 := Scalar.addi c0_i32_363 v392
  v393.toNat
def k0_off34 (d0 : Dev nD) : Fin 2 → Nat :=
  let c0_i32_20 : BitVec 32 := 0#32
  let c0_i32_21 : BitVec 32 := 0#32
  let v22 : BitVec 32 := Scalar.addi c0_i32_20 c0_i32_21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c320_i32_151 : BitVec 32 := 320#32
  let v167 : BitVec 32 := Scalar.muli v7 c320_i32_151
  let v168 : BitVec 32 := Scalar.addi v22 v167
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c160_i32_254 : BitVec 32 := 160#32
  let v269 : BitVec 32 := Scalar.muli v9 c160_i32_254
  let v270 : BitVec 32 := Scalar.addi v168 v269
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c80_i32_390 : BitVec 32 := 80#32
  let v410 : BitVec 32 := Scalar.muli v11 c80_i32_390
  let v411 : BitVec 32 := Scalar.addi v270 v410
  let c0_i32_408 : BitVec 32 := 0#32
  ![v411.toNat, 0]
def k0_dev13 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v14 : BitVec 32 := Scalar.xori v2 c4_i32_9
  let c1_i32_406 : BitVec 32 := 1#32
  let v430 : BitVec 32 := Scalar.muli v14 c1_i32_406
  let v431 : BitVec 32 := Scalar.addi c0_i32_407 v430
  v431.toNat
def k0_off35 (d0 : Dev nD) : Fin 2 → Nat :=
  let c640_i32 : BitVec 32 := 640#32
  let c0_i32_22 : BitVec 32 := 0#32
  let v23 : BitVec 32 := Scalar.addi c640_i32 c0_i32_22
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c320_i32_185 : BitVec 32 := 320#32
  let v206 : BitVec 32 := Scalar.muli v9 c320_i32_185
  let v207 : BitVec 32 := Scalar.addi v23 v206
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c160_i32_288 : BitVec 32 := 160#32
  let v308 : BitVec 32 := Scalar.muli v11 c160_i32_288
  let v309 : BitVec 32 := Scalar.addi v207 v308
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c80_i32_433 : BitVec 32 := 80#32
  let v448 : BitVec 32 := Scalar.muli v7 c80_i32_433
  let v449 : BitVec 32 := Scalar.addi v309 v448
  let c0_i32_451 : BitVec 32 := 0#32
  ![v449.toNat, 0]
def k0_dev14 (d0 : Dev nD) : Nat :=
  let c0_i32_450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v12 : BitVec 32 := Scalar.xori v2 c1_i32_8
  let c1_i32_449 : BitVec 32 := 1#32
  let v468 : BitVec 32 := Scalar.muli v12 c1_i32_449
  let v469 : BitVec 32 := Scalar.addi c0_i32_450 v468
  v469.toNat
def k0_off36 (d0 : Dev nD) : Fin 2 → Nat :=
  let c1280_i32 : BitVec 32 := 1280#32
  let c0_i32_23 : BitVec 32 := 0#32
  let v24 : BitVec 32 := Scalar.addi c1280_i32 c0_i32_23
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c384_i32_117 : BitVec 32 := 384#32
  let v128 : BitVec 32 := Scalar.muli v11 c384_i32_117
  let v129 : BitVec 32 := Scalar.addi v24 v128
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c192_i32_323 : BitVec 32 := 192#32
  let v347 : BitVec 32 := Scalar.muli v7 c192_i32_323
  let v348 : BitVec 32 := Scalar.addi v129 v347
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c96_i32_476 : BitVec 32 := 96#32
  let v486 : BitVec 32 := Scalar.muli v9 c96_i32_476
  let v487 : BitVec 32 := Scalar.addi v348 v486
  let c0_i32_494 : BitVec 32 := 0#32
  ![v487.toNat, 0]
def k0_dev15 (d0 : Dev nD) : Nat :=
  let c0_i32_493 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_492 : BitVec 32 := 1#32
  let v506 : BitVec 32 := Scalar.muli v13 c1_i32_492
  let v507 : BitVec 32 := Scalar.addi c0_i32_493 v506
  v507.toNat
def k0_off37 (d0 : Dev nD) : Fin 2 → Nat :=
  let c0_i32_20 : BitVec 32 := 0#32
  let c0_i32_21 : BitVec 32 := 0#32
  let v22 : BitVec 32 := Scalar.addi c0_i32_20 c0_i32_21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c320_i32_151 : BitVec 32 := 320#32
  let v167 : BitVec 32 := Scalar.muli v7 c320_i32_151
  let v168 : BitVec 32 := Scalar.addi v22 v167
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c160_i32_254 : BitVec 32 := 160#32
  let v269 : BitVec 32 := Scalar.muli v9 c160_i32_254
  let v270 : BitVec 32 := Scalar.addi v168 v269
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c80_i32_390 : BitVec 32 := 80#32
  let v410 : BitVec 32 := Scalar.muli v11 c80_i32_390
  let v411 : BitVec 32 := Scalar.addi v270 v410
  let c80_i32_496 : BitVec 32 := 80#32
  let v514 : BitVec 32 := Scalar.muli v11 c80_i32_496
  let v515 : BitVec 32 := Scalar.subi v411 v514
  let c1_i32_497 : BitVec 32 := 1#32
  let v516 : BitVec 32 := Scalar.subi c1_i32_497 v11
  let c80_i32_498 : BitVec 32 := 80#32
  let v517 : BitVec 32 := Scalar.muli v516 c80_i32_498
  let v518 : BitVec 32 := Scalar.addi v515 v517
  let c0_i32_522 : BitVec 32 := 0#32
  let v529 : BitVec 32 := Scalar.addi v518 c0_i32_522
  let v530 : Index := Scalar.indexCast v529
  let c0_523 : Index := 0#32
  ![v530.toNat, 0]
def k0_off38 (d0 : Dev nD) : Fin 2 → Nat :=
  let c640_i32 : BitVec 32 := 640#32
  let c0_i32_22 : BitVec 32 := 0#32
  let v23 : BitVec 32 := Scalar.addi c640_i32 c0_i32_22
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c320_i32_185 : BitVec 32 := 320#32
  let v206 : BitVec 32 := Scalar.muli v9 c320_i32_185
  let v207 : BitVec 32 := Scalar.addi v23 v206
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c160_i32_288 : BitVec 32 := 160#32
  let v308 : BitVec 32 := Scalar.muli v11 c160_i32_288
  let v309 : BitVec 32 := Scalar.addi v207 v308
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c80_i32_433 : BitVec 32 := 80#32
  let v448 : BitVec 32 := Scalar.muli v7 c80_i32_433
  let v449 : BitVec 32 := Scalar.addi v309 v448
  let c80_i32_526 : BitVec 32 := 80#32
  let v536 : BitVec 32 := Scalar.muli v7 c80_i32_526
  let v537 : BitVec 32 := Scalar.subi v449 v536
  let c1_i32_527 : BitVec 32 := 1#32
  let v538 : BitVec 32 := Scalar.subi c1_i32_527 v7
  let c80_i32_528 : BitVec 32 := 80#32
  let v539 : BitVec 32 := Scalar.muli v538 c80_i32_528
  let v540 : BitVec 32 := Scalar.addi v537 v539
  let c0_i32_552 : BitVec 32 := 0#32
  let v551 : BitVec 32 := Scalar.addi v540 c0_i32_552
  let v552 : Index := Scalar.indexCast v551
  let c0_553 : Index := 0#32
  ![v552.toNat, 0]
def k0_off39 (d0 : Dev nD) : Fin 2 → Nat :=
  let c1280_i32 : BitVec 32 := 1280#32
  let c0_i32_23 : BitVec 32 := 0#32
  let v24 : BitVec 32 := Scalar.addi c1280_i32 c0_i32_23
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c384_i32_117 : BitVec 32 := 384#32
  let v128 : BitVec 32 := Scalar.muli v11 c384_i32_117
  let v129 : BitVec 32 := Scalar.addi v24 v128
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c192_i32_323 : BitVec 32 := 192#32
  let v347 : BitVec 32 := Scalar.muli v7 c192_i32_323
  let v348 : BitVec 32 := Scalar.addi v129 v347
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c96_i32_476 : BitVec 32 := 96#32
  let v486 : BitVec 32 := Scalar.muli v9 c96_i32_476
  let v487 : BitVec 32 := Scalar.addi v348 v486
  let c96_i32_556 : BitVec 32 := 96#32
  let v558 : BitVec 32 := Scalar.muli v9 c96_i32_556
  let v559 : BitVec 32 := Scalar.subi v487 v558
  let c1_i32_557 : BitVec 32 := 1#32
  let v560 : BitVec 32 := Scalar.subi c1_i32_557 v9
  let c96_i32_558 : BitVec 32 := 96#32
  let v561 : BitVec 32 := Scalar.muli v560 c96_i32_558
  let v562 : BitVec 32 := Scalar.addi v559 v561
  let c0_i32_582 : BitVec 32 := 0#32
  let v573 : BitVec 32 := Scalar.addi v562 c0_i32_582
  let v574 : Index := Scalar.indexCast v573
  let c0_583 : Index := 0#32
  ![v574.toNat, 0]
def k0_off40 (d0 : Dev nD) : Fin 2 → Nat :=
  let c0_i32_20 : BitVec 32 := 0#32
  let c0_i32_21 : BitVec 32 := 0#32
  let v22 : BitVec 32 := Scalar.addi c0_i32_20 c0_i32_21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c320_i32_151 : BitVec 32 := 320#32
  let v167 : BitVec 32 := Scalar.muli v7 c320_i32_151
  let v168 : BitVec 32 := Scalar.addi v22 v167
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c160_i32_254 : BitVec 32 := 160#32
  let v269 : BitVec 32 := Scalar.muli v9 c160_i32_254
  let v270 : BitVec 32 := Scalar.addi v168 v269
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c80_i32_390 : BitVec 32 := 80#32
  let v410 : BitVec 32 := Scalar.muli v11 c80_i32_390
  let v411 : BitVec 32 := Scalar.addi v270 v410
  let c80_i32_496 : BitVec 32 := 80#32
  let v514 : BitVec 32 := Scalar.muli v11 c80_i32_496
  let v515 : BitVec 32 := Scalar.subi v411 v514
  let c0_i32_587 : BitVec 32 := 0#32
  let v581 : BitVec 32 := Scalar.addi v515 c0_i32_587
  let c0_i32_598 : BitVec 32 := 0#32
  ![v581.toNat, 0]
def k0_dev16 (d0 : Dev nD) : Nat :=
  let c0_i32_597 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_596 : BitVec 32 := 1#32
  let v582 : BitVec 32 := Scalar.muli v13 c1_i32_596
  let v583 : BitVec 32 := Scalar.addi c0_i32_597 v582
  v583.toNat
def k0_off41 (d0 : Dev nD) : Fin 2 → Nat :=
  let c640_i32 : BitVec 32 := 640#32
  let c0_i32_22 : BitVec 32 := 0#32
  let v23 : BitVec 32 := Scalar.addi c640_i32 c0_i32_22
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c320_i32_185 : BitVec 32 := 320#32
  let v206 : BitVec 32 := Scalar.muli v9 c320_i32_185
  let v207 : BitVec 32 := Scalar.addi v23 v206
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c160_i32_288 : BitVec 32 := 160#32
  let v308 : BitVec 32 := Scalar.muli v11 c160_i32_288
  let v309 : BitVec 32 := Scalar.addi v207 v308
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c80_i32_433 : BitVec 32 := 80#32
  let v448 : BitVec 32 := Scalar.muli v7 c80_i32_433
  let v449 : BitVec 32 := Scalar.addi v309 v448
  let c80_i32_526 : BitVec 32 := 80#32
  let v536 : BitVec 32 := Scalar.muli v7 c80_i32_526
  let v537 : BitVec 32 := Scalar.subi v449 v536
  let c0_i32_601 : BitVec 32 := 0#32
  let v591 : BitVec 32 := Scalar.addi v537 c0_i32_601
  let c0_i32_612 : BitVec 32 := 0#32
  ![v591.toNat, 0]
def k0_dev17 (d0 : Dev nD) : Nat :=
  let c0_i32_611 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v14 : BitVec 32 := Scalar.xori v2 c4_i32_9
  let c1_i32_610 : BitVec 32 := 1#32
  let v592 : BitVec 32 := Scalar.muli v14 c1_i32_610
  let v593 : BitVec 32 := Scalar.addi c0_i32_611 v592
  v593.toNat
def k0_off42 (d0 : Dev nD) : Fin 2 → Nat :=
  let c1280_i32 : BitVec 32 := 1280#32
  let c0_i32_23 : BitVec 32 := 0#32
  let v24 : BitVec 32 := Scalar.addi c1280_i32 c0_i32_23
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c384_i32_117 : BitVec 32 := 384#32
  let v128 : BitVec 32 := Scalar.muli v11 c384_i32_117
  let v129 : BitVec 32 := Scalar.addi v24 v128
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c192_i32_323 : BitVec 32 := 192#32
  let v347 : BitVec 32 := Scalar.muli v7 c192_i32_323
  let v348 : BitVec 32 := Scalar.addi v129 v347
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c96_i32_476 : BitVec 32 := 96#32
  let v486 : BitVec 32 := Scalar.muli v9 c96_i32_476
  let v487 : BitVec 32 := Scalar.addi v348 v486
  let c96_i32_556 : BitVec 32 := 96#32
  let v558 : BitVec 32 := Scalar.muli v9 c96_i32_556
  let v559 : BitVec 32 := Scalar.subi v487 v558
  let c0_i32_615 : BitVec 32 := 0#32
  let v601 : BitVec 32 := Scalar.addi v559 c0_i32_615
  let c0_i32_626 : BitVec 32 := 0#32
  ![v601.toNat, 0]
def k0_dev18 (d0 : Dev nD) : Nat :=
  let c0_i32_625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v12 : BitVec 32 := Scalar.xori v2 c1_i32_8
  let c1_i32_624 : BitVec 32 := 1#32
  let v602 : BitVec 32 := Scalar.muli v12 c1_i32_624
  let v603 : BitVec 32 := Scalar.addi c0_i32_625 v602
  v603.toNat
def k0_off43 (d0 : Dev nD) : Fin 2 → Nat :=
  let c0_i32_20 : BitVec 32 := 0#32
  let c0_i32_21 : BitVec 32 := 0#32
  let v22 : BitVec 32 := Scalar.addi c0_i32_20 c0_i32_21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c320_i32_151 : BitVec 32 := 320#32
  let v167 : BitVec 32 := Scalar.muli v7 c320_i32_151
  let v168 : BitVec 32 := Scalar.addi v22 v167
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c160_i32_254 : BitVec 32 := 160#32
  let v269 : BitVec 32 := Scalar.muli v9 c160_i32_254
  let v270 : BitVec 32 := Scalar.addi v168 v269
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c80_i32_390 : BitVec 32 := 80#32
  let v410 : BitVec 32 := Scalar.muli v11 c80_i32_390
  let v411 : BitVec 32 := Scalar.addi v270 v410
  let c80_i32_496 : BitVec 32 := 80#32
  let v514 : BitVec 32 := Scalar.muli v11 c80_i32_496
  let v515 : BitVec 32 := Scalar.subi v411 v514
  let c160_i32_628 : BitVec 32 := 160#32
  let v610 : BitVec 32 := Scalar.muli v9 c160_i32_628
  let v611 : BitVec 32 := Scalar.subi v515 v610
  let c1_i32_629 : BitVec 32 := 1#32
  let v612 : BitVec 32 := Scalar.subi c1_i32_629 v9
  let c160_i32_630 : BitVec 32 := 160#32
  let v613 : BitVec 32 := Scalar.muli v612 c160_i32_630
  let v614 : BitVec 32 := Scalar.addi v611 v613
  let c0_i32_654 : BitVec 32 := 0#32
  let v625 : BitVec 32 := Scalar.addi v614 c0_i32_654
  let v626 : Index := Scalar.indexCast v625
  let c0_655 : Index := 0#32
  ![v626.toNat, 0]
def k0_off44 (d0 : Dev nD) : Fin 2 → Nat :=
  let c640_i32 : BitVec 32 := 640#32
  let c0_i32_22 : BitVec 32 := 0#32
  let v23 : BitVec 32 := Scalar.addi c640_i32 c0_i32_22
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c320_i32_185 : BitVec 32 := 320#32
  let v206 : BitVec 32 := Scalar.muli v9 c320_i32_185
  let v207 : BitVec 32 := Scalar.addi v23 v206
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c160_i32_288 : BitVec 32 := 160#32
  let v308 : BitVec 32 := Scalar.muli v11 c160_i32_288
  let v309 : BitVec 32 := Scalar.addi v207 v308
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c80_i32_433 : BitVec 32 := 80#32
  let v448 : BitVec 32 := Scalar.muli v7 c80_i32_433
  let v449 : BitVec 32 := Scalar.addi v309 v448
  let c80_i32_526 : BitVec 32 := 80#32
  let v536 : BitVec 32 := Scalar.muli v7 c80_i32_526
  let v537 : BitVec 32 := Scalar.subi v449 v536
  let c160_i32_658 : BitVec 32 := 160#32
  let v632 : BitVec 32 := Scalar.muli v11 c160_i32_658
  let v633 : BitVec 32 := Scalar.subi v537 v632
  let c1_i32_659 : BitVec 32 := 1#32
  let v634 : BitVec 32 := Scalar.subi c1_i32_659 v11
  let c160_i32_660 : BitVec 32 := 160#32
  let v635 : BitVec 32 := Scalar.muli v634 c160_i32_660
  let v636 : BitVec 32 := Scalar.addi v633 v635
  let c0_i32_684 : BitVec 32 := 0#32
  let v647 : BitVec 32 := Scalar.addi v636 c0_i32_684
  let v648 : Index := Scalar.indexCast v647
  let c0_685 : Index := 0#32
  ![v648.toNat, 0]
def k0_off45 (d0 : Dev nD) : Fin 2 → Nat :=
  let c1280_i32 : BitVec 32 := 1280#32
  let c0_i32_23 : BitVec 32 := 0#32
  let v24 : BitVec 32 := Scalar.addi c1280_i32 c0_i32_23
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c384_i32_117 : BitVec 32 := 384#32
  let v128 : BitVec 32 := Scalar.muli v11 c384_i32_117
  let v129 : BitVec 32 := Scalar.addi v24 v128
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c192_i32_323 : BitVec 32 := 192#32
  let v347 : BitVec 32 := Scalar.muli v7 c192_i32_323
  let v348 : BitVec 32 := Scalar.addi v129 v347
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c96_i32_476 : BitVec 32 := 96#32
  let v486 : BitVec 32 := Scalar.muli v9 c96_i32_476
  let v487 : BitVec 32 := Scalar.addi v348 v486
  let c96_i32_556 : BitVec 32 := 96#32
  let v558 : BitVec 32 := Scalar.muli v9 c96_i32_556
  let v559 : BitVec 32 := Scalar.subi v487 v558
  let c192_i32_688 : BitVec 32 := 192#32
  let v654 : BitVec 32 := Scalar.muli v7 c192_i32_688
  let v655 : BitVec 32 := Scalar.subi v559 v654
  let c1_i32_689 : BitVec 32 := 1#32
  let v656 : BitVec 32 := Scalar.subi c1_i32_689 v7
  let c192_i32_690 : BitVec 32 := 192#32
  let v657 : BitVec 32 := Scalar.muli v656 c192_i32_690
  let v658 : BitVec 32 := Scalar.addi v655 v657
  let c0_i32_714 : BitVec 32 := 0#32
  let v669 : BitVec 32 := Scalar.addi v658 c0_i32_714
  let v670 : Index := Scalar.indexCast v669
  let c0_715 : Index := 0#32
  ![v670.toNat, 0]
def k0_off46 (d0 : Dev nD) (c0_i32_719 : BitVec 32) : Fin 2 → Nat :=
  let c0_i32_20 : BitVec 32 := 0#32
  let c0_i32_21 : BitVec 32 := 0#32
  let v22 : BitVec 32 := Scalar.addi c0_i32_20 c0_i32_21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c320_i32_151 : BitVec 32 := 320#32
  let v167 : BitVec 32 := Scalar.muli v7 c320_i32_151
  let v168 : BitVec 32 := Scalar.addi v22 v167
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c160_i32_254 : BitVec 32 := 160#32
  let v269 : BitVec 32 := Scalar.muli v9 c160_i32_254
  let v270 : BitVec 32 := Scalar.addi v168 v269
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c80_i32_390 : BitVec 32 := 80#32
  let v410 : BitVec 32 := Scalar.muli v11 c80_i32_390
  let v411 : BitVec 32 := Scalar.addi v270 v410
  let c80_i32_496 : BitVec 32 := 80#32
  let v514 : BitVec 32 := Scalar.muli v11 c80_i32_496
  let v515 : BitVec 32 := Scalar.subi v411 v514
  let c160_i32_628 : BitVec 32 := 160#32
  let v610 : BitVec 32 := Scalar.muli v9 c160_i32_628
  let v611 : BitVec 32 := Scalar.subi v515 v610
  let v677 : BitVec 32 := Scalar.addi v611 c0_i32_719
  let c0_i32_730 : BitVec 32 := 0#32
  ![v677.toNat, 0]
def k0_dev19 (d0 : Dev nD) : Nat :=
  let c0_i32_729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v12 : BitVec 32 := Scalar.xori v2 c1_i32_8
  let c1_i32_728 : BitVec 32 := 1#32
  let v678 : BitVec 32 := Scalar.muli v12 c1_i32_728
  let v679 : BitVec 32 := Scalar.addi c0_i32_729 v678
  v679.toNat
def k0_dev20 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v12 : BitVec 32 := Scalar.xori v2 c1_i32_8
  let c1_i32_742 : BitVec 32 := 1#32
  let v688 : BitVec 32 := Scalar.muli v12 c1_i32_742
  let v689 : BitVec 32 := Scalar.addi c0_i32_743 v688
  v689.toNat
def k0_off47 (d0 : Dev nD) (c0_i32_747 : BitVec 32) : Fin 2 → Nat :=
  let c640_i32 : BitVec 32 := 640#32
  let c0_i32_22 : BitVec 32 := 0#32
  let v23 : BitVec 32 := Scalar.addi c640_i32 c0_i32_22
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c320_i32_185 : BitVec 32 := 320#32
  let v206 : BitVec 32 := Scalar.muli v9 c320_i32_185
  let v207 : BitVec 32 := Scalar.addi v23 v206
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c160_i32_288 : BitVec 32 := 160#32
  let v308 : BitVec 32 := Scalar.muli v11 c160_i32_288
  let v309 : BitVec 32 := Scalar.addi v207 v308
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c80_i32_433 : BitVec 32 := 80#32
  let v448 : BitVec 32 := Scalar.muli v7 c80_i32_433
  let v449 : BitVec 32 := Scalar.addi v309 v448
  let c80_i32_526 : BitVec 32 := 80#32
  let v536 : BitVec 32 := Scalar.muli v7 c80_i32_526
  let v537 : BitVec 32 := Scalar.subi v449 v536
  let c160_i32_658 : BitVec 32 := 160#32
  let v632 : BitVec 32 := Scalar.muli v11 c160_i32_658
  let v633 : BitVec 32 := Scalar.subi v537 v632
  let v697 : BitVec 32 := Scalar.addi v633 c0_i32_747
  let c0_i32_758 : BitVec 32 := 0#32
  ![v697.toNat, 0]
def k0_dev21 (d0 : Dev nD) : Nat :=
  let c0_i32_757 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_756 : BitVec 32 := 1#32
  let v698 : BitVec 32 := Scalar.muli v13 c1_i32_756
  let v699 : BitVec 32 := Scalar.addi c0_i32_757 v698
  v699.toNat
def k0_dev22 (d0 : Dev nD) : Nat :=
  let c0_i32_771 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 32 := Scalar.xori v2 c3_i32
  let c1_i32_770 : BitVec 32 := 1#32
  let v708 : BitVec 32 := Scalar.muli v13 c1_i32_770
  let v709 : BitVec 32 := Scalar.addi c0_i32_771 v708
  v709.toNat
def k0_off48 (d0 : Dev nD) (c0_i32_775 : BitVec 32) : Fin 2 → Nat :=
  let c1280_i32 : BitVec 32 := 1280#32
  let c0_i32_23 : BitVec 32 := 0#32
  let v24 : BitVec 32 := Scalar.addi c1280_i32 c0_i32_23
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c384_i32_117 : BitVec 32 := 384#32
  let v128 : BitVec 32 := Scalar.muli v11 c384_i32_117
  let v129 : BitVec 32 := Scalar.addi v24 v128
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c192_i32_323 : BitVec 32 := 192#32
  let v347 : BitVec 32 := Scalar.muli v7 c192_i32_323
  let v348 : BitVec 32 := Scalar.addi v129 v347
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c96_i32_476 : BitVec 32 := 96#32
  let v486 : BitVec 32 := Scalar.muli v9 c96_i32_476
  let v487 : BitVec 32 := Scalar.addi v348 v486
  let c96_i32_556 : BitVec 32 := 96#32
  let v558 : BitVec 32 := Scalar.muli v9 c96_i32_556
  let v559 : BitVec 32 := Scalar.subi v487 v558
  let c192_i32_688 : BitVec 32 := 192#32
  let v654 : BitVec 32 := Scalar.muli v7 c192_i32_688
  let v655 : BitVec 32 := Scalar.subi v559 v654
  let v717 : BitVec 32 := Scalar.addi v655 c0_i32_775
  let c0_i32_786 : BitVec 32 := 0#32
  ![v717.toNat, 0]
def k0_dev23 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v14 : BitVec 32 := Scalar.xori v2 c4_i32_9
  let c1_i32_784 : BitVec 32 := 1#32
  let v718 : BitVec 32 := Scalar.muli v14 c1_i32_784
  let v719 : BitVec 32 := Scalar.addi c0_i32_785 v718
  v719.toNat
def k0_dev24 (d0 : Dev nD) : Nat :=
  let c0_i32_799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_9 : BitVec 32 := 4#32
  let v14 : BitVec 32 := Scalar.xori v2 c4_i32_9
  let c1_i32_798 : BitVec 32 := 1#32
  let v728 : BitVec 32 := Scalar.muli v14 c1_i32_798
  let v729 : BitVec 32 := Scalar.addi c0_i32_799 v728
  v729.toNat
def k0_off49 (d0 : Dev nD) (c0_i32_828 : BitVec 32) : Fin 2 → Nat :=
  let c0_i32_20 : BitVec 32 := 0#32
  let c0_i32_21 : BitVec 32 := 0#32
  let v22 : BitVec 32 := Scalar.addi c0_i32_20 c0_i32_21
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c320_i32_151 : BitVec 32 := 320#32
  let v167 : BitVec 32 := Scalar.muli v7 c320_i32_151
  let v168 : BitVec 32 := Scalar.addi v22 v167
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c160_i32_254 : BitVec 32 := 160#32
  let v269 : BitVec 32 := Scalar.muli v9 c160_i32_254
  let v270 : BitVec 32 := Scalar.addi v168 v269
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c80_i32_390 : BitVec 32 := 80#32
  let v410 : BitVec 32 := Scalar.muli v11 c80_i32_390
  let v411 : BitVec 32 := Scalar.addi v270 v410
  let c80_i32_496 : BitVec 32 := 80#32
  let v514 : BitVec 32 := Scalar.muli v11 c80_i32_496
  let v515 : BitVec 32 := Scalar.subi v411 v514
  let c160_i32_628 : BitVec 32 := 160#32
  let v610 : BitVec 32 := Scalar.muli v9 c160_i32_628
  let v611 : BitVec 32 := Scalar.subi v515 v610
  let c320_i32_802 : BitVec 32 := 320#32
  let v736 : BitVec 32 := Scalar.muli v7 c320_i32_802
  let v737 : BitVec 32 := Scalar.subi v611 v736
  let c1_i32_803 : BitVec 32 := 1#32
  let v738 : BitVec 32 := Scalar.subi c1_i32_803 v7
  let c320_i32_804 : BitVec 32 := 320#32
  let v739 : BitVec 32 := Scalar.muli v738 c320_i32_804
  let v740 : BitVec 32 := Scalar.addi v737 v739
  let v751 : BitVec 32 := Scalar.addi v740 c0_i32_828
  let v752 : Index := Scalar.indexCast v751
  let c0_829 : Index := 0#32
  ![v752.toNat, 0]
def k0_off50 (d0 : Dev nD) (c0_i32_885 : BitVec 32) : Fin 2 → Nat :=
  let c640_i32 : BitVec 32 := 640#32
  let c0_i32_22 : BitVec 32 := 0#32
  let v23 : BitVec 32 := Scalar.addi c640_i32 c0_i32_22
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c320_i32_185 : BitVec 32 := 320#32
  let v206 : BitVec 32 := Scalar.muli v9 c320_i32_185
  let v207 : BitVec 32 := Scalar.addi v23 v206
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c160_i32_288 : BitVec 32 := 160#32
  let v308 : BitVec 32 := Scalar.muli v11 c160_i32_288
  let v309 : BitVec 32 := Scalar.addi v207 v308
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c80_i32_433 : BitVec 32 := 80#32
  let v448 : BitVec 32 := Scalar.muli v7 c80_i32_433
  let v449 : BitVec 32 := Scalar.addi v309 v448
  let c80_i32_526 : BitVec 32 := 80#32
  let v536 : BitVec 32 := Scalar.muli v7 c80_i32_526
  let v537 : BitVec 32 := Scalar.subi v449 v536
  let c160_i32_658 : BitVec 32 := 160#32
  let v632 : BitVec 32 := Scalar.muli v11 c160_i32_658
  let v633 : BitVec 32 := Scalar.subi v537 v632
  let c320_i32_859 : BitVec 32 := 320#32
  let v775 : BitVec 32 := Scalar.muli v9 c320_i32_859
  let v776 : BitVec 32 := Scalar.subi v633 v775
  let c1_i32_860 : BitVec 32 := 1#32
  let v777 : BitVec 32 := Scalar.subi c1_i32_860 v9
  let c320_i32_861 : BitVec 32 := 320#32
  let v778 : BitVec 32 := Scalar.muli v777 c320_i32_861
  let v779 : BitVec 32 := Scalar.addi v776 v778
  let v790 : BitVec 32 := Scalar.addi v779 c0_i32_885
  let v791 : Index := Scalar.indexCast v790
  let c0_886 : Index := 0#32
  ![v791.toNat, 0]
def k0_off51 (d0 : Dev nD) (c0_i32_942 : BitVec 32) : Fin 2 → Nat :=
  let c1280_i32 : BitVec 32 := 1280#32
  let c0_i32_23 : BitVec 32 := 0#32
  let v24 : BitVec 32 := Scalar.addi c1280_i32 c0_i32_23
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v10 : BitVec 1 := Scalar.cmpi .sge v2 c4_i32_5
  let c1_i32_6 : BitVec 32 := 1#32
  let c0_i32_7 : BitVec 32 := 0#32
  let v11 : BitVec 32 := Scalar.select v10 c1_i32_6 c0_i32_7
  let c384_i32_117 : BitVec 32 := 384#32
  let v128 : BitVec 32 := Scalar.muli v11 c384_i32_117
  let v129 : BitVec 32 := Scalar.addi v24 v128
  let c4_i32 : BitVec 32 := 4#32
  let v3 : BitVec 32 := Scalar.remsi v2 c4_i32
  let c1_i32_0 : BitVec 32 := 1#32
  let v4 : BitVec 1 := Scalar.cmpi .eq v3 c1_i32_0
  let c2_i32 : BitVec 32 := 2#32
  let v5 : BitVec 1 := Scalar.cmpi .eq v3 c2_i32
  let v6 : BitVec 1 := Scalar.ori v4 v5
  let c1_i32_1 : BitVec 32 := 1#32
  let c0_i32 : BitVec 32 := 0#32
  let v7 : BitVec 32 := Scalar.select v6 c1_i32_1 c0_i32
  let c192_i32_323 : BitVec 32 := 192#32
  let v347 : BitVec 32 := Scalar.muli v7 c192_i32_323
  let v348 : BitVec 32 := Scalar.addi v129 v347
  let c2_i32_2 : BitVec 32 := 2#32
  let v8 : BitVec 1 := Scalar.cmpi .sge v3 c2_i32_2
  let c1_i32_3 : BitVec 32 := 1#32
  let c0_i32_4 : BitVec 32 := 0#32
  let v9 : BitVec 32 := Scalar.select v8 c1_i32_3 c0_i32_4
  let c96_i32_476 : BitVec 32 := 96#32
  let v486 : BitVec 32 := Scalar.muli v9 c96_i32_476
  let v487 : BitVec 32 := Scalar.addi v348 v486
  let c96_i32_556 : BitVec 32 := 96#32
  let v558 : BitVec 32 := Scalar.muli v9 c96_i32_556
  let v559 : BitVec 32 := Scalar.subi v487 v558
  let c192_i32_688 : BitVec 32 := 192#32
  let v654 : BitVec 32 := Scalar.muli v7 c192_i32_688
  let v655 : BitVec 32 := Scalar.subi v559 v654
  let c384_i32_916 : BitVec 32 := 384#32
  let v814 : BitVec 32 := Scalar.muli v11 c384_i32_916
  let v815 : BitVec 32 := Scalar.subi v655 v814
  let c1_i32_917 : BitVec 32 := 1#32
  let v816 : BitVec 32 := Scalar.subi c1_i32_917 v11
  let c384_i32_918 : BitVec 32 := 384#32
  let v817 : BitVec 32 := Scalar.muli v816 c384_i32_918
  let v818 : BitVec 32 := Scalar.addi v815 v817
  let v829 : BitVec 32 := Scalar.addi v818 c0_i32_942
  let v830 : Index := Scalar.indexCast v829
  let c0_943 : Index := 0#32
  ![v830.toNat, 0]
abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Geom.lean ====
/-
# The butterfly's geometry and the contents of its blocks

Eight devices, told apart by three bits (`bit`); `partner d c` is the device that differs from `c` in bit `d`
alone. The 2048 rows of the result are cut into three parts (`st`, 640, 640 and 768 rows). Part `p` is reduced in three
stages, stage `k` along dimension `dm p k`: at each stage a device keeps one half of the rows it still holds (`ks`, the
start of what it keeps) and sends the other half (`ss`) to its partner. Afterwards the reduced rows travel back along the
same dimensions in reverse.

The file also names the contents: `acc t c p r j` is what device `c` holds at row `r`, column `j` of part `p` after `t`
stages, `snd t` what it sends at stage `t`, `fin` its reduced row, `gat` the gathered row and `outv` the result.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueIdxCore
public import Idealize.ShloMosaic.Lib.Tactic

@[expose] public section

noncomputable section

namespace Cert.Fly

open Cert.KernelIdeal Cert.KernelIdeal.Gen
open Idealize.ShloMosaic Idealize.ShloMosaic.TcCoe
open Idealize.ShloMosaic.ValueIdx (ix2 eq_ix2)

/-! ## Devices -/

/-- Bit `d` of device `c`: its coordinate along dimension `d` of the 2×2×2 mesh. -/
def bit (d : Fin 3) (c : Dev nD) : ℕ := match d with
  | 0 => if c.val % 4 = 1 ∨ c.val % 4 = 2 then 1 else 0
  | 1 => if c.val % 4 ≥ 2 then 1 else 0
  | 2 => if c.val ≥ 4 then 1 else 0

set_option backward.proofsInPublic true in
/-- The device across dimension `d`. -/
def partner (d : Fin 3) (c : Dev nD) : Dev nD := match d with
  | 0 => ⟨(c.val ^^^ 1) % 8, Nat.mod_lt _ (by decide)⟩
  | 1 => ⟨(c.val ^^^ 3) % 8, Nat.mod_lt _ (by decide)⟩
  | 2 => ⟨(c.val ^^^ 4) % 8, Nat.mod_lt _ (by decide)⟩

/-- A partner's partner is the device itself. -/
theorem partner_partner (d : Fin 3) (c : Dev nD) : partner d (partner d c) = c := by revert d c; decide
/-- No device is its own partner. -/
theorem partner_ne (d : Fin 3) (c : Dev nD) : partner d c ≠ c := by revert d c; decide

/-- The partner map of one dimension, as a permutation of the devices. -/
def swap (d : Fin 3) : Dev nD ≃ Dev nD := ⟨partner d, partner d, partner_partner d, partner_partner d⟩

/-! ## Rows -/

set_option backward.proofsInPublic true in
/-- The dimension of part `p`'s stage `k`. -/
def dm (p : Fin 3) (k : ℕ) : Fin 3 := ⟨(p.val + k) % 3, Nat.mod_lt _ (by decide)⟩
/-- The first row of part `p`. -/
def st (p : Fin 3) : ℕ := 640 * p.val
/-- Half the number of rows of part `p`. -/
def half (p : Fin 3) : ℕ := if p.val = 2 then 384 else 320
/-- The rows a device of part `p` sends, and keeps, at stage `k`. -/
def sz (p : Fin 3) (k : ℕ) : ℕ := half p / 2 ^ k
/-- The first row device `c` keeps at stage `k` of part `p`. -/
def ks (c : Dev nD) (p : Fin 3) : ℕ → ℕ
  | 0 => st p + bit (dm p 0) c * sz p 0
  | k + 1 => ks c p k + bit (dm p (k + 1)) c * sz p (k + 1)
/-- The first row device `c` sends at stage `k` of part `p`. -/
def ss (c : Dev nD) (p : Fin 3) : ℕ → ℕ
  | 0 => st p + (1 - bit (dm p 0) c) * sz p 0
  | k + 1 => ks c p k + (1 - bit (dm p (k + 1)) c) * sz p (k + 1)
/-- The first row of part `p`'s stage-`k` slot in the send and receive buffers. -/
def sb (p : Fin 3) (k : ℕ) : ℕ := 560 * p.val + (if k = 0 then 0 else if k = 1 then half p else half p + half p / 2)

/-- What a device sends, its partner keeps. -/
theorem ks_partner (c : Dev nD) (p : Fin 3) (k : Fin 3) : ks (partner (dm p k) c) p k = ss c p k := by revert c p k; decide
/-- What a device keeps, its partner sends. -/
theorem ss_partner (c : Dev nD) (p : Fin 3) (k : Fin 3) : ss (partner (dm p k) c) p k = ks c p k := by revert c p k; decide

/-- The rows a device holds at the end of part `p`'s reduction. -/
def InLeaf (c : Dev nD) (p : Fin 3) (r : ℕ) : Prop := ks c p 2 ≤ r ∧ r < ks c p 2 + sz p 2

/-- The rows that two devices, or two parts, end with do not overlap. -/
theorem leaf_apart (c c' : Dev nD) (p p' : Fin 3) (h : ¬(c = c' ∧ p = p')) :
    ks c p 2 + sz p 2 ≤ ks c' p' 2 ∨ ks c' p' 2 + sz p' 2 ≤ ks c p 2 := by revert c c' p p'; decide +kernel

/-- A row ends on one device only, in one part. -/
theorem leaf_unique {c c' : Dev nD} {p p' : Fin 3} {r : ℕ} (h : InLeaf c p r) (h' : InLeaf c' p' r) : c = c' ∧ p = p' := by
  by_contra hn
  rcases leaf_apart c c' p p' hn with h1 | h1 <;> unfold InLeaf at h h' <;> omega

open Classical in
/-- The device and the part that hold row `r` at the end of the reduction. -/
def owner (r : ℕ) : Dev nD × Fin 3 := if h : ∃ cp : Dev nD × Fin 3, InLeaf cp.1 cp.2 r then h.choose else (0, 0)

/-- The owner of a row is the device and the part whose rows it is among. -/
theorem owner_eq {c : Dev nD} {p : Fin 3} {r : ℕ} (h : InLeaf c p r) : owner r = (c, p) := by
  have hex : ∃ cp : Dev nD × Fin 3, InLeaf cp.1 cp.2 r := ⟨(c, p), h⟩
  unfold owner; rw [dif_pos hex]
  have := leaf_unique hex.choose_spec h
  exact Prod.ext this.1 this.2

/-! ## Contents -/

variable {F : FTy → Type} [FloatOps F]

set_option backward.proofsInPublic true in
/-- The value of an `n`-row block at row `r`, counted from the block's first row. -/
def at2 {α : Type} {n : ℕ} (hn : 0 < n) (v : (⟨2, ![n, 2048]⟩ : Shape).Idx → α) (r : ℕ) (j : Fin 2048) : α :=
  v (ix2 ⟨r % n, Nat.mod_lt _ hn⟩ j)

/-- `at2` reads a block at its own indices. -/
theorem at2_of {α : Type} {n : ℕ} (hn : 0 < n) (v : (⟨2, ![n, 2048]⟩ : Shape).Idx → α) (i : (⟨2, ![n, 2048]⟩ : Shape).Idx) (a : ℕ) :
    at2 hn v (a + (i 0).val - a) (i 1) = v i := by
  unfold at2
  refine congrArg v ((funext fun b => ?_) : _ = i)
  match b with
  | ⟨0, _⟩ => exact Fin.ext (by show (a + (i 0).val - a) % n = (i 0).val; rw [Nat.add_sub_cancel_left]; exact Nat.mod_eq_of_lt (i 0).isLt)
  | ⟨1, _⟩ => rfl

/-- The product of 320 rows of `x` with `w`. -/
def blk0 (x : FVec F S320x256 .f32) (w : FVec F S256x2048 .f32) : FVec F S320x2048 .f32 :=
  matmul dot_S320x256_S256x2048_S320x2048_1_0_0_1_n_n none x w (constant S320x2048 .f32 0x00000000#32)
/-- The product of 384 rows of `x` with `w`. -/
def blk2 (x : FVec F S384x256 .f32) (w : FVec F S256x2048 .f32) : FVec F S384x2048 .f32 :=
  matmul dot_S384x256_S256x2048_S384x2048_1_0_0_1_n_n none x w (constant S384x2048 .f32 0x00000000#32)

section Vals

-- Every device's blocks of the two arguments.
variable (X : Dev nD → Vec F S2048x256 .f32) (Wt : Dev nD → Vec F S256x2048 .f32)

set_option backward.proofsInPublic true in
/-- Rows `a, a+1, …, a+n-1` of device `c`'s block of `x`. -/
def xrows (c : Dev nD) (n a : ℕ) : Vec F ⟨2, ![n, 256]⟩ .f32 := fun i => X c (ix2 ⟨(a + (i 0).val) % 2048, Nat.mod_lt _ (by decide)⟩ (i 1))

set_option backward.proofsInPublic true in
/-- Row `r` of device `c`'s product, out of the block of rows that begins at `a`. -/
def dotv (c : Dev nD) (p : Fin 3) (a r : ℕ) (j : Fin 2048) : F .f32 := match p with
  | 0 => at2 (n := 320) (by decide) (blk0 (xrows X c 320 a) (Wt c)) (r - a) j
  | 1 => at2 (n := 320) (by decide) (blk0 (xrows X c 320 a) (Wt c)) (r - a) j
  | 2 => at2 (n := 384) (by decide) (blk2 (xrows X c 384 a) (Wt c)) (r - a) j

/-- What device `c` holds after `t` stages at row `r` of part `p`. -/
def acc : ℕ → Dev nD → Fin 3 → ℕ → Fin 2048 → F .f32
  | 0, c, p, r, j => dotv X Wt c p (ks c p 0) r j
  | t + 1, c, p, r, j =>
    FloatOps.addf (acc t c p r j)
      (FloatOps.extf .f32 bitsLt_bf16_f32 (FloatOps.truncf .bf16 bitsLt_bf16_f32
        (if t = 0 then dotv X Wt (partner (dm p t) c) p (ss (partner (dm p t) c) p 0) r j else acc t (partner (dm p t) c) p r j)))

/-- What device `c` sends at stage `t` at row `r` of part `p`. -/
def snd (t : ℕ) (c : Dev nD) (p : Fin 3) (r : ℕ) (j : Fin 2048) : F .bf16 :=
  FloatOps.truncf .bf16 bitsLt_bf16_f32 (if t = 0 then dotv X Wt c p (ss c p 0) r j else acc X Wt t c p r j)

/-- One more stage adds what the partner of that stage sent. -/
theorem acc_succ (t : ℕ) (c : Dev nD) (p : Fin 3) (r : ℕ) (j : Fin 2048) :
    acc X Wt (t + 1) c p r j = FloatOps.addf (acc X Wt t c p r j) (FloatOps.extf .f32 bitsLt_bf16_f32 (snd X Wt t (partner (dm p t) c) p r j)) := rfl

/-- The reduced row on the device that ends holding it. -/
def fin (c : Dev nD) (p : Fin 3) (r : ℕ) (j : Fin 2048) : F .f32 :=
  FloatOps.maximumf (acc X Wt 3 c p r j) (FloatOps.ofBits .f32 0x00000000#32)

/-- The gathered row, the same on every device. -/
def gat (r : ℕ) (j : Fin 2048) : F .bf16 := FloatOps.truncf .bf16 bitsLt_bf16_f32 (fin X Wt (owner r).1 (owner r).2 r j)

/-- Device `c`'s result. -/
def outv (c : Dev nD) (r : ℕ) (j : Fin 2048) : F .f32 :=
  if (owner r).1 = c then fin X Wt c (owner r).2 r j else FloatOps.extf .f32 bitsLt_bf16_f32 (gat X Wt r j)

end Vals

end Cert.Fly

end
-- ==== Proof.Sched.lean ====
/-
# Who tells whom what: the transfers, their cells and the schedule

The kernel makes 21 transfers per device, numbered by a part `p : Fin 3` and a step `t : Fin 9`: steps 0, 1, 2 are the
three stages of the reduction; steps `3 + 2k + j` are stage `k` of the gathering, whose last stage goes in two pieces
`j = 0, 1` (so steps 4 and 6 are not used). Each transfer has its own pair of DMA semaphores, so each cell carries one
round of one duty. The barrier cell of a device has three duties of one unit, one paid by each of its three partners: with
duty `d` the partner across dimension `d` hands over every region of its own memory that the device will write along `d`.
-/
module

public import proofs.«01_k».proof.Proof.Geom

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The ghost state of the kernel's own cells. -/
abbrev UB : Type := URounds (GSem nD τ sig) (Fin 3)
/-- The ghost state of the proof: the pipeline's and the kernel's. -/
abbrev UU : Type := UR sig nD τ × UB

local notation "𝕄" => MT nD τ sig Unit (Elt F) ℕ UU ℕ

/-- The pipeline's half. -/
abbrev EP : Emb (UR sig nD τ) (MT nD τ sig Unit (Elt F) ℕ UU ℕ) := embL
/-- The kernel's half. -/
abbrev ER : Emb UB (MT nD τ sig Unit (Elt F) ℕ UU ℕ) := embR

/-! ## The transfers -/

/-- A transfer: its part and its step. -/
abbrev Xf : Type := Fin 3 × Fin 9

/-- Steps 4 and 6 name no transfer. -/
def used (x : Xf) : Bool := x.2.val ≠ 4 && x.2.val ≠ 6
/-- The rows a transfer moves. -/
def tlen (x : Xf) : ℕ :=
  if x.2.val < 3 then sz x.1 x.2.val else if x.2.val < 5 then sz x.1 2 else sz x.1 1
/-- The dimension a transfer crosses. -/
def tdim (x : Xf) : Fin 3 :=
  if x.2.val < 3 then dm x.1 x.2.val else if x.2.val < 5 then dm x.1 2 else if x.2.val < 7 then dm x.1 1 else dm x.1 0
/-- The first row the transfer of sender `c` is written to, in the buffer it is written to. -/
def tstart (c : Dev nD) (x : Xf) : ℕ :=
  if x.2.val < 3 then sb x.1 x.2.val else if x.2.val < 5 then ks c x.1 2 else if x.2.val < 7 then ks c x.1 1
    else ks c x.1 0 + (x.2.val - 7) * sz x.1 1
/-- The transfers in the order each device starts them, which is also the order it waits for them in. -/
def order : List Xf :=
  [(2, 0), (0, 0), (1, 0), (0, 1), (1, 1), (2, 1), (0, 2), (1, 2), (2, 2), (0, 3), (1, 3), (2, 3), (0, 5), (1, 5), (2, 5),
    (0, 7), (0, 8), (1, 7), (1, 8), (2, 7), (2, 8)]
/-- The transfers across dimension `d`. -/
def across (d : Fin 3) : Finset Xf := Finset.univ.filter fun x => used x = true ∧ tdim x = d

/-- The units a transfer credits. -/
def amt (x : Xf) : ℕ := RefSig.tileCredit ⟨2, ![tlen x, 2048]⟩ .bf16

/-- Every transfer moves some rows. -/
theorem tlen_pos (x : Xf) : 0 < tlen x := by revert x; decide
/-- Every transfer credits some units. -/
theorem amt_pos (x : Xf) : 0 < amt x :=
  RefSig.tileCredit_pos _ _ (Nat.pos_of_ne_zero fun h => by
    obtain ⟨a, -, ha⟩ := Finset.prod_eq_zero_iff.mp h
    match a, ha with
    | ⟨0, _⟩, ha => exact (tlen_pos x).ne' ha
    | ⟨1, _⟩, ha => exact (by decide : ¬(2048 = 0)) ha)

/-! ## Cells -/

/-- The runtime's barrier semaphore. -/
abbrev barS : Sem sig := (SemArray.scalar (sig.barrier 0 rfl) : Sems sig S_).sem

set_option backward.proofsInPublic true in
/-- The semaphore of transfer `x`: the sender's (`false`) or the receiver's (`true`). -/
def xsem (x : Xf) (b : Bool) : DmaSem sig :=
  if h : x.2.val < 3 then (⟨3 + 6 * x.1.val + (if b then 3 else 0) + x.2.val, by have := x.1.isLt; split <;> omega⟩ : Fin 57)
  else (⟨21 + 12 * x.1.val + (if b then 6 else 0) + (x.2.val - 3), by have := x.1.isLt; have := x.2.isLt; split <;> omega⟩ : Fin 57)

set_option backward.proofsInPublic true in
/-- Which transfer a DMA semaphore belongs to; none for the three the pipeline stages with. -/
def dec (s : DmaSem sig) : Option (Xf × Bool) :=
  if s.val < 3 then none
  else if s.val < 21 then
    some ((⟨(s.val - 3) / 6 % 3, Nat.mod_lt _ (by decide)⟩, ⟨(s.val - 3) % 3 % 9, Nat.mod_lt _ (by decide)⟩), decide ((s.val - 3) % 6 ≥ 3))
  else some ((⟨(s.val - 21) / 12 % 3, Nat.mod_lt _ (by decide)⟩, ⟨(3 + (s.val - 21) % 6) % 9, Nat.mod_lt _ (by decide)⟩), decide ((s.val - 21) % 12 ≥ 6))

/-- A transfer's semaphore tells the transfer and the end. -/
theorem dec_xsem (x : Xf) (b : Bool) : dec (xsem x b) = some (x, b) := by revert x b; decide +kernel

/-- Device `c`'s barrier cell. -/
abbrev barCell (c : Dev nD) : GSem nD τ sig := ((c : Thread nD τ), .reg barS)
/-- Device `c`'s cell for one end of transfer `x`. -/
abbrev xcell (c : Dev nD) (x : Xf) (b : Bool) : GSem nD τ sig := ((c : Thread nD τ), .dma (xsem x b))

/-! ## Regions of memory -/

/-- Rows `a, …, a+k-1` of a buffer of `n` rows. -/
def rowSet (n a k : ℕ) : Finset (Shape.Idx ⟨2, ![n, 2048]⟩) := Finset.univ.filter fun i => a ≤ (i 0).val ∧ (i 0).val < a + k

/-- Device `c`'s result rows `a, …, a+k-1` hold `f`. -/
def outP (c : Dev nD) (a k : ℕ) (f : ℕ → Fin 2048 → F .f32) : sProp 𝕄 :=
  ((c : Thread nD τ).loc cc0_stg2_0) ↦[rowSet 2048 a k]{fullShare} (fun i => f (i 0).val (i 1))
/-- Device `c`'s rows `a, …, a+k-1` of the receive buffer hold `f`. -/
def rcvP (c : Dev nD) (a k : ℕ) (f : ℕ → Fin 2048 → F .bf16) : sProp 𝕄 :=
  ((c : Thread nD τ).loc cc0_scratch0) ↦[rowSet 1792 a k]{fullShare} (fun i => f (i 0).val (i 1))
/-- Device `c`'s rows `a, …, a+k-1` of the send buffer hold `f`. -/
def sndP (c : Dev nD) (a k : ℕ) (f : ℕ → Fin 2048 → F .bf16) : sProp 𝕄 :=
  ((c : Thread nD τ).loc cc0_scratch1) ↦[rowSet 1792 a k]{fullShare} (fun i => f (i 0).val (i 1))
/-- Device `c`'s rows `a, …, a+k-1` of the gather buffer hold `f`. -/
def agP (c : Dev nD) (a k : ℕ) (f : ℕ → Fin 2048 → F .bf16) : sProp 𝕄 :=
  ((c : Thread nD τ).loc cc0_scratch2) ↦[rowSet 2048 a k]{fullShare} (fun i => f (i 0).val (i 1))

/-- Result rows may be handed over. -/
instance outP_storable (c : Dev nD) (a k f) : BI.Storable (upEmb : UEmb _ 𝕄) (outP (F := F) c a k f) := by unfold outP; infer_instance
/-- So may rows of the receive buffer, -/
instance rcvP_storable (c : Dev nD) (a k f) : BI.Storable (upEmb : UEmb _ 𝕄) (rcvP (F := F) c a k f) := by unfold rcvP; infer_instance
/-- of the send buffer, -/
instance sndP_storable (c : Dev nD) (a k f) : BI.Storable (upEmb : UEmb _ 𝕄) (sndP (F := F) c a k f) := by unfold sndP; infer_instance
/-- and of the gather buffer. -/
instance agP_storable (c : Dev nD) (a k f) : BI.Storable (upEmb : UEmb _ 𝕄) (agP (F := F) c a k f) := by unfold agP; infer_instance

/-- The rows a transfer reads on the sender `c`. -/
def srcP (c : Dev nD) (x : Xf) (f : ℕ → Fin 2048 → F .bf16) : sProp 𝕄 :=
  if x.2.val < 3 then sndP c (tstart c x) (tlen x) f else agP c (tstart c x) (tlen x) f
/-- The rows the transfer of sender `c` is written to, on device `e`. -/
def dstP (e c : Dev nD) (x : Xf) (f : ℕ → Fin 2048 → F .bf16) : sProp 𝕄 :=
  if x.2.val < 3 then rcvP e (tstart c x) (tlen x) f else agP e (tstart c x) (tlen x) f

/-- The source of a transfer may be handed over, -/
instance srcP_storable (c : Dev nD) (x f) : BI.Storable (upEmb : UEmb _ 𝕄) (srcP (F := F) c x f) := by unfold srcP; split <;> infer_instance
/-- and its destination. -/
instance dstP_storable (e c : Dev nD) (x f) : BI.Storable (upEmb : UEmb _ 𝕄) (dstP (F := F) e c x f) := by unfold dstP; split <;> infer_instance

section Sched
variable (X : Dev nD → Vec F S2048x256 .f32) (Wt : Dev nD → Vec F S256x2048 .f32)

/-- What the transfer of sender `c` carries. -/
def tval (c : Dev nD) (x : Xf) : ℕ → Fin 2048 → F .bf16 :=
  if x.2.val < 3 then fun r j => snd X Wt x.2.val c x.1 (ss c x.1 x.2.val + r - sb x.1 x.2.val) j else gat X Wt

/-! ## The schedule -/

/-- What the partner of `c` across `d` hands it at the barrier. -/
def barPay (c : Dev nD) (d : Fin 3) : sProp 𝕄 := bigSep (across d) fun x => iprop(∃ f, dstP (F := F) (partner d c) c x f)
/-- What comes back to the sender. -/
def sndPay (c : Dev nD) (x : Xf) : sProp 𝕄 := srcP c x (tval X Wt c x)
/-- What comes to the receiver. -/
def rcvPay (c : Dev nD) (x : Xf) : sProp 𝕄 := dstP c (partner (tdim x) c) x (tval X Wt (partner (tdim x) c) x)

/-- What passes at the barrier may be handed over, -/
instance barPay_storable (c : Dev nD) (d) : BI.Storable (upEmb : UEmb _ 𝕄) (barPay (F := F) c d) := by unfold barPay; infer_instance
/-- what comes back to a sender, -/
instance sndPay_storable (c : Dev nD) (x) : BI.Storable (upEmb : UEmb _ 𝕄) (sndPay (F := F) X Wt c x) := by unfold sndPay; infer_instance
/-- and what comes to a receiver. -/
instance rcvPay_storable (c : Dev nD) (x) : BI.Storable (upEmb : UEmb _ 𝕄) (rcvPay (F := F) X Wt c x) := by unfold rcvPay; infer_instance

/-- The duties of a semaphore's only round: the barrier's three, one for a used DMA semaphore. -/
def dutiesOf : SemLoc sig → Finset (Fin 3)
  | .reg _ => Finset.univ
  | .dma s => match dec s with
    | some (x, _) => if used x = true then {0} else ∅
    | none => ∅
/-- The units of each duty. -/
def amountOf : SemLoc sig → ℕ
  | .reg _ => 1
  | .dma s => match dec s with
    | some (x, _) => amt x
    | none => 1
/-- What each duty hands over. -/
def payOf (c : Dev nD) (d : Fin 3) : SemLoc sig → sProp 𝕄
  | .reg _ => barPay c d
  | .dma s => match dec s with
    | some (x, false) => sndPay X Wt c x
    | some (x, true) => rcvPay X Wt c x
    | none => iprop(emp)

/-- One round: three unit duties at a barrier cell, one duty of the transfer's amount at each used DMA cell. -/
def Rd : Rounds.Schedule (GSem nD τ sig) (Fin 3) 𝕄 where
  duties g r := if r = 0 ∧ g.1.2 = .tc then dutiesOf g.2 else ∅
  unitless _ := False
  amount g _ _ := amountOf g.2
  payload g _ d := payOf X Wt g.1.1 d g.2
  amount_pos g _ _ _ := by
    rcases g with ⟨c, s | s⟩
    · exact Nat.one_pos
    · show 0 < (match dec s with | some (x, _) => amt x | none => 1)
      split
      · exact amt_pos _
      · exact Nat.one_pos

/-- What any duty hands over may be handed over. -/
instance Rd_payload_storable (g : GSem nD τ sig) (r : ℕ) (d : Fin 3) : BI.Storable (upEmb : UEmb _ 𝕄) ((Rd X Wt).payload g r d) := by
  show BI.Storable upEmb (payOf X Wt g.1.1 d g.2)
  unfold payOf
  (repeat' split) <;> infer_instance

/-- A barrier cell has three duties, -/
theorem duties_bar (c : Dev nD) : (Rd X Wt).duties (barCell c) 0 = Finset.univ := by
  dsimp only [Rd]; rw [if_pos ⟨rfl, rfl⟩]; rfl
/-- a used transfer's cell has one, -/
theorem duties_x (c : Dev nD) (x : Xf) (b : Bool) (hx : used x = true) : (Rd X Wt).duties (xcell c x b) 0 = {0} := by
  dsimp only [Rd]; rw [if_pos ⟨rfl, rfl⟩]; dsimp only [dutiesOf]; rw [dec_xsem]; exact if_pos hx
/-- an unused one has none, -/
theorem duties_unused (c : Dev nD) (x : Xf) (b : Bool) (hx : used x = false) (r : ℕ) : (Rd X Wt).duties (xcell c x b) r = ∅ := by
  dsimp only [Rd]
  split
  · dsimp only [dutiesOf]; rw [dec_xsem]; exact if_neg (by rw [hx]; decide)
  · rfl
/-- and no cell has any in a later round. -/
theorem duties_later (g : GSem nD τ sig) : ∀ r, 1 ≤ r → (Rd X Wt).duties g r = ∅ :=
  fun r hr => by dsimp only [Rd]; rw [if_neg fun h => by omega]

/-- A barrier duty is one unit. -/
theorem amount_bar (c : Dev nD) (d : Fin 3) : (Rd X Wt).amount (barCell c) 0 d = 1 := rfl
/-- A transfer's duty is its amount. -/
theorem amount_x (c : Dev nD) (x : Xf) (b : Bool) (d : Fin 3) : (Rd X Wt).amount (xcell c x b) 0 d = amt x := by
  dsimp only [Rd, amountOf]; rw [dec_xsem]
/-- A barrier cell expects three units. -/
theorem expect_bar (c : Dev nD) : (Rd X Wt).expect (barCell c) 0 = 3 := by
  unfold Schedule.expect Schedule.amountOf
  rw [duties_bar, Finset.sum_congr rfl fun d _ => amount_bar X Wt c d]; rfl
/-- A transfer's cell expects the transfer's amount. -/
theorem expect_x (c : Dev nD) (x : Xf) (b : Bool) (hx : used x = true) : (Rd X Wt).expect (xcell c x b) 0 = amt x := by
  unfold Schedule.expect Schedule.amountOf; rw [duties_x X Wt c x b hx, Finset.sum_singleton, amount_x]

/-- What a barrier duty hands over. -/
theorem payload_bar (c : Dev nD) (d : Fin 3) : (Rd X Wt).payload (barCell c) 0 d = barPay c d := rfl
/-- What the sender's end hands over. -/
theorem payload_snd (c : Dev nD) (x : Xf) (d : Fin 3) : (Rd X Wt).payload (xcell c x false) 0 d = sndPay X Wt c x := by
  dsimp only [Rd, payOf]; rw [dec_xsem]
/-- What the receiver's end hands over. -/
theorem payload_rcv (c : Dev nD) (x : Xf) (d : Fin 3) : (Rd X Wt).payload (xcell c x true) 0 d = rcvPay X Wt c x := by
  dsimp only [Rd, payOf]; rw [dec_xsem]

/-- A wait for the whole barrier brings what all three partners hand over. -/
theorem rest_bar (c : Dev nD) : bigSep ((Rd X Wt).duties (barCell c) 0 \ ∅) (fun d => (Rd X Wt).payload (barCell c) 0 d)
    = iprop(barPay c 0 ∗ barPay c 1 ∗ barPay c 2) := by
  rw [Finset.sdiff_empty, duties_bar, bigSep_univ_eq_bigSepL [0, 1, 2] (by decide) (by decide)]
  rfl
/-- A wait at the sender's end brings back the source. -/
theorem rest_snd (c : Dev nD) (x : Xf) (hx : used x = true) :
    bigSep ((Rd X Wt).duties (xcell c x false) 0 \ ∅) (fun d => (Rd X Wt).payload (xcell c x false) 0 d) = sndPay X Wt c x := by
  rw [Finset.sdiff_empty, duties_x X Wt c x false hx, bigSep_singleton, payload_snd]
/-- A wait at the receiver's end brings the rows sent. -/
theorem rest_rcv (c : Dev nD) (x : Xf) (hx : used x = true) :
    bigSep ((Rd X Wt).duties (xcell c x true) 0 \ ∅) (fun d => (Rd X Wt).payload (xcell c x true) 0 d) = rcvPay X Wt c x := by
  rw [Finset.sdiff_empty, duties_x X Wt c x true hx, bigSep_singleton, payload_rcv]

end Sched

/-! ## What each device owes; the levels -/

/-- What device `c` owes its partners' receive cells for the transfers `l`. -/
def owed (c : Dev nD) : List Xf → CellTallies nD τ sig Unit
  | [] => 0
  | x :: l => owed c l + tallyAt (xcell (partner (tdim x) c) x true) () (amt x)

/-- What device `c` owes when it starts: all its transfers and a unit to each partner's barrier cell. -/
def owedBar (c : Dev nD) (l : List Xf) : CellTallies nD τ sig Unit :=
  owed c l + tallyAt (barCell (partner 2 c)) () 1 + tallyAt (barCell (partner 1 c)) () 1 + tallyAt (barCell (partner 0 c)) () 1
/-- What device `c` owes at launch. -/
def O₀ (c : Dev nD) : CellTallies nD τ sig Unit := owedBar c order

/-- The TensorCore's cells have a level. -/
def L (g : GSem nD τ sig) : Finset Unit := if g.1.2 = .tc then {()} else ∅
/-- A receive cell's level is 2 and its place in the order; a barrier cell's is 1, any other cell's 0. -/
def lev : SemLoc sig → ℕ
  | .reg _ => 1
  | .dma s => match dec s with
    | some (x, true) => 2 + order.idxOf x
    | _ => 0
/-- A cell's level is its semaphore's. -/
def lv (g : GSem nD τ sig) (_ : Unit) : ℕ := lev g.2

/-- Other cells have none. -/
theorem L_of_ne (g : GSem nD τ sig) (h : g.1.2 ≠ .tc) : L g = ∅ := if_neg h
/-- The TensorCore's have one. -/
theorem L_tc (c : Dev nD) (sm : SemLoc sig) : L ((c : Thread nD τ), sm) = {()} := if_pos rfl
/-- The level of a receiver's end. -/
theorem lev_rcv (x : Xf) : lev (.dma (xsem x true)) = 2 + order.idxOf x := by unfold lev; dsimp only; rw [dec_xsem]
/-- The level of a sender's end. -/
theorem lev_snd (x : Xf) : lev (.dma (xsem x false)) = 0 := by unfold lev; dsimp only; rw [dec_xsem]

/-- What is owed for transfers is owed to their receivers' ends. -/
theorem owed_pos {c : Dev nD} {g : GSem nD τ sig} {u : Unit} : {l : List Xf} → 0 < owed c l g u →
    ∃ x ∈ l, g = xcell (partner (tdim x) c) x true
  | [], h => absurd h (Nat.lt_irrefl 0)
  | x :: l, h => by
    unfold owed at h
    rw [Pi.add_apply, Finsupp.add_apply, tallyAt_apply] at h
    by_cases hg : g = xcell (partner (tdim x) c) x true
    · exact ⟨x, List.mem_cons_self, hg⟩
    · rw [if_neg (fun h' => hg h'.1), Nat.add_zero] at h
      obtain ⟨y, hy, e⟩ := owed_pos h
      exact ⟨y, List.mem_cons_of_mem _ hy, e⟩

/-- What is owed at launch is owed to barrier cells or to receivers' ends. -/
theorem owedBar_pos {c : Dev nD} {g : GSem nD τ sig} {u : Unit} {l : List Xf} (h : 0 < owedBar c l g u) :
    (∃ x ∈ l, g = xcell (partner (tdim x) c) x true) ∨ (∃ d, g = barCell (partner d c)) := by
  unfold owedBar at h
  rw [Pi.add_apply, Finsupp.add_apply, Pi.add_apply, Finsupp.add_apply, Pi.add_apply, Finsupp.add_apply, tallyAt_apply, tallyAt_apply, tallyAt_apply] at h
  by_cases h0 : g = barCell (partner 0 c)
  · exact Or.inr ⟨0, h0⟩
  by_cases h1 : g = barCell (partner 1 c)
  · exact Or.inr ⟨1, h1⟩
  by_cases h2 : g = barCell (partner 2 c)
  · exact Or.inr ⟨2, h2⟩
  rw [if_neg (fun h' => h2 h'.1), if_neg (fun h' => h1 h'.1), if_neg (fun h' => h0 h'.1)] at h
  exact Or.inl (owed_pos h)

/-- A device owing the transfers `l` may wait on a cell below the receive cells of `l`. -/
theorem mayWait (c : Dev nD) (sm : SemLoc sig) (l : List Xf) (h : ∀ x ∈ l, lev sm < 2 + order.idxOf x) :
    (levAts L lv : sProp 𝕄) ⊢ MayWait (c : Thread nD τ) sm () (owed c l) :=
  MayOwe.of_cut (L := L) (lev := lv) (lev sm) (fun p hp => by rw [Finset.mem_singleton.mp hp, L_tc]; exact Finset.mem_singleton_self _)
    (fun g u hg => by obtain ⟨x, _, rfl⟩ := owed_pos hg; exact Finset.mem_singleton_self _)
    (fun p hp => by rw [Finset.mem_singleton.mp hp]; exact le_rfl)
    (fun g u hg => by obtain ⟨x, hx, rfl⟩ := owed_pos hg; show lev sm < lev (.dma (xsem x true)); rw [lev_rcv]; exact h x hx)

/-- A device may wait on a staging cell whatever it owes. -/
theorem mayWait_stage (c : Dev nD) (q : DmaSem sig) (hq : lev (.dma q) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owedBar_pos hg with ⟨x, _, rfl⟩ | ⟨d, rfl⟩ <;> exact Finset.mem_singleton_self _)
      (fun p hp => by rw [Finset.mem_singleton.mp hp]; exact hq.le)
      (fun g u hg => by
        rcases owedBar_pos hg with ⟨x, _, rfl⟩ | ⟨d, rfl⟩
        · show 0 < lev (.dma (xsem x true)); rw [lev_rcv]; omega
        · exact Nat.one_pos)
  · rw [MayWait_zero]; iintro -; iempintro

end Cert.Fly

end
-- ==== Proof.Steps.lean ====
/-
# The kernel's steps on regions of rows

One rule per effect the kernel has: a load or a store of whole rows of a buffer, said of the region's contents.
-/
module

public import proofs.«01_k».proof.Proof.Sched

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Rows of rectangles -/

/-- A rectangle of whole rows is those rows. -/
theorem rect_set {n b k : ℕ} {off : Fin 2 → ℕ} {inb : ∀ a, off a + (⟨2, ![k, 2048]⟩ : Shape).size a ≤ (⟨2, ![n, 2048]⟩ : Shape).size a}
    (h : off = ![b, 0]) : (Rect.unit (s := ⟨2, ![n, 2048]⟩) off (⟨2, ![k, 2048]⟩ : Shape).size inb).set = rowSet n b k := by
  subst h
  ext i
  rw [Rect.mem_set_unit]
  unfold rowSet
  rw [Finset.mem_filter]
  constructor
  · exact fun h => ⟨Finset.mem_univ _, h 0⟩
  · rintro ⟨-, h⟩ a
    match a with
    | ⟨0, _⟩ => exact h
    | ⟨1, _⟩ => exact ⟨Nat.zero_le _, by have := (i 1).isLt; show (i 1).val < 0 + 2048; rw [Nat.zero_add]; exact this⟩

/-- Rows within a range of rows. -/
theorem rowSet_subset {n a k b l : ℕ} (h1 : a ≤ b) (h2 : b + l ≤ a + k) : rowSet n b l ⊆ rowSet n a k := by
  intro i hi
  unfold rowSet at hi ⊢
  rw [Finset.mem_filter] at hi ⊢
  exact ⟨hi.1, by omega, by omega⟩

/-- An index of a rectangle of whole rows is that many rows further down. -/
theorem rect_emb {α : Type} {n b k : ℕ} {off : Fin 2 → ℕ} {inb : ∀ a, off a + (⟨2, ![k, 2048]⟩ : Shape).size a ≤ (⟨2, ![n, 2048]⟩ : Shape).size a}
    (h : off = ![b, 0]) (f : ℕ → Fin 2048 → α) (i : (⟨2, ![k, 2048]⟩ : Shape).Idx) :
    f ((Rect.unit (s := ⟨2, ![n, 2048]⟩) off (⟨2, ![k, 2048]⟩ : Shape).size inb).emb i 0).val
      ((Rect.unit (s := ⟨2, ![n, 2048]⟩) off (⟨2, ![k, 2048]⟩ : Shape).size inb).emb i 1) = f (b + (i 0).val) (i 1) := by
  subst h
  have e1 : (Rect.unit (s := ⟨2, ![n, 2048]⟩) ![b, 0] (⟨2, ![k, 2048]⟩ : Shape).size inb).emb i 1 = (i 1 : Fin 2048) := by
    refine Fin.ext ?_
    rw [Rect.emb_apply]
    show 0 + 1 * (i 1).val = _
    omega
  have e0 : ((Rect.unit (s := ⟨2, ![n, 2048]⟩) ![b, 0] (⟨2, ![k, 2048]⟩ : Shape).size inb).emb i 0).val = b + (i 0).val := by
    rw [Rect.emb_apply]
    show b + 1 * (i 0).val = _
    omega
  rw [e0]; exact congrArg _ e1

/-- No loop needs a variant. -/
abbrev 𝒱₀ : Variants := Variants.none

/-- A program of device `c` run to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- The view of a whole buffer covers exactly the elements it is asked for. -/
theorem whole_setOn (b : Ref sig .tc) (S : Finset b.ty.shape.Idx) : (Memref.whole b : Memref sig .tc _ _ _).view.setOn S = S := by
  ext i
  exact View.mem_setOn (v := (Memref.whole b : Memref sig .tc _ _ _).view) (x := i)

/-- The elements that an access to a rectangle of a whole buffer reaches are the rectangle's. -/
theorem whole_access (b : Ref sig .tc) (r : Rect b.ty.shape) : ((Memref.whole b : Memref sig .tc _ _ _).access r).set = r.set :=
  View.set_slice_whole b r

/-! ## Loads and stores of a whole buffer's rectangle -/

/-- A load of a rectangle inside an owned region continues at the region's contents there. -/
theorem load_gen {cs : CoreSpace} {s : Shape} {e : EltTy} (m : Memref sig .tc (.core cs) s e) {α : Type} (Q : α → sProp 𝕄) (c : Dev nD)
    {S : Finset (Idx (m.view.loc (c : Thread nD τ)))} {f : Buf (Elt F) (m.view.loc (c : Thread nD τ))} {r : Rect s} {hl : m.view.LoadsAt r.toLoadRect}
    {v : r.shape.Idx → Elt F e} {kk : (r.shape.Idx → Elt F e) → Prog (TpuEff nD τ sig (Elt F) Λ₀ .tc) α}
    (hS : m.view.setOn r.set ⊆ S) (hv : m.view.readAt (Elt F) r.toLoadRect f = v) :
    (m.view.loc (c : Thread nD τ) ↦[S]{fullShare} f) ⊢ iprop(((m.view.loc (c : Thread nD τ) ↦[S]{fullShare} f) -∗ WP c (kk v) Q)
      -∗ WP c (.op (.load m r.toLoadRect hl) kk) Q) := by
  subst hv
  exact wp_load 𝒱₀ (c : Thread nD τ) none Set.univ hS

/-- A store over the whole of an owned region leaves it holding any `g` that agrees with what was stored. -/
theorem store_gen {cs : CoreSpace} {s : Shape} {e : EltTy} (m : Memref sig .tc (.core cs) s e) {α : Type} (Q : α → sProp 𝕄) (c : Dev nD)
    {r : Rect s} {S : Finset (Idx ((m.access r).loc (c : Thread nD τ)))} {f g : Buf (Elt F) ((m.access r).loc (c : Thread nD τ))}
    {w : r.shape.Idx → Elt F e} {hx : (m.access r).Stores Finset.univ} {hm : Finset.univ = Finset.univ ∨ ∀ a, r.stride a = 1}
    {kk : PUnit → Prog (TpuEff nD τ sig (Elt F) Λ₀ .tc) α} (hS : (m.access r).set ⊆ S)
    (hg : ∀ i ∈ S, (m.access r).write (Elt F) f w Finset.univ i = g i) :
    ((m.access r).loc (c : Thread nD τ) ↦[S]{fullShare} f) ⊢ iprop((((m.access r).loc (c : Thread nD τ) ↦[S]{fullShare} g) -∗ WP c (kk ⟨⟩) Q)
      -∗ WP c (.op (.store m r w Finset.univ hx hm) kk) Q) := by
  rw [← pointsTo_congr hg]
  exact wp_store 𝒱₀ (c : Thread nD τ) none Set.univ hS

/-- What a store over a rectangle of a whole buffer leaves there. -/
theorem whole_written (b : Ref sig .tc) (r : Rect b.ty.shape) (f g : b.ty.Contents (Elt F)) (w : r.shape.Idx → Elt F b.ty.elt)
    (hw : ∀ i, w i = g (r.emb i)) : ∀ i ∈ r.set, ((Memref.whole b : Memref sig .tc _ _ _).access r).write (Elt F) f w Finset.univ i = g i := by
  intro i hi
  rw [← View.set_slice_whole b r] at hi
  obtain ⟨x, -, rfl⟩ := Finset.mem_map.mp hi
  exact (View.write_emb_of_mem (v := (Memref.whole b : Memref sig .tc _ _ _).access r) f w (Finset.mem_univ x)).trans (hw x)

/-! ## Loads and stores of rows -/

/-- A load of result rows inside an owned region. -/
theorem load_out {α : Type} (Q : α → sProp 𝕄) (c : Dev nD) {n a k s : ℕ} {f : ℕ → Fin 2048 → F .f32} {off : Fin 2 → ℕ}
    {inb : ∀ a, off a + (⟨2, ![n, 2048]⟩ : Shape).size a ≤ (⟨2, ![2048, 2048]⟩ : Shape).size a}
    {hl : (Memref.whole cc0_stg2_0 : Memref sig .tc _ _ _).view.LoadsAt (Rect.unit (s := ⟨2, ![2048, 2048]⟩) off (⟨2, ![n, 2048]⟩ : Shape).size inb).toLoadRect}
    {kk : Vec F ⟨2, ![n, 2048]⟩ .f32 → Prog (TpuEff nD τ sig (Elt F) Λ₀ .tc) α}
    (h : off = ![s, 0]) (h1 : a ≤ s) (h2 : s + n ≤ a + k) :
    outP c a k f ⊢ iprop((outP c a k f -∗ WP c (kk fun i => f (s + (i 0).val) (i 1)) Q)
      -∗ WP c (.op (.load (Memref.whole cc0_stg2_0) (Rect.unit (s := ⟨2, ![2048, 2048]⟩) off (⟨2, ![n, 2048]⟩ : Shape).size inb).toLoadRect hl) kk) Q) := by
  have hS : (Memref.whole cc0_stg2_0 : Memref sig .tc _ _ _).view.setOn (Rect.unit (s := ⟨2, ![2048, 2048]⟩) off (⟨2, ![n, 2048]⟩ : Shape).size inb).set ⊆ rowSet 2048 a k := by
    rw [whole_setOn]; exact (rect_set h).le.trans (rowSet_subset h1 h2)
  have hv : (Memref.whole cc0_stg2_0 : Memref sig .tc _ _ _).view.readAt (Elt F) (Rect.unit (s := ⟨2, ![2048, 2048]⟩) off (⟨2, ![n, 2048]⟩ : Shape).size inb).toLoadRect (fun i => f (i 0).val (i 1))
      = fun i => f (s + (i 0).val) (i 1) := by
    funext i; exact rect_emb h f i
  exact load_gen (Memref.whole cc0_stg2_0) Q c hS hv

/-- A store of the whole of an owned region of result rows. -/
theorem store_out {α : Type} (Q : α → sProp 𝕄) (c : Dev nD) {n s : ℕ} {f : ℕ → Fin 2048 → F .f32} (g : ℕ → Fin 2048 → F .f32) {off : Fin 2 → ℕ}
    {inb : ∀ a, off a + (⟨2, ![n, 2048]⟩ : Shape).size a ≤ (⟨2, ![2048, 2048]⟩ : Shape).size a} {w : Vec F ⟨2, ![n, 2048]⟩ .f32}
    {hx : ((Memref.whole cc0_stg2_0 : Memref sig .tc _ _ _).access (Rect.unit (s := ⟨2, ![2048, 2048]⟩) off (⟨2, ![n, 2048]⟩ : Shape).size inb)).Stores Finset.univ}
    {hm : (Finset.univ : Finset (Rect.unit (s := ⟨2, ![2048, 2048]⟩) off (⟨2, ![n, 2048]⟩ : Shape).size inb).shape.Idx) = Finset.univ ∨ ∀ a, (Rect.unit (s := ⟨2, ![2048, 2048]⟩) off (⟨2, ![n, 2048]⟩ : Shape).size inb).stride a = 1}
    {kk : PUnit → Prog (TpuEff nD τ sig (Elt F) Λ₀ .tc) α}
    (h : off = ![s, 0]) (hw : ∀ i, w i = g (s + (i 0).val) (i 1)) :
    outP c s n f ⊢ iprop((outP c s n g -∗ WP c (kk ⟨⟩) Q)
      -∗ WP c (.op (.store (Memref.whole cc0_stg2_0) (Rect.unit (s := ⟨2, ![2048, 2048]⟩) off (⟨2, ![n, 2048]⟩ : Shape).size inb) w Finset.univ hx hm) kk) Q) := by
  have hS : ((Memref.whole cc0_stg2_0 : Memref sig .tc _ _ _).access (Rect.unit (s := ⟨2, ![2048, 2048]⟩) off (⟨2, ![n, 2048]⟩ : Shape).size inb)).set ⊆ rowSet 2048 s n :=
    ((whole_access cc0_stg2_0 _).trans (rect_set h)).le
  have hg : ∀ i ∈ rowSet 2048 s n, ((Memref.whole cc0_stg2_0 : Memref sig .tc _ _ _).access (Rect.unit (s := ⟨2, ![2048, 2048]⟩) off (⟨2, ![n, 2048]⟩ : Shape).size inb)).write (Elt F) (fun i => f (i 0).val (i 1)) w Finset.univ i
      = g (i 0).val (i 1) := by
    intro i hi
    exact whole_written cc0_stg2_0 (Rect.unit (s := ⟨2, ![2048, 2048]⟩) off (⟨2, ![n, 2048]⟩ : Shape).size inb) (fun i => f (i 0).val (i 1)) (fun i => g (i 0).val (i 1)) w (fun x => (hw x).trans (rect_emb h g x).symm) i ((rect_set h).ge hi)
  have key := store_gen (F := F) (Memref.whole cc0_stg2_0) Q c (r := (Rect.unit (s := ⟨2, ![2048, 2048]⟩) off (⟨2, ![n, 2048]⟩ : Shape).size inb)) (S := rowSet 2048 s n)
    (f := fun i => f (i 0).val (i 1)) (g := fun i => g (i 0).val (i 1)) (w := w) (hx := hx) (hm := hm) (kk := kk) hS hg
  exact key

/-- A load of receive-buffer rows inside an owned region. -/
theorem load_rcv {α : Type} (Q : α → sProp 𝕄) (c : Dev nD) {n a k s : ℕ} {f : ℕ → Fin 2048 → F .bf16} {off : Fin 2 → ℕ}
    {inb : ∀ a, off a + (⟨2, ![n, 2048]⟩ : Shape).size a ≤ (⟨2, ![1792, 2048]⟩ : Shape).size a}
    {hl : (Memref.whole cc0_scratch0 : Memref sig .tc _ _ _).view.LoadsAt (Rect.unit (s := ⟨2, ![1792, 2048]⟩) off (⟨2, ![n, 2048]⟩ : Shape).size inb).toLoadRect}
    {kk : Vec F ⟨2, ![n, 2048]⟩ .bf16 → Prog (TpuEff nD τ sig (Elt F) Λ₀ .tc) α}
    (h : off = ![s, 0]) (h1 : a ≤ s) (h2 : s + n ≤ a + k) :
    rcvP c a k f ⊢ iprop((rcvP c a k f -∗ WP c (kk fun i => f (s + (i 0).val) (i 1)) Q)
      -∗ WP c (.op (.load (Memref.whole cc0_scratch0) (Rect.unit (s := ⟨2, ![1792, 2048]⟩) off (⟨2, ![n, 2048]⟩ : Shape).size inb).toLoadRect hl) kk) Q) := by
  have hS : (Memref.whole cc0_scratch0 : Memref sig .tc _ _ _).view.setOn (Rect.unit (s := ⟨2, ![1792, 2048]⟩) off (⟨2, ![n, 2048]⟩ : Shape).size inb).set ⊆ rowSet 1792 a k := by
    rw [whole_setOn]; exact (rect_set h).le.trans (rowSet_subset h1 h2)
  have hv : (Memref.whole cc0_scratch0 : Memref sig .tc _ _ _).view.readAt (Elt F) (Rect.unit (s := ⟨2, ![1792, 2048]⟩) off (⟨2, ![n, 2048]⟩ : Shape).size inb).toLoadRect (fun i => f (i 0).val (i 1))
      = fun i => f (s + (i 0).val) (i 1) := by
    funext i; exact rect_emb h f i
  exact load_gen (Memref.whole cc0_scratch0) Q c hS hv

/-- A load of send-buffer rows inside an owned region. -/
theorem load_snd {α : Type} (Q : α → sProp 𝕄) (c : Dev nD) {n a k s : ℕ} {f : ℕ → Fin 2048 → F .bf16} {off : Fin 2 → ℕ}
    {inb : ∀ a, off a + (⟨2, ![n, 2048]⟩ : Shape).size a ≤ (⟨2, ![1792, 2048]⟩ : Shape).size a}
    {hl : (Memref.whole cc0_scratch1 : Memref sig .tc _ _ _).view.LoadsAt (Rect.unit (s := ⟨2, ![1792, 2048]⟩) off (⟨2, ![n, 2048]⟩ : Shape).size inb).toLoadRect}
    {kk : Vec F ⟨2, ![n, 2048]⟩ .bf16 → Prog (TpuEff nD τ sig (Elt F) Λ₀ .tc) α}
    (h : off = ![s, 0]) (h1 : a ≤ s) (h2 : s + n ≤ a + k) :
    sndP c a k f ⊢ iprop((sndP c a k f -∗ WP c (kk fun i => f (s + (i 0).val) (i 1)) Q)
      -∗ WP c (.op (.load (Memref.whole cc0_scratch1) (Rect.unit (s := ⟨2, ![1792, 2048]⟩) off (⟨2, ![n, 2048]⟩ : Shape).size inb).toLoadRect hl) kk) Q) := by
  have hS : (Memref.whole cc0_scratch1 : Memref sig .tc _ _ _).view.setOn (Rect.unit (s := ⟨2, ![1792, 2048]⟩) off (⟨2, ![n, 2048]⟩ : Shape).size inb).set ⊆ rowSet 1792 a k := by
    rw [whole_setOn]; exact (rect_set h).le.trans (rowSet_subset h1 h2)
  have hv : (Memref.whole cc0_scratch1 : Memref sig .tc _ _ _).view.readAt (Elt F) (Rect.unit (s := ⟨2, ![1792, 2048]⟩) off (⟨2, ![n, 2048]⟩ : Shape).size inb).toLoadRect (fun i => f (i 0).val (i 1))
      = fun i => f (s + (i 0).val) (i 1) := by
    funext i; exact rect_emb h f i
  exact load_gen (Memref.whole cc0_scratch1) Q c hS hv

/-- A store of the whole of an owned region of send-buffer rows. -/
theorem store_snd {α : Type} (Q : α → sProp 𝕄) (c : Dev nD) {n s : ℕ} {f : ℕ → Fin 2048 → F .bf16} (g : ℕ → Fin 2048 → F .bf16) {off : Fin 2 → ℕ}
    {inb : ∀ a, off a + (⟨2, ![n, 2048]⟩ : Shape).size a ≤ (⟨2, ![1792, 2048]⟩ : Shape).size a} {w : Vec F ⟨2, ![n, 2048]⟩ .bf16}
    {hx : ((Memref.whole cc0_scratch1 : Memref sig .tc _ _ _).access (Rect.unit (s := ⟨2, ![1792, 2048]⟩) off (⟨2, ![n, 2048]⟩ : Shape).size inb)).Stores Finset.univ}
    {hm : (Finset.univ : Finset (Rect.unit (s := ⟨2, ![1792, 2048]⟩) off (⟨2, ![n, 2048]⟩ : Shape).size inb).shape.Idx) = Finset.univ ∨ ∀ a, (Rect.unit (s := ⟨2, ![1792, 2048]⟩) off (⟨2, ![n, 2048]⟩ : Shape).size inb).stride a = 1}
    {kk : PUnit → Prog (TpuEff nD τ sig (Elt F) Λ₀ .tc) α}
    (h : off = ![s, 0]) (hw : ∀ i, w i = g (s + (i 0).val) (i 1)) :
    sndP c s n f ⊢ iprop((sndP c s n g -∗ WP c (kk ⟨⟩) Q)
      -∗ WP c (.op (.store (Memref.whole cc0_scratch1) (Rect.unit (s := ⟨2, ![1792, 2048]⟩) off (⟨2, ![n, 2048]⟩ : Shape).size inb) w Finset.univ hx hm) kk) Q) := by
  have hS : ((Memref.whole cc0_scratch1 : Memref sig .tc _ _ _).access (Rect.unit (s := ⟨2, ![1792, 2048]⟩) off (⟨2, ![n, 2048]⟩ : Shape).size inb)).set ⊆ rowSet 1792 s n :=
    ((whole_access cc0_scratch1 _).trans (rect_set h)).le
  have hg : ∀ i ∈ rowSet 1792 s n, ((Memref.whole cc0_scratch1 : Memref sig .tc _ _ _).access (Rect.unit (s := ⟨2, ![1792, 2048]⟩) off (⟨2, ![n, 2048]⟩ : Shape).size inb)).write (Elt F) (fun i => f (i 0).val (i 1)) w Finset.univ i
      = g (i 0).val (i 1) := by
    intro i hi
    exact whole_written cc0_scratch1 (Rect.unit (s := ⟨2, ![1792, 2048]⟩) off (⟨2, ![n, 2048]⟩ : Shape).size inb) (fun i => f (i 0).val (i 1)) (fun i => g (i 0).val (i 1)) w (fun x => (hw x).trans (rect_emb h g x).symm) i ((rect_set h).ge hi)
  have key := store_gen (F := F) (Memref.whole cc0_scratch1) Q c (r := (Rect.unit (s := ⟨2, ![1792, 2048]⟩) off (⟨2, ![n, 2048]⟩ : Shape).size inb)) (S := rowSet 1792 s n)
    (f := fun i => f (i 0).val (i 1)) (g := fun i => g (i 0).val (i 1)) (w := w) (hx := hx) (hm := hm) (kk := kk) hS hg
  exact key

/-- A load of gather-buffer rows inside an owned region. -/
theorem load_ag {α : Type} (Q : α → sProp 𝕄) (c : Dev nD) {n a k s : ℕ} {f : ℕ → Fin 2048 → F .bf16} {off : Fin 2 → ℕ}
    {inb : ∀ a, off a + (⟨2, ![n, 2048]⟩ : Shape).size a ≤ (⟨2, ![2048, 2048]⟩ : Shape).size a}
    {hl : (Memref.whole cc0_scratch2 : Memref sig .tc _ _ _).view.LoadsAt (Rect.unit (s := ⟨2, ![2048, 2048]⟩) off (⟨2, ![n, 2048]⟩ : Shape).size inb).toLoadRect}
    {kk : Vec F ⟨2, ![n, 2048]⟩ .bf16 → Prog (TpuEff nD τ sig (Elt F) Λ₀ .tc) α}
    (h : off = ![s, 0]) (h1 : a ≤ s) (h2 : s + n ≤ a + k) :
    agP c a k f ⊢ iprop((agP c a k f -∗ WP c (kk fun i => f (s + (i 0).val) (i 1)) Q)
      -∗ WP c (.op (.load (Memref.whole cc0_scratch2) (Rect.unit (s := ⟨2, ![2048, 2048]⟩) off (⟨2, ![n, 2048]⟩ : Shape).size inb).toLoadRect hl) kk) Q) := by
  have hS : (Memref.whole cc0_scratch2 : Memref sig .tc _ _ _).view.setOn (Rect.unit (s := ⟨2, ![2048, 2048]⟩) off (⟨2, ![n, 2048]⟩ : Shape).size inb).set ⊆ rowSet 2048 a k := by
    rw [whole_setOn]; exact (rect_set h).le.trans (rowSet_subset h1 h2)
  have hv : (Memref.whole cc0_scratch2 : Memref sig .tc _ _ _).view.readAt (Elt F) (Rect.unit (s := ⟨2, ![2048, 2048]⟩) off (⟨2, ![n, 2048]⟩ : Shape).size inb).toLoadRect (fun i => f (i 0).val (i 1))
      = fun i => f (s + (i 0).val) (i 1) := by
    funext i; exact rect_emb h f i
  exact load_gen (Memref.whole cc0_scratch2) Q c hS hv

/-- A store of the whole of an owned region of gather-buffer rows. -/
theorem store_ag {α : Type} (Q : α → sProp 𝕄) (c : Dev nD) {n s : ℕ} {f : ℕ → Fin 2048 → F .bf16} (g : ℕ → Fin 2048 → F .bf16) {off : Fin 2 → ℕ}
    {inb : ∀ a, off a + (⟨2, ![n, 2048]⟩ : Shape).size a ≤ (⟨2, ![2048, 2048]⟩ : Shape).size a} {w : Vec F ⟨2, ![n, 2048]⟩ .bf16}
    {hx : ((Memref.whole cc0_scratch2 : Memref sig .tc _ _ _).access (Rect.unit (s := ⟨2, ![2048, 2048]⟩) off (⟨2, ![n, 2048]⟩ : Shape).size inb)).Stores Finset.univ}
    {hm : (Finset.univ : Finset (Rect.unit (s := ⟨2, ![2048, 2048]⟩) off (⟨2, ![n, 2048]⟩ : Shape).size inb).shape.Idx) = Finset.univ ∨ ∀ a, (Rect.unit (s := ⟨2, ![2048, 2048]⟩) off (⟨2, ![n, 2048]⟩ : Shape).size inb).stride a = 1}
    {kk : PUnit → Prog (TpuEff nD τ sig (Elt F) Λ₀ .tc) α}
    (h : off = ![s, 0]) (hw : ∀ i, w i = g (s + (i 0).val) (i 1)) :
    agP c s n f ⊢ iprop((agP c s n g -∗ WP c (kk ⟨⟩) Q)
      -∗ WP c (.op (.store (Memref.whole cc0_scratch2) (Rect.unit (s := ⟨2, ![2048, 2048]⟩) off (⟨2, ![n, 2048]⟩ : Shape).size inb) w Finset.univ hx hm) kk) Q) := by
  have hS : ((Memref.whole cc0_scratch2 : Memref sig .tc _ _ _).access (Rect.unit (s := ⟨2, ![2048, 2048]⟩) off (⟨2, ![n, 2048]⟩ : Shape).size inb)).set ⊆ rowSet 2048 s n :=
    ((whole_access cc0_scratch2 _).trans (rect_set h)).le
  have hg : ∀ i ∈ rowSet 2048 s n, ((Memref.whole cc0_scratch2 : Memref sig .tc _ _ _).access (Rect.unit (s := ⟨2, ![2048, 2048]⟩) off (⟨2, ![n, 2048]⟩ : Shape).size inb)).write (Elt F) (fun i => f (i 0).val (i 1)) w Finset.univ i
      = g (i 0).val (i 1) := by
    intro i hi
    exact whole_written cc0_scratch2 (Rect.unit (s := ⟨2, ![2048, 2048]⟩) off (⟨2, ![n, 2048]⟩ : Shape).size inb) (fun i => f (i 0).val (i 1)) (fun i => g (i 0).val (i 1)) w (fun x => (hw x).trans (rect_emb h g x).symm) i ((rect_set h).ge hi)
  have key := store_gen (F := F) (Memref.whole cc0_scratch2) Q c (r := (Rect.unit (s := ⟨2, ![2048, 2048]⟩) off (⟨2, ![n, 2048]⟩ : Shape).size inb)) (S := rowSet 2048 s n)
    (f := fun i => f (i 0).val (i 1)) (g := fun i => g (i 0).val (i 1)) (w := w) (hx := hx) (hm := hm) (kk := kk) hS hg
  exact key

end Cert.Fly

end
-- ==== Proof.Moves.lean ====
/-
# The kernel's transfers and waits

The rules for the remote copies and for the waits on their semaphores, said of the running state `St` of a device: the
transfers it has still to start, what it owes for them, and the semaphores it has finished with.
-/
module

public import proofs.«01_k».proof.Proof.Steps

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x256 .f32) (Wt : Dev nD → Vec F S256x2048 .f32)

/-! ## The cells -/

/-- A device's cells: its barrier cell and the two cells of each transfer. -/
abbrev Ci : Type := Option (Xf × Bool)
/-- The cell a name stands for: the barrier's, or one end of a transfer. -/
def kcell (ck : Dev nD × Ci) : GSem nD τ sig := match ck.2 with
  | none => barCell ck.1
  | some (x, b) => xcell ck.1 x b

/-- Every cell's invariant, and that every cell is at round 0. -/
def records (K : Dev nD × Ci → ℕ) : sProp 𝕄 :=
  iprop((bigSep Finset.univ fun ck : Dev nD × Ci => cellInv ER (Rd X Wt) (K ck) (kcell ck))
    ∗ bigSep Finset.univ fun ck : Dev nD × Ci => reached ER (kcell ck) 0)

/-- The records may be used again and again. -/
instance records_persistent (K : Dev nD × Ci → ℕ) : BI.Persistent (records (F := F) X Wt K) := by unfold records; infer_instance

/-- The record of a cell's invariant, by the cell's name. -/
theorem inv_at' (K : Dev nD × Ci → ℕ) (ck : Dev nD × Ci) :
    (bigSep Finset.univ fun ck : Dev nD × Ci => (cellInv ER (Rd X Wt) (K ck) (kcell ck) : sProp 𝕄)) ⊢ cellInv ER (Rd X Wt) (K ck) (kcell ck) :=
  bigSep_elim (Finset.mem_univ ck)
/-- The record that a cell has begun its round, by the cell's name. -/
theorem reached_at' (ck : Dev nD × Ci) :
    (bigSep Finset.univ fun ck : Dev nD × Ci => (reached ER (kcell ck) 0 : sProp 𝕄)) ⊢ reached ER (kcell ck) 0 :=
  bigSep_elim (Finset.mem_univ ck)
/-- Every cell's invariant is on record. -/
theorem inv_at (K : Dev nD × Ci → ℕ) (ck : Dev nD × Ci) : (records X Wt K : sProp 𝕄) ⊢ cellInv ER (Rd X Wt) (K ck) (kcell ck) := by
  unfold records; iintro ⟨#HI, -⟩
  iapply (inv_at' X Wt K ck); iexact HI
/-- Every cell is on record to have begun its round. -/
theorem reached_at (K : Dev nD × Ci → ℕ) (ck : Dev nD × Ci) : (records X Wt K : sProp 𝕄) ⊢ reached ER (kcell ck) 0 := by
  unfold records; iintro ⟨-, #HI⟩
  iapply (reached_at' (F := F) ck); iexact HI

/-! ## The running state -/

/-- What device `c` needs to start transfer `x` and to wait for it. -/
def item (c : Dev nD) (x : Xf) : sProp 𝕄 :=
  iprop((dutyTok ER (xcell c x false) 0 0 ∗ dutyTok ER (xcell (partner (tdim x) c) x true) 0 0)
    ∗ (atPos ER (xcell c x false) 0 ∅ 0 ∗ atPos ER (xcell c x true) 0 ∅ 0 ∗ cred (tallyAt (xcell c x true) () (amt x)))
    ∗ ∃ f, dstP (F := F) (partner (tdim x) c) c x f)
/-- The transfers `l` still to be started. -/
def todo (c : Dev nD) : List Xf → sProp 𝕄
  | [] => iprop(emp)
  | x :: l => iprop(item c x ∗ todo c l)
/-- The semaphores of the transfers `d`, back at zero. -/
def closed (c : Dev nD) : List Xf → sProp 𝕄
  | [] => iprop(emp)
  | x :: d => iprop((semVal (xcell c x false) 0 ∗ semVal (xcell c x true) 0) ∗ closed c d)
/-- Device `c` with the transfers `l` to start and the transfers `d` finished. -/
def St (K : Dev nD × Ci → ℕ) (c : Dev nD) (l d : List Xf) : sProp 𝕄 :=
  iprop(records X Wt K ∗ levAts L lv ∗ todo c l ∗ closed (F := F) c d ∗ ∃ W, owes (c : Thread nD τ) (owed c l) W)
/-- Transfer `x` under way. -/
def fly (c : Dev nD) (x : Xf) : sProp 𝕄 :=
  iprop(cred (tallyAt (xcell c x false) () (amt x)) ∗ atPos ER (xcell c x false) 0 ∅ 0 ∗ atPos ER (xcell c x true) 0 ∅ 0
    ∗ cred (tallyAt (xcell c x true) () (amt x)))
/-- Transfer `x` with its own rows back, waiting for the partner's. -/
def fly2 (c : Dev nD) (x : Xf) : sProp 𝕄 :=
  iprop(semVal (xcell c x false) 0 ∗ atPos ER (xcell c x true) 0 ∅ 0 ∗ cred (tallyAt (xcell c x true) () (amt x)))

variable (K : Dev nD × Ci → ℕ)

/-- A transfer, of any views: the rows it reads hold what the schedule says, and so will those it writes. -/
theorem start_gen {α : Type} (Q : α → sProp 𝕄) (c e : Dev nD) (x : Xf) (hu : used x = true) (he : e = partner (tdim x) c) (l d : List Xf)
    {s : Shape} {src dst : Memref sig .tc .vmem s .bf16} {s1 s2 : DmaSem sig} (h1 : s1 = xsem x false) (h2 : s2 = xsem x true)
    {hsc : dst.view.ref.isScScratch = false} {hsrc : src.view.WordExact} {hdst : dst.view.WordExact}
    {hsem : DmaTarget.Typed .vmem (.dma s2) (.remote (Dev.tc e : Thread nD τ) dst (.dma s1) hsc)}
    {kk : PUnit → Prog (TpuEff nD τ sig (Elt F) Λ₀ .tc) α}
    (hs : s = ⟨2, ![tlen x, 2048]⟩)
    (fs : Buf (Elt F) (src.view.loc (c : Thread nD τ))) (fd : (ℕ → Fin 2048 → F .bf16) → Buf (Elt F) (dst.view.loc (Dev.tc e : Thread nD τ)))
    (hS : srcP c x (tval X Wt c x) = (src.view.loc (c : Thread nD τ) ↦[src.view.set]{fullShare} fs : sProp 𝕄))
    (hD : ∀ f, dstP e c x f = (dst.view.loc (Dev.tc e : Thread nD τ) ↦[dst.view.set]{fullShare} fd f : sProp 𝕄))
    (hP : ∀ f, (dst.view.loc (Dev.tc e : Thread nD τ) ↦[dst.view.set]{fullShare}
        (dst.view.write (Elt F) (fd f) (src.view.read (Elt F) fs) Finset.univ) : sProp 𝕄) ⊢ dstP e c x (tval X Wt c x)) :
    iprop(St X Wt K c (x :: l) d ∗ srcP c x (tval X Wt c x))
      ⊢ iprop(((fly (F := F) c x ∗ St X Wt K c l d) -∗ WP c (kk ⟨⟩) Q)
        -∗ WP c (.op (.enqueueDma src (.remote (Dev.tc e : Thread nD τ) dst (.dma s1) hsc) (.dma s2) hsrc hdst hsem) kk) Q) := by
  subst he h1 h2 hs
  rw [show St X Wt K c (x :: l) d = iprop(records X Wt K ∗ levAts L lv ∗ (item c x ∗ todo c l) ∗ closed (F := F) c d
    ∗ ∃ W, owes (c : Thread nD τ) (owed c (x :: l)) W) from rfl]
  unfold St item
  iintro ⟨⟨#HR, #HL, ⟨⟨⟨HtS, HtR⟩, ⟨HaS, HaR, HcR⟩, %f, Hd⟩, Htodo⟩, Hcl, %W, HO⟩, Hs⟩ Hk
  ihave Hs := (Entails.of_eq hS) $$ Hs
  ihave Hd := (Entails.of_eq (hD f)) $$ Hd
  iapply (Rounds.wp_send_pointsTo 𝒱₀ ER (Rd X Wt) (c : Thread nD τ) none (κ₁ := K (c, some (x, false))) (κ₂ := K (partner (tdim x) c, some (x, true)))
    (r₁ := 0) (r₂ := 0) (d₁ := 0) (d₂ := 0) (fs := fs) (fd := fd f)
    (by rw [duties_x X Wt c x false hu]; exact Finset.mem_singleton_self _) (by rw [duties_x X Wt (partner (tdim x) c) x true hu]; exact Finset.mem_singleton_self _)
    () () (amt x) rfl (amount_x X Wt c x false 0) (amount_x X Wt (partner (tdim x) c) x true 0) (owed c l) rfl (W := W)
    (by rw [payload_snd]; unfold sndPay; rw [hS])
    (by rw [payload_rcv]; unfold rcvPay; rw [partner_partner]; exact hP f)) $$ [Hs Hd HO HtS HtR]
  · isplitr; · iapply (inv_at X Wt K (c, some (x, false))); iexact HR
    isplitr; · iapply (inv_at X Wt K (partner (tdim x) c, some (x, true))); iexact HR
    isplitl [Hs]; · iexact Hs
    isplitl [Hd]; · iexact Hd
    isplitl [HO]; · iexact HO
    isplitl [HtS]; · iexact HtS
    isplitr; · iapply (reached_at X Wt K (c, some (x, false))); iexact HR
    isplitl [HtR]; · iexact HtR
    iapply (reached_at X Wt K (partner (tdim x) c, some (x, true))); iexact HR
  iintro ⟨HcS, HO⟩
  iapply Hk
  unfold fly
  isplitl [HcS HaS HaR HcR]
  · isplitl [HcS]; · iexact HcS
    isplitl [HaS]; · iexact HaS
    isplitl [HaR] <;> iassumption
  isplitr; · iexact HR
  isplitr; · iexact HL
  isplitl [Htodo]; · iexact Htodo
  isplitl [Hcl]; · iexact Hcl
  iexists W; iexact HO

/-- The wait for a transfer's own rows to be read: they come back, and the semaphore is finished with. -/
theorem wait_snd {α : Type} (Q : α → sProp 𝕄) (c : Dev nD) (x : Xf) (hu : used x = true) (l d : List Xf)
    {s : Shape} {a b : Memref sig .tc .vmem s .bf16} {s1 : DmaSem sig} (h1 : s1 = xsem x false) (hs : s = ⟨2, ![tlen x, 2048]⟩)
    {ha : a.view.WordExact} {hb : b.view.WordExact} {kk : PUnit → Prog (TpuEff nD τ sig (Elt F) Λ₀ .tc) α} :
    iprop(St X Wt K c l d ∗ fly (F := F) c x)
      ⊢ iprop(((St X Wt K c l d ∗ fly2 (F := F) c x ∗ srcP c x (tval X Wt c x)) -∗ WP c (kk ⟨⟩) Q)
        -∗ WP c (.op (.waitDma2 s1 a b ha hb) kk) Q) := by
  subst h1 hs
  unfold St fly fly2
  iintro ⟨⟨#HR, #HL, Htodo, Hcl, %W, HO⟩, HcS, HaS, HaR, HcR⟩ Hk
  iapply (Rounds.wp_wait_rest_token 𝒱₀ ER (Rd X Wt) (c : Thread nD τ) none (κ := K (c, some (x, false)))
      (wpE_waitDma2_eq 𝒱₀ (c : Thread nD τ) none Set.univ) (Set.mem_univ _) () (O := owed c l) (W := W) (R := 0) (m := 0) (T := ∅)
      (by rw [Nat.zero_add, expect_x X Wt c x false hu]; rfl)) $$ [HcS HO HaS]
  · isplitr; · iapply (inv_at X Wt K (c, some (x, false))); iexact HR
    isplitl [HcS]; · iexact HcS
    isplitl [HO]; · iexact HO
    isplitr; · iapply (mayWait c (.dma (xsem x false)) l (fun y _ => by rw [lev_snd]; omega)); iexact HL
    iexact HaS
  iintro ⟨HO, HaS, -, Hpay⟩
  imod (Rounds.cell_close ER (Rd X Wt) (Set.mem_univ (K (c, some (x, false)))) (fun h => h) (R := 0 + 1) (duties_later X Wt (xcell c x false))) $$ [HaS] with HzS
  · isplitr; · iapply (inv_at X Wt K (c, some (x, false))); iexact HR
    iexact HaS
  ihave Hp := (Entails.of_eq (rest_snd X Wt c x hu)) $$ Hpay
  iapply Hk
  unfold sndPay
  isplitl [Htodo Hcl HO]
  · isplitr; · iexact HR
    isplitr; · iexact HL
    isplitl [Htodo]; · iexact Htodo
    isplitl [Hcl]; · iexact Hcl
    iexists _; iexact HO
  isplitl [HzS HaR HcR]
  · isplitl [HzS]; · iexact HzS
    isplitl [HaR] <;> iassumption
  iexact Hp

/-- The wait for the partner's rows, which come with it. -/
theorem wait_rcv {α : Type} (Q : α → sProp 𝕄) (c : Dev nD) (x : Xf) (hu : used x = true) (l d : List Xf) (hl : ∀ y ∈ l, order.idxOf x < order.idxOf y)
    {s : Shape} {a b : Memref sig .tc .vmem s .bf16} {s1 : DmaSem sig} (h1 : s1 = xsem x true) (hs : s = ⟨2, ![tlen x, 2048]⟩)
    {ha : a.view.WordExact} {hb : b.view.WordExact} {kk : PUnit → Prog (TpuEff nD τ sig (Elt F) Λ₀ .tc) α} :
    iprop(St X Wt K c l d ∗ fly2 (F := F) c x)
      ⊢ iprop(((St X Wt K c l (x :: d) ∗ rcvPay X Wt c x) -∗ WP c (kk ⟨⟩) Q)
        -∗ WP c (.op (.waitDma2 s1 a b ha hb) kk) Q) := by
  subst h1 hs
  unfold fly2
  rw [show St X Wt K c l (x :: d) = iprop(records X Wt K ∗ levAts L lv ∗ todo c l ∗ ((semVal (xcell c x false) 0 ∗ semVal (xcell c x true) 0) ∗ closed (F := F) c d)
    ∗ ∃ W, owes (c : Thread nD τ) (owed c l) W) from rfl]
  unfold St
  iintro ⟨⟨#HR, #HL, Htodo, Hcl, %W, HO⟩, HzS, HaR, HcR⟩ Hk
  iapply (Rounds.wp_wait_rest_token 𝒱₀ ER (Rd X Wt) (c : Thread nD τ) none (κ := K (c, some (x, true)))
      (wpE_waitDma2_eq 𝒱₀ (c : Thread nD τ) none Set.univ) (Set.mem_univ _) () (O := owed c l) (W := W) (R := 0) (m := 0) (T := ∅)
      (by rw [Nat.zero_add, expect_x X Wt c x true hu]; rfl)) $$ [HcR HO HaR]
  · isplitr; · iapply (inv_at X Wt K (c, some (x, true))); iexact HR
    isplitl [HcR]; · iexact HcR
    isplitl [HO]; · iexact HO
    isplitr; · iapply (mayWait c (.dma (xsem x true)) l (fun y hy => by rw [lev_rcv]; have := hl y hy; omega)); iexact HL
    iexact HaR
  iintro ⟨HO, HaR, -, Hpay⟩
  imod (Rounds.cell_close ER (Rd X Wt) (Set.mem_univ (K (c, some (x, true)))) (fun h => h) (R := 0 + 1) (duties_later X Wt (xcell c x true))) $$ [HaR] with HzR
  · isplitr; · iapply (inv_at X Wt K (c, some (x, true))); iexact HR
    iexact HaR
  ihave Hp := (Entails.of_eq (rest_rcv X Wt c x hu)) $$ Hpay
  iapply Hk
  isplitl [Htodo Hcl HO HzS HzR]
  · isplitr; · iexact HR
    isplitr; · iexact HL
    isplitl [Htodo]; · iexact Htodo
    isplitl [Hcl HzS HzR]
    · isplitl [HzS HzR]
      · isplitl [HzS] <;> iassumption
      iexact Hcl
    iexists _; iexact HO
  iexact Hp

/-- A transfer of the reduction: from the send buffer to the partner's receive buffer. -/
theorem start_rs {α : Type} (Q : α → sProp 𝕄) (c : Dev nD) {e : Dev nD} (x : Xf) (hu : used x = true) (hx : x.2.val < 3) (he : e = partner (tdim x) c) (l d : List Xf)
    {n : ℕ} (hn : n = tlen x) {off1 off2 : Fin 2 → ℕ} (ho1 : off1 = ![tstart c x, 0]) (ho2 : off2 = ![tstart c x, 0])
    {inb1 : ∀ a, off1 a + (⟨2, ![n, 2048]⟩ : Shape).size a ≤ (⟨2, ![1792, 2048]⟩ : Shape).size a}
    {inb2 : ∀ a, off2 a + (⟨2, ![n, 2048]⟩ : Shape).size a ≤ (⟨2, ![1792, 2048]⟩ : Shape).size a}
    {s1 s2 : DmaSem sig} (h1 : s1 = xsem x false) (h2 : s2 = xsem x true)
    {hu1 : ∀ a, (Rect.unit (s := ⟨2, ![1792, 2048]⟩) off1 (⟨2, ![n, 2048]⟩ : Shape).size inb1).stride a = 1} {hu2 : ∀ a, (Rect.unit (s := ⟨2, ![1792, 2048]⟩) off2 (⟨2, ![n, 2048]⟩ : Shape).size inb2).stride a = 1}
    {hsc : ((Memref.whole cc0_scratch0 : Memref sig .tc .vmem ⟨2, ![1792, 2048]⟩ .bf16).slice (Rect.unit (s := ⟨2, ![1792, 2048]⟩) off2 (⟨2, ![n, 2048]⟩ : Shape).size inb2) hu2).view.ref.isScScratch = false} {hsrc : ((Memref.whole cc0_scratch1 : Memref sig .tc .vmem ⟨2, ![1792, 2048]⟩ .bf16).slice (Rect.unit (s := ⟨2, ![1792, 2048]⟩) off1 (⟨2, ![n, 2048]⟩ : Shape).size inb1) hu1).view.WordExact} {hdst : ((Memref.whole cc0_scratch0 : Memref sig .tc .vmem ⟨2, ![1792, 2048]⟩ .bf16).slice (Rect.unit (s := ⟨2, ![1792, 2048]⟩) off2 (⟨2, ![n, 2048]⟩ : Shape).size inb2) hu2).view.WordExact}
    {hsem : DmaTarget.Typed .vmem (.dma s2) (.remote (Dev.tc e : Thread nD τ) ((Memref.whole cc0_scratch0 : Memref sig .tc .vmem ⟨2, ![1792, 2048]⟩ .bf16).slice (Rect.unit (s := ⟨2, ![1792, 2048]⟩) off2 (⟨2, ![n, 2048]⟩ : Shape).size inb2) hu2) (.dma s1) hsc)}
    {kk : PUnit → Prog (TpuEff nD τ sig (Elt F) Λ₀ .tc) α} :
    iprop(St X Wt K c (x :: l) d ∗ srcP c x (tval X Wt c x))
      ⊢ iprop(((fly (F := F) c x ∗ St X Wt K c l d) -∗ WP c (kk ⟨⟩) Q)
        -∗ WP c (.op (.enqueueDma ((Memref.whole cc0_scratch1 : Memref sig .tc .vmem ⟨2, ![1792, 2048]⟩ .bf16).slice (Rect.unit (s := ⟨2, ![1792, 2048]⟩) off1 (⟨2, ![n, 2048]⟩ : Shape).size inb1) hu1) (.remote (Dev.tc e : Thread nD τ) ((Memref.whole cc0_scratch0 : Memref sig .tc .vmem ⟨2, ![1792, 2048]⟩ .bf16).slice (Rect.unit (s := ⟨2, ![1792, 2048]⟩) off2 (⟨2, ![n, 2048]⟩ : Shape).size inb2) hu2) (.dma s1) hsc) (.dma s2) hsrc hdst hsem) kk) Q) := by
  have e1 : ((Memref.whole cc0_scratch1 : Memref sig .tc .vmem ⟨2, ![1792, 2048]⟩ .bf16).slice (Rect.unit (s := ⟨2, ![1792, 2048]⟩) off1 (⟨2, ![n, 2048]⟩ : Shape).size inb1) hu1).view.set = rowSet 1792 (tstart c x) (tlen x) := by
    rw [← hn]; exact (View.set_slice_whole cc0_scratch1 (Rect.unit (s := ⟨2, ![1792, 2048]⟩) off1 (⟨2, ![n, 2048]⟩ : Shape).size inb1)).trans (rect_set ho1)
  have e2 : ((Memref.whole cc0_scratch0 : Memref sig .tc .vmem ⟨2, ![1792, 2048]⟩ .bf16).slice (Rect.unit (s := ⟨2, ![1792, 2048]⟩) off2 (⟨2, ![n, 2048]⟩ : Shape).size inb2) hu2).view.set = rowSet 1792 (tstart c x) (tlen x) := by
    rw [← hn]; exact (View.set_slice_whole cc0_scratch0 (Rect.unit (s := ⟨2, ![1792, 2048]⟩) off2 (⟨2, ![n, 2048]⟩ : Shape).size inb2)).trans (rect_set ho2)
  refine start_gen X Wt K Q c e x hu he l d (src := ((Memref.whole cc0_scratch1 : Memref sig .tc .vmem ⟨2, ![1792, 2048]⟩ .bf16).slice (Rect.unit (s := ⟨2, ![1792, 2048]⟩) off1 (⟨2, ![n, 2048]⟩ : Shape).size inb1) hu1)) (dst := ((Memref.whole cc0_scratch0 : Memref sig .tc .vmem ⟨2, ![1792, 2048]⟩ .bf16).slice (Rect.unit (s := ⟨2, ![1792, 2048]⟩) off2 (⟨2, ![n, 2048]⟩ : Shape).size inb2) hu2)) h1 h2 (by subst hn; rfl)
    (fun i => tval X Wt c x (i 0).val (i 1)) (fun f i => f (i 0).val (i 1)) ?_ ?_ ?_
  · unfold srcP; rw [if_pos hx, e1]; rfl
  · intro f; unfold dstP; rw [if_pos hx, e2]; rfl
  · intro f
    unfold dstP; rw [if_pos hx, e2]
    refine Entails.of_eq (pointsTo_congr fun i hi => ?_)
    rw [← hn] at hi
    refine whole_written cc0_scratch0 (Rect.unit (s := ⟨2, ![1792, 2048]⟩) off2 (⟨2, ![n, 2048]⟩ : Shape).size inb2) (fun i => f (i 0).val (i 1)) (fun i => tval X Wt c x (i 0).val (i 1)) _ (fun j => ?_) i ((rect_set ho2).ge hi)
    exact (rect_emb ho1 (tval X Wt c x) j).trans (rect_emb ho2 (tval X Wt c x) j).symm

/-- A transfer of the gathering: from the gather buffer to the same rows of the partner's. -/
theorem start_ag {α : Type} (Q : α → sProp 𝕄) (c : Dev nD) {e : Dev nD} (x : Xf) (hu : used x = true) (hx : ¬x.2.val < 3) (he : e = partner (tdim x) c) (l d : List Xf)
    {n : ℕ} (hn : n = tlen x) {off1 off2 : Fin 2 → ℕ} (ho1 : off1 = ![tstart c x, 0]) (ho2 : off2 = ![tstart c x, 0])
    {inb1 : ∀ a, off1 a + (⟨2, ![n, 2048]⟩ : Shape).size a ≤ (⟨2, ![2048, 2048]⟩ : Shape).size a}
    {inb2 : ∀ a, off2 a + (⟨2, ![n, 2048]⟩ : Shape).size a ≤ (⟨2, ![2048, 2048]⟩ : Shape).size a}
    {s1 s2 : DmaSem sig} (h1 : s1 = xsem x false) (h2 : s2 = xsem x true)
    {hu1 : ∀ a, (Rect.unit (s := ⟨2, ![2048, 2048]⟩) off1 (⟨2, ![n, 2048]⟩ : Shape).size inb1).stride a = 1} {hu2 : ∀ a, (Rect.unit (s := ⟨2, ![2048, 2048]⟩) off2 (⟨2, ![n, 2048]⟩ : Shape).size inb2).stride a = 1}
    {hsc : ((Memref.whole cc0_scratch2 : Memref sig .tc .vmem ⟨2, ![2048, 2048]⟩ .bf16).slice (Rect.unit (s := ⟨2, ![2048, 2048]⟩) off2 (⟨2, ![n, 2048]⟩ : Shape).size inb2) hu2).view.ref.isScScratch = false} {hsrc : ((Memref.whole cc0_scratch2 : Memref sig .tc .vmem ⟨2, ![2048, 2048]⟩ .bf16).slice (Rect.unit (s := ⟨2, ![2048, 2048]⟩) off1 (⟨2, ![n, 2048]⟩ : Shape).size inb1) hu1).view.WordExact} {hdst : ((Memref.whole cc0_scratch2 : Memref sig .tc .vmem ⟨2, ![2048, 2048]⟩ .bf16).slice (Rect.unit (s := ⟨2, ![2048, 2048]⟩) off2 (⟨2, ![n, 2048]⟩ : Shape).size inb2) hu2).view.WordExact}
    {hsem : DmaTarget.Typed .vmem (.dma s2) (.remote (Dev.tc e : Thread nD τ) ((Memref.whole cc0_scratch2 : Memref sig .tc .vmem ⟨2, ![2048, 2048]⟩ .bf16).slice (Rect.unit (s := ⟨2, ![2048, 2048]⟩) off2 (⟨2, ![n, 2048]⟩ : Shape).size inb2) hu2) (.dma s1) hsc)}
    {kk : PUnit → Prog (TpuEff nD τ sig (Elt F) Λ₀ .tc) α} :
    iprop(St X Wt K c (x :: l) d ∗ srcP c x (tval X Wt c x))
      ⊢ iprop(((fly (F := F) c x ∗ St X Wt K c l d) -∗ WP c (kk ⟨⟩) Q)
        -∗ WP c (.op (.enqueueDma ((Memref.whole cc0_scratch2 : Memref sig .tc .vmem ⟨2, ![2048, 2048]⟩ .bf16).slice (Rect.unit (s := ⟨2, ![2048, 2048]⟩) off1 (⟨2, ![n, 2048]⟩ : Shape).size inb1) hu1) (.remote (Dev.tc e : Thread nD τ) ((Memref.whole cc0_scratch2 : Memref sig .tc .vmem ⟨2, ![2048, 2048]⟩ .bf16).slice (Rect.unit (s := ⟨2, ![2048, 2048]⟩) off2 (⟨2, ![n, 2048]⟩ : Shape).size inb2) hu2) (.dma s1) hsc) (.dma s2) hsrc hdst hsem) kk) Q) := by
  have e1 : ((Memref.whole cc0_scratch2 : Memref sig .tc .vmem ⟨2, ![2048, 2048]⟩ .bf16).slice (Rect.unit (s := ⟨2, ![2048, 2048]⟩) off1 (⟨2, ![n, 2048]⟩ : Shape).size inb1) hu1).view.set = rowSet 2048 (tstart c x) (tlen x) := by
    rw [← hn]; exact (View.set_slice_whole cc0_scratch2 (Rect.unit (s := ⟨2, ![2048, 2048]⟩) off1 (⟨2, ![n, 2048]⟩ : Shape).size inb1)).trans (rect_set ho1)
  have e2 : ((Memref.whole cc0_scratch2 : Memref sig .tc .vmem ⟨2, ![2048, 2048]⟩ .bf16).slice (Rect.unit (s := ⟨2, ![2048, 2048]⟩) off2 (⟨2, ![n, 2048]⟩ : Shape).size inb2) hu2).view.set = rowSet 2048 (tstart c x) (tlen x) := by
    rw [← hn]; exact (View.set_slice_whole cc0_scratch2 (Rect.unit (s := ⟨2, ![2048, 2048]⟩) off2 (⟨2, ![n, 2048]⟩ : Shape).size inb2)).trans (rect_set ho2)
  refine start_gen X Wt K Q c e x hu he l d (src := ((Memref.whole cc0_scratch2 : Memref sig .tc .vmem ⟨2, ![2048, 2048]⟩ .bf16).slice (Rect.unit (s := ⟨2, ![2048, 2048]⟩) off1 (⟨2, ![n, 2048]⟩ : Shape).size inb1) hu1)) (dst := ((Memref.whole cc0_scratch2 : Memref sig .tc .vmem ⟨2, ![2048, 2048]⟩ .bf16).slice (Rect.unit (s := ⟨2, ![2048, 2048]⟩) off2 (⟨2, ![n, 2048]⟩ : Shape).size inb2) hu2)) h1 h2 (by subst hn; rfl)
    (fun i => tval X Wt c x (i 0).val (i 1)) (fun f i => f (i 0).val (i 1)) ?_ ?_ ?_
  · unfold srcP; rw [if_neg hx, e1]; rfl
  · intro f; unfold dstP; rw [if_neg hx, e2]; rfl
  · intro f
    unfold dstP; rw [if_neg hx, e2]
    refine Entails.of_eq (pointsTo_congr fun i hi => ?_)
    rw [← hn] at hi
    refine whole_written cc0_scratch2 (Rect.unit (s := ⟨2, ![2048, 2048]⟩) off2 (⟨2, ![n, 2048]⟩ : Shape).size inb2) (fun i => f (i 0).val (i 1)) (fun i => tval X Wt c x (i 0).val (i 1)) _ (fun j => ?_) i ((rect_set ho2).ge hi)
    exact (rect_emb ho1 (tval X Wt c x) j).trans (rect_emb ho2 (tval X Wt c x) j).symm

end Cert.Fly

end
-- ==== Proof.Blocks.lean ====
/-
# The operands

What a device's blocks of `x` and of `w` hold, and the rules for loading rows of `x` and the whole of `w`.
-/
module

public import proofs.«01_k».proof.Proof.Moves

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x256 .f32) (Wt : Dev nD → Vec F S256x2048 .f32)

/-- Device `c`'s block of `x`, staged. -/
def xP (c : Dev nD) : sProp 𝕄 := ((c : Thread nD τ).loc cc0_stg0_0) ↦{fullShare} X c
/-- Device `c`'s block of `w`, staged. -/
def wP (c : Dev nD) : sProp 𝕄 := ((c : Thread nD τ).loc cc0_stg1_0) ↦{fullShare} Wt c

/-- A load of rows of `x`. -/
theorem load_x {α : Type} (Q : α → sProp 𝕄) (c : Dev nD) {n a : ℕ} {offx : Fin 2 → ℕ} (h : offx = ![a, 0]) (hn : a + n ≤ 2048)
    {inbx : ∀ a, offx a + (⟨2, ![n, 256]⟩ : Shape).size a ≤ S2048x256.size a} {hl : (Memref.whole cc0_stg0_0 : Memref sig .tc _ _ _).view.LoadsAt (Rect.unit (s := S2048x256) offx (⟨2, ![n, 256]⟩ : Shape).size inbx).toLoadRect}
    {kk : Vec F ⟨2, ![n, 256]⟩ .f32 → Prog (TpuEff nD τ sig (Elt F) Λ₀ .tc) α} :
    xP X c ⊢ iprop((xP X c -∗ WP c (kk (xrows X c n a)) Q) -∗ WP c (.op (.load (Memref.whole cc0_stg0_0) (Rect.unit (s := S2048x256) offx (⟨2, ![n, 256]⟩ : Shape).size inbx).toLoadRect hl) kk) Q) := by
  subst h
  have hv : (Memref.whole cc0_stg0_0 : Memref sig .tc _ _ _).view.readAt (Elt F) (Rect.unit (s := S2048x256) ![a, 0] (⟨2, ![n, 256]⟩ : Shape).size inbx).toLoadRect (X c) = xrows X c n a := by
    funext i
    show X c ((Rect.unit (s := S2048x256) ![a, 0] (⟨2, ![n, 256]⟩ : Shape).size inbx).emb i) = X c _
    refine congrArg (X c) (funext fun b => Fin.ext ?_)
    have hi : (i 0).val < n := (i 0).isLt
    rw [Rect.emb_apply]
    match b with
    | ⟨0, _⟩ => show a + 1 * (i 0).val = (a + (i 0).val) % 2048; rw [Nat.mod_eq_of_lt (by omega)]; omega
    | ⟨1, _⟩ => show 0 + 1 * (i 1).val = (i 1).val; omega
  exact load_gen (Memref.whole cc0_stg0_0) Q c (Finset.subset_univ _) hv

/-- A load of the whole of `w`. -/
theorem load_w {α : Type} (Q : α → sProp 𝕄) (c : Dev nD) {offw : Fin 2 → ℕ} (h : offw = ![0, 0])
    {inbw : ∀ a, offw a + S256x2048.size a ≤ S256x2048.size a} {hl : (Memref.whole cc0_stg1_0 : Memref sig .tc _ _ _).view.LoadsAt (Rect.unit (s := S256x2048) offw S256x2048.size inbw).toLoadRect}
    {kk : Vec F S256x2048 .f32 → Prog (TpuEff nD τ sig (Elt F) Λ₀ .tc) α} :
    wP Wt c ⊢ iprop((wP Wt c -∗ WP c (kk (Wt c)) Q) -∗ WP c (.op (.load (Memref.whole cc0_stg1_0) (Rect.unit (s := S256x2048) offw S256x2048.size inbw).toLoadRect hl) kk) Q) := by
  have hz : offw = fun _ => 0 := by subst h; funext a; fin_cases a <;> rfl
  have hv : (Memref.whole cc0_stg1_0 : Memref sig .tc _ _ _).view.readAt (Elt F) (Rect.unit (s := S256x2048) offw S256x2048.size inbw).toLoadRect (Wt c) = Wt c := Memref.readAt_unit_zero (Elt F) cc0_stg1_0 hz _ _
  exact load_gen (Memref.whole cc0_stg1_0) Q c (Finset.subset_univ _) hv

end Cert.Fly

end
-- ==== Proof.Split.lean ====
/-
# Cutting and joining regions of rows

A region of consecutive rows is the two regions it is cut into. Here are the cuts the kernel makes — a part into the half a
device keeps and the half it sends, again and again — and the joins that undo them.
-/
module

public import proofs.«01_k».proof.Proof.Blocks

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Regions -/

/-- Consecutive rows are the first of them and the rest. -/
theorem rowSet_union (n a k l : ℕ) : rowSet n a (k + l) = rowSet n a k ∪ rowSet n (a + k) l := by
  ext i; unfold rowSet
  simp only [Finset.mem_union, Finset.mem_filter, Finset.mem_univ, true_and]
  omega
/-- These do not overlap. -/
theorem rowSet_disjoint (n a k l : ℕ) : Disjoint (rowSet n a k) (rowSet n (a + k) l) := by
  rw [Finset.disjoint_left]; intro i h h'
  unfold rowSet at h h'
  simp only [Finset.mem_filter, Finset.mem_univ, true_and] at h h'
  omega
/-- All rows are the whole buffer. -/
theorem rowSet_univ (n : ℕ) : rowSet n 0 n = Finset.univ := by
  unfold rowSet
  refine Finset.filter_true_of_mem fun i _ => ⟨Nat.zero_le _, ?_⟩
  rw [Nat.zero_add]; exact (i 0).isLt

/-- An assertion about consecutive rows that splits between any two of them and depends on the contents of those rows only. -/
structure Rows {F : FTy → Type} {β : Type} (P : ℕ → ℕ → (ℕ → Fin 2048 → β) → sProp (MT nD τ sig Unit (Elt F) ℕ UU ℕ)) : Prop where
  split : ∀ a k l f, P a (k + l) f = iprop(P a k f ∗ P (a + k) l f)
  congr : ∀ a k f g, (∀ r j, a ≤ r → r < a + k → f r j = g r j) → P a k f = P a k g

/-- The result can be cut by rows, -/
theorem rows_out (c : Dev nD) : Rows (outP (F := F) c) where
  split a k l f := by
    unfold outP; rw [rowSet_union]; exact Entails.antisymm (pointsTo_union (rowSet_disjoint _ _ _ _)).1 (pointsTo_union (rowSet_disjoint _ _ _ _)).2
  congr a k f g h := pointsTo_congr fun i hi => by
    unfold rowSet at hi; rw [Finset.mem_filter] at hi; exact h _ _ hi.2.1 hi.2.2
/-- so can the receive buffer, -/
theorem rows_rcv (c : Dev nD) : Rows (rcvP (F := F) c) where
  split a k l f := by
    unfold rcvP; rw [rowSet_union]; exact Entails.antisymm (pointsTo_union (rowSet_disjoint _ _ _ _)).1 (pointsTo_union (rowSet_disjoint _ _ _ _)).2
  congr a k f g h := pointsTo_congr fun i hi => by
    unfold rowSet at hi; rw [Finset.mem_filter] at hi; exact h _ _ hi.2.1 hi.2.2
/-- the send buffer -/
theorem rows_snd (c : Dev nD) : Rows (sndP (F := F) c) where
  split a k l f := by
    unfold sndP; rw [rowSet_union]; exact Entails.antisymm (pointsTo_union (rowSet_disjoint _ _ _ _)).1 (pointsTo_union (rowSet_disjoint _ _ _ _)).2
  congr a k f g h := pointsTo_congr fun i hi => by
    unfold rowSet at hi; rw [Finset.mem_filter] at hi; exact h _ _ hi.2.1 hi.2.2
/-- and the gather buffer. -/
theorem rows_ag (c : Dev nD) : Rows (agP (F := F) c) where
  split a k l f := by
    unfold agP; rw [rowSet_union]; exact Entails.antisymm (pointsTo_union (rowSet_disjoint _ _ _ _)).1 (pointsTo_union (rowSet_disjoint _ _ _ _)).2
  congr a k f g h := pointsTo_congr fun i hi => by
    unfold rowSet at hi; rw [Finset.mem_filter] at hi; exact h _ _ hi.2.1 hi.2.2

section Cuts
variable {F : FTy → Type} {β : Type} {P : ℕ → ℕ → (ℕ → Fin 2048 → β) → sProp (MT nD τ sig Unit (Elt F) ℕ UU ℕ)} (hP : Rows P)
include hP

/-- A region of some contents splits. -/
theorem Rows.cut (a k l : ℕ) : iprop(∃ f, P a (k + l) f) ⊢ iprop((∃ f, P a k f) ∗ ∃ f, P (a + k) l f) := by
  iintro ⟨%f, H⟩
  ihave H := (Entails.of_eq (hP.split a k l f)) $$ H
  icases H with ⟨H1, H2⟩
  isplitl [H1]
  · iexists f; iexact H1
  iexists f; iexact H2

/-- Two adjacent regions of some contents join. -/
theorem Rows.join (a k l : ℕ) : iprop((∃ f, P a k f) ∗ ∃ f, P (a + k) l f) ⊢ iprop(∃ f, P a (k + l) f) := by
  iintro ⟨⟨%f, H1⟩, %g, H2⟩
  iexists (fun r j => if r < a + k then f r j else g r j)
  ihave H1 := (Entails.of_eq (hP.congr a k f (fun r j => if r < a + k then f r j else g r j) (fun r j _ h => (if_pos h).symm))) $$ H1
  ihave H2 := (Entails.of_eq (hP.congr (a + k) l g (fun r j => if r < a + k then f r j else g r j) (fun r j h _ => (if_neg (by omega)).symm))) $$ H2
  iapply (Entails.of_eq (hP.split a k l _).symm)
  isplitl [H1] <;> iassumption

end Cuts

/-! ## The halves of the butterfly -/

/-- A device's bit in a dimension is 0 or 1. -/
theorem bit_le (d : Fin 3) (c : Dev nD) : bit d c = 0 ∨ bit d c = 1 := by revert d c; decide
/-- Each stage halves the rows. -/
theorem sz_half (p : Fin 3) (k : Fin 2) : sz p k = sz p (k + 1) + sz p (k + 1) := by revert p k; decide

/-- What is kept at one stage is, in one order or the other, what is kept and what is sent at the next. -/
theorem halves (c : Dev nD) (p : Fin 3) (k : Fin 2) :
    (ks c p (k + 1) = ks c p k ∧ ss c p (k + 1) = ks c p k + sz p (k + 1)) ∨ (ss c p (k + 1) = ks c p k ∧ ks c p (k + 1) = ks c p k + sz p (k + 1)) := by
  revert c p k; decide +kernel
/-- A part's rows are, in one order or the other, what is kept and what is sent at the first stage. -/
theorem halves_top (c : Dev nD) (p : Fin 3) :
    (ks c p 0 = st p ∧ ss c p 0 = st p + sz p 0) ∨ (ss c p 0 = st p ∧ ks c p 0 = st p + sz p 0) := by
  revert c p; decide +kernel

section Halves
variable {F : FTy → Type} {β : Type} {P : ℕ → ℕ → (ℕ → Fin 2048 → β) → sProp (MT nD τ sig Unit (Elt F) ℕ UU ℕ)} (hP : Rows P)
include hP

/-- The kept rows of one stage are the kept and the sent rows of the next. -/
theorem Rows.half (c : Dev nD) (p : Fin 3) (k : Fin 2) (f : ℕ → Fin 2048 → β) :
    P (ks c p k) (sz p k) f = iprop(P (ks c p (k + 1)) (sz p (k + 1)) f ∗ P (ss c p (k + 1)) (sz p (k + 1)) f) := by
  rw [sz_half p k, hP.split]
  rcases halves c p k with ⟨h1, h2⟩ | ⟨h1, h2⟩
  · rw [h1, h2]
  · rw [h1, h2]; exact Entails.antisymm BI.sep_comm BI.sep_comm

/-- The same at the first stage, -/
theorem Rows.half0 (c : Dev nD) (p : Fin 3) (f : ℕ → Fin 2048 → β) :
    P (ks c p 0) (sz p 0) f = iprop(P (ks c p 1) (sz p 1) f ∗ P (ss c p 1) (sz p 1) f) := hP.half c p 0 f
/-- and at the second. -/
theorem Rows.half1 (c : Dev nD) (p : Fin 3) (f : ℕ → Fin 2048 → β) :
    P (ks c p 1) (sz p 1) f = iprop(P (ks c p 2) (sz p 2) f ∗ P (ss c p 2) (sz p 2) f) := hP.half c p 1 f

/-- A part is its kept and its sent rows of the first stage. -/
theorem Rows.half_top (c : Dev nD) (p : Fin 3) (f : ℕ → Fin 2048 → β) :
    P (st p) (sz p 0 + sz p 0) f = iprop(P (ks c p 0) (sz p 0) f ∗ P (ss c p 0) (sz p 0) f) := by
  rw [hP.split]
  rcases halves_top c p with ⟨h1, h2⟩ | ⟨h1, h2⟩
  · rw [h1, h2]
  · rw [h1, h2]; exact Entails.antisymm BI.sep_comm BI.sep_comm

/-- The sent rows of the first stage are two pieces. -/
theorem Rows.two (a : ℕ) (p : Fin 3) (f : ℕ → Fin 2048 → β) :
    P a (sz p 0) f = iprop(P (a + 0 * sz p 1) (sz p 1) f ∗ P (a + 1 * sz p 1) (sz p 1) f) := by
  rw [show sz p 0 = sz p 1 + sz p 1 from sz_half p 0, hP.split, Nat.zero_mul, Nat.one_mul, Nat.add_zero]

/-- The whole of a 2048-row buffer is its three parts. -/
theorem Rows.parts (f : ℕ → Fin 2048 → β) :
    P 0 2048 f = iprop(P (st 0) (sz 0 0 + sz 0 0) f ∗ P (st 1) (sz 1 0 + sz 1 0) f ∗ P (st 2) (sz 2 0 + sz 2 0) f) := by
  rw [show (2048 : ℕ) = 640 + (640 + 768) from rfl, hP.split, hP.split]; rfl

/-- A 2048-row buffer at one contents, cut into every device-`c` piece: what `c` holds at the end of the reduction, and the
    pieces its partners fill, part by part. -/
theorem Rows.pieces (c : Dev nD) (p : Fin 3) (f : ℕ → Fin 2048 → β) :
    P (st p) (sz p 0 + sz p 0) f = iprop(((P (ks c p 2) (sz p 2) f ∗ P (ss c p 2) (sz p 2) f) ∗ P (ss c p 1) (sz p 1) f)
      ∗ P (ss c p 0 + 0 * sz p 1) (sz p 1) f ∗ P (ss c p 0 + 1 * sz p 1) (sz p 1) f) := by
  rw [hP.half_top c p, ← hP.two, hP.half0 c p, hP.half1 c p]

/-- The nine slots of a send or receive buffer. -/
theorem Rows.slots : iprop(∃ f, P 0 1792 f) ⊢ iprop(((∃ f, P (sb 0 0) (sz 0 0) f) ∗ (∃ f, P (sb 0 1) (sz 0 1) f) ∗ ∃ f, P (sb 0 2) (sz 0 2) f)
    ∗ ((∃ f, P (sb 1 0) (sz 1 0) f) ∗ (∃ f, P (sb 1 1) (sz 1 1) f) ∗ ∃ f, P (sb 1 2) (sz 1 2) f)
    ∗ (∃ f, P (sb 2 0) (sz 2 0) f) ∗ (∃ f, P (sb 2 1) (sz 2 1) f) ∗ ∃ f, P (sb 2 2) (sz 2 2) f) := by
  iintro H
  ihave H := (hP.cut 0 (320 + (160 + 80)) (320 + (160 + 80) + (384 + (192 + 96)))) $$ H; icases H with ⟨H0, H⟩
  ihave H := (hP.cut 560 (320 + (160 + 80)) (384 + (192 + 96))) $$ H; icases H with ⟨H1, H2⟩
  ihave H := (hP.cut 0 320 (160 + 80)) $$ H0; icases H with ⟨H00, H⟩
  ihave H := (hP.cut 320 160 80) $$ H; icases H with ⟨H01, H02⟩
  ihave H := (hP.cut 560 320 (160 + 80)) $$ H1; icases H with ⟨H10, H⟩
  ihave H := (hP.cut 880 160 80) $$ H; icases H with ⟨H11, H12⟩
  ihave H := (hP.cut 1120 384 (192 + 96)) $$ H2; icases H with ⟨H20, H⟩
  ihave H := (hP.cut 1504 192 96) $$ H; icases H with ⟨H21, H22⟩
  isplitl [H00 H01 H02]
  · isplitl [H00]; · iexact H00
    isplitl [H01]; · iexact H01
    iexact H02
  isplitl [H10 H11 H12]
  · isplitl [H10]; · iexact H10
    isplitl [H11]; · iexact H11
    iexact H12
  isplitl [H20]; · iexact H20
  isplitl [H21]; · iexact H21
  iexact H22

/-- The nine slots joined again. -/
theorem Rows.unslots : iprop(((∃ f, P (sb 0 0) (sz 0 0) f) ∗ (∃ f, P (sb 0 1) (sz 0 1) f) ∗ ∃ f, P (sb 0 2) (sz 0 2) f)
    ∗ ((∃ f, P (sb 1 0) (sz 1 0) f) ∗ (∃ f, P (sb 1 1) (sz 1 1) f) ∗ ∃ f, P (sb 1 2) (sz 1 2) f)
    ∗ (∃ f, P (sb 2 0) (sz 2 0) f) ∗ (∃ f, P (sb 2 1) (sz 2 1) f) ∗ ∃ f, P (sb 2 2) (sz 2 2) f) ⊢ iprop(∃ f, P 0 1792 f) := by
  iintro ⟨⟨H00, H01, H02⟩, ⟨H10, H11, H12⟩, H20, H21, H22⟩
  ihave H0 := (hP.join 320 160 80) $$ [H01 H02]
  · isplitl [H01]; · iexact H01
    iexact H02
  ihave H0 := (hP.join 0 320 (160 + 80)) $$ [H00 H0]
  · isplitl [H00]; · iexact H00
    iexact H0
  ihave H1 := (hP.join 880 160 80) $$ [H11 H12]
  · isplitl [H11]; · iexact H11
    iexact H12
  ihave H1 := (hP.join 560 320 (160 + 80)) $$ [H10 H1]
  · isplitl [H10]; · iexact H10
    iexact H1
  ihave H2 := (hP.join 1504 192 96) $$ [H21 H22]
  · isplitl [H21]; · iexact H21
    iexact H22
  ihave H2 := (hP.join 1120 384 (192 + 96)) $$ [H20 H2]
  · isplitl [H20]; · iexact H20
    iexact H2
  ihave H := (hP.join 560 (320 + (160 + 80)) (384 + (192 + 96))) $$ [H1 H2]
  · isplitl [H1]; · iexact H1
    iexact H2
  ihave H := (hP.join 0 (320 + (160 + 80)) (320 + (160 + 80) + (384 + (192 + 96)))) $$ [H0 H]
  · isplitl [H0]; · iexact H0
    iexact H
  iexact H

end Halves

/-! ## Whole buffers -/

set_option backward.proofsInPublic true in
/-- The contents of a whole buffer, row by row. -/
def byRow {β : Type} {n : ℕ} (hn : 0 < n) (f : (⟨2, ![n, 2048]⟩ : Shape).Idx → β) (r : ℕ) (j : Fin 2048) : β := f (ix2 ⟨r % n, Nat.mod_lt _ hn⟩ j)

/-- `byRow` reads the buffer at its own indices. -/
theorem byRow_eq {β : Type} {n : ℕ} (hn : 0 < n) (f : (⟨2, ![n, 2048]⟩ : Shape).Idx → β) (i : (⟨2, ![n, 2048]⟩ : Shape).Idx) :
    byRow hn f (i 0).val (i 1) = f i := by
  unfold byRow
  refine congrArg f ((funext fun b => ?_) : _ = i)
  match b with
  | ⟨0, _⟩ => exact Fin.ext (Nat.mod_eq_of_lt (i 0).isLt)
  | ⟨1, _⟩ => rfl

/-- The whole result, row by row. -/
theorem whole_out (c : Dev nD) (f : (cc0_stg2_0 : Ref sig .tc).ty.Contents (Elt F)) :
    (((c : Thread nD τ).loc cc0_stg2_0) ↦{fullShare} f : sProp 𝕄) = outP c 0 2048 (byRow (n := 2048) (by decide) f) := by
  unfold outP; rw [rowSet_univ]; exact pointsTo_congr fun i _ => (byRow_eq _ f i).symm
/-- The whole receive buffer, row by row. -/
theorem whole_rcv (c : Dev nD) (f : (cc0_scratch0 : Ref sig .tc).ty.Contents (Elt F)) :
    (((c : Thread nD τ).loc cc0_scratch0) ↦{fullShare} f : sProp 𝕄) = rcvP c 0 1792 (byRow (n := 1792) (by decide) f) := by
  unfold rcvP; rw [rowSet_univ]; exact pointsTo_congr fun i _ => (byRow_eq _ f i).symm
/-- The whole send buffer, row by row. -/
theorem whole_snd (c : Dev nD) (f : (cc0_scratch1 : Ref sig .tc).ty.Contents (Elt F)) :
    (((c : Thread nD τ).loc cc0_scratch1) ↦{fullShare} f : sProp 𝕄) = sndP c 0 1792 (byRow (n := 1792) (by decide) f) := by
  unfold sndP; rw [rowSet_univ]; exact pointsTo_congr fun i _ => (byRow_eq _ f i).symm
/-- The whole gather buffer, row by row. -/
theorem whole_ag (c : Dev nD) (f : (cc0_scratch2 : Ref sig .tc).ty.Contents (Elt F)) :
    (((c : Thread nD τ).loc cc0_scratch2) ↦{fullShare} f : sProp 𝕄) = agP c 0 2048 (byRow (n := 2048) (by decide) f) := by
  unfold agP; rw [rowSet_univ]; exact pointsTo_congr fun i _ => (byRow_eq _ f i).symm

/-! ## Which rows a device owns at the end -/

/-- Each eighth of a part is kept by some device. -/
theorem leaf_at (p : Fin 3) (q : Fin 8) : ∃ c : Dev nD, ks c p 2 = st p + q * sz p 2 := by revert p q; decide +kernel

/-- Every row ends on some device. -/
theorem owned {r : ℕ} (hr : r < 2048) : InLeaf (owner r).1 (owner r).2 r := by
  have hex : ∃ cp : Dev nD × Fin 3, InLeaf cp.1 cp.2 r := by
    have key : ∀ (p : Fin 3) (s : ℕ), sz p 2 = s → 0 < s → st p ≤ r → r < st p + 8 * s → ∃ cp : Dev nD × Fin 3, InLeaf cp.1 cp.2 r := by
      intro p s hs h0 h1 h2
      obtain ⟨c, hc⟩ := leaf_at p ⟨(r - st p) / s, by rw [Nat.div_lt_iff_lt_mul h0]; omega⟩
      refine ⟨(c, p), ?_⟩
      unfold InLeaf
      show ks c p 2 ≤ r ∧ r < ks c p 2 + sz p 2
      rw [hs] at hc ⊢
      have e : ks c p 2 = st p + (r - st p) / s * s := hc
      have hm := Nat.div_add_mod (r - st p) s
      have hl := Nat.mod_lt (r - st p) h0
      rw [Nat.mul_comm] at hm
      omega
    by_cases h1 : r < 640
    · exact key 0 80 rfl (by decide) (Nat.zero_le _) h1
    by_cases h2 : r < 1280
    · exact key 1 80 rfl (by decide) (by show 640 ≤ r; omega) h2
    · exact key 2 96 rfl (by decide) (by show 1280 ≤ r; omega) hr
  unfold owner; rw [dif_pos hex]; exact hex.choose_spec

/-- No row sent at any stage is among the rows a device ends with. -/
theorem leaf_not_sent (c : Dev nD) (p q k : Fin 3) : ks c q 2 + sz q 2 ≤ ss c p k ∨ ss c p k + sz p k ≤ ks c q 2 := by
  revert c p q k; decide +kernel
/-- The rows sent are rows of the result. -/
theorem sent_lt (c : Dev nD) (p k : Fin 3) : ss c p k + sz p k ≤ 2048 := by revert c p k; decide +kernel

variable (X : Dev nD → Vec F S2048x256 .f32) (Wt : Dev nD → Vec F S256x2048 .f32)

/-- The result on the rows a device reduced itself. -/
theorem outv_leaf {c : Dev nD} {p : Fin 3} {r : ℕ} (h1 : ks c p 2 ≤ r) (h2 : r < ks c p 2 + sz p 2) (j : Fin 2048) :
    outv X Wt c r j = fin X Wt c p r j := by
  unfold outv; rw [owner_eq (⟨h1, h2⟩ : InLeaf c p r), if_pos rfl]
/-- The result on the rows it received. -/
theorem outv_sent {c : Dev nD} {p : Fin 3} (k : Fin 3) {r : ℕ} (h1 : ss c p k ≤ r) (h2 : r < ss c p k + sz p k) (j : Fin 2048) :
    outv X Wt c r j = FloatOps.extf .f32 bitsLt_bf16_f32 (gat X Wt r j) := by
  unfold outv; rw [if_neg]
  intro hc
  have ho := owned (r := r) (by have := sent_lt c p k; omega)
  rw [hc] at ho
  unfold InLeaf at ho
  have := leaf_not_sent c p (owner r).2 k
  omega
/-- What is gathered of a row is what the device that ends with it computed, in the short format. -/
theorem gat_leaf {c : Dev nD} {p : Fin 3} {r : ℕ} (h1 : ks c p 2 ≤ r) (h2 : r < ks c p 2 + sz p 2) (j : Fin 2048) :
    gat X Wt r j = FloatOps.truncf .bf16 bitsLt_bf16_f32 (fin X Wt c p r j) := by
  unfold gat; rw [owner_eq (⟨h1, h2⟩ : InLeaf c p r)]

end Cert.Fly

end
-- ==== Proof.Bar.lean ====
/-
# The barrier

A device signals its three partners, handing each the rows the partner will write into its memory, and waits for all three,
which hand it theirs.
-/
module

public import proofs.«01_k».proof.Proof.Split

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x256 .f32) (Wt : Dev nD → Vec F S256x2048 .f32)

/-! ## All transfers, dimension by dimension -/

/-- The transfers there are. -/
def usedS : Finset Xf := Finset.univ.filter fun x => used x = true

/-- The transfers there are are those of the order. -/
theorem order_toFinset : usedS = order.toFinset := by decide
/-- The order names each transfer once. -/
theorem order_nodup : order.Nodup := by decide
/-- Every transfer crosses one of the three dimensions. -/
theorem usedS_across : usedS = (across 0 ∪ across 1) ∪ across 2 := by decide

/-- What each dimension's transfers have is what all have. -/
theorem by_dim (Φ : Xf → sProp 𝕄) :
    bigSep usedS Φ = iprop((bigSep (across 0) Φ ∗ bigSep (across 1) Φ) ∗ bigSep (across 2) Φ) := by
  rw [usedS_across, bigSep_union (by decide), bigSep_union (by decide)]; rfl

/-- One assertion per member of a list. -/
def seqOf (Φ : Xf → sProp 𝕄) : List Xf → sProp 𝕄
  | [] => iprop(emp)
  | x :: l => iprop(Φ x ∗ seqOf Φ l)

/-- `seqOf` is the library's conjunction over a list. -/
theorem seqOf_bigSepL (Φ : Xf → sProp 𝕄) : (l : List Xf) → seqOf Φ l = bigSepL l Φ
  | [] => rfl
  | [x] => BI.Entails.antisymm BI.sep_emp.1 BI.sep_emp.2
  | x :: y :: l => congrArg (fun A => iprop(Φ x ∗ A)) (seqOf_bigSepL Φ (y :: l))

/-- One assertion for each transfer, in the order they are started in. -/
theorem seqOf_used (Φ : Xf → sProp 𝕄) : bigSep usedS Φ = seqOf Φ order := by
  rw [seqOf_bigSepL]; exact bigSep_eq_bigSepL_of_eq order order_toFinset order_nodup Φ

/-- What is left to do is one item for each transfer left. -/
theorem todo_eq (c : Dev nD) : (l : List Xf) → todo (F := F) c l = seqOf (item c) l
  | [] => rfl
  | x :: l => congrArg (fun A => iprop(item c x ∗ A)) (todo_eq c l)

/-- The dimension of a transfer across `d` is `d`. -/
theorem across_dim {d : Fin 3} {x : Xf} (h : x ∈ across d) : tdim x = d := (Finset.mem_filter.mp h).2.2

/-- The rows device `e` lets device `c` write in transfer `x`. -/
def room (e c : Dev nD) (x : Xf) : sProp 𝕄 := iprop(∃ f, dstP (F := F) e c x f)

/-- What the three partners hand a device at the barrier is the rows it may write, for each of its transfers. -/
theorem bars_in (c : Dev nD) :
    (iprop(barPay c 0 ∗ barPay c 1 ∗ barPay c 2) : sProp 𝕄) ⊢ bigSep usedS fun x => room (partner (tdim x) c) c x := by
  rw [by_dim]
  have h (d : Fin 3) : (barPay c d : sProp 𝕄) = bigSep (across d) fun x => room (partner (tdim x) c) c x :=
    bigSep_congr fun x hx => by rw [across_dim hx]; rfl
  rw [h 0, h 1, h 2]
  iintro ⟨H0, H1, H2⟩
  isplitl [H0 H1]
  · isplitl [H0] <;> iassumption
  iexact H2

/-- The rows a device lets its partners write, for each transfer, are what it hands the three of them at the barrier. -/
theorem bars_out (c : Dev nD) :
    (bigSep usedS fun x => room (F := F) c (partner (tdim x) c) x)
      ⊢ (iprop((barPay (partner 0 c) 0 ∗ barPay (partner 1 c) 1) ∗ barPay (partner 2 c) 2) : sProp 𝕄) := by
  rw [by_dim]
  have h (d : Fin 3) : (barPay (partner d c) d : sProp 𝕄) = bigSep (across d) fun x => room c (partner (tdim x) c) x :=
    bigSep_congr fun x hx => by rw [across_dim hx, partner_partner]; rfl
  rw [h 0, h 1, h 2]

/-! ## The device's own memory -/

/-- A receive slot of device `e` is the rows it lets a partner write at stage `k` of the reduction. -/
theorem room_rcv (e c : Dev nD) (p k : Fin 3) :
    (iprop(∃ f, rcvP e (sb p k) (sz p k) f) : sProp 𝕄) ⊢ room e c (p, ⟨k.val, by omega⟩) := by
  unfold room
  iintro ⟨%f, H⟩; iexists f
  have h : (rcvP e (sb p k) (sz p k) f : sProp 𝕄) = dstP e c (p, ⟨k.val, by omega⟩) f := by
    unfold dstP tstart tlen; rw [if_pos (show (k.val : ℕ) < 3 from k.isLt), if_pos (show (k.val : ℕ) < 3 from k.isLt), if_pos (show (k.val : ℕ) < 3 from k.isLt)]
  iapply (Entails.of_eq h); iexact H

/-- Rows of the gather buffer that a device will receive are the rows it lets that partner write. -/
theorem room_ag (c : Dev nD) (x : Xf) (hx : ¬x.2.val < 3) (a n : ℕ) (ha : tstart (partner (tdim x) c) x = a) (hn : tlen x = n) :
    (iprop(∃ f, agP c a n f) : sProp 𝕄) ⊢ room c (partner (tdim x) c) x := by
  subst ha hn
  unfold room
  iintro ⟨%f, H⟩; iexists f
  have h : (agP c (tstart (partner (tdim x) c) x) (tlen x) f : sProp 𝕄) = dstP c (partner (tdim x) c) x f := by
    unfold dstP; rw [if_neg hx]
  iapply (Entails.of_eq h); iexact H

/-- Where the gathered rows a device receives begin: where the rows it sent in the reduction did. -/
theorem sent_start (c : Dev nD) (p : Fin 3) : tstart (partner (tdim (p, 3)) c) (p, 3) = ss c p 2 ∧ tstart (partner (tdim (p, 5)) c) (p, 5) = ss c p 1
    ∧ tstart (partner (tdim (p, 7)) c) (p, 7) = ss c p 0 + 0 * sz p 1 ∧ tstart (partner (tdim (p, 8)) c) (p, 8) = ss c p 0 + 1 * sz p 1 := by
  revert c p; decide +kernel

/-- What a device's partners write in part `p`, from its own memory: its receive slots, and its rows of the gathered
    result it does not keep. -/
theorem rooms (c : Dev nD) (p : Fin 3) :
    (iprop(((∃ f, rcvP c (sb p 0) (sz p 0) f) ∗ (∃ f, rcvP c (sb p 1) (sz p 1) f) ∗ ∃ f, rcvP c (sb p 2) (sz p 2) f)
      ∗ ∃ f, agP c (st p) (sz p 0 + sz p 0) f) : sProp 𝕄)
    ⊢ iprop((room c (partner (tdim (p, 0)) c) (p, 0) ∗ room c (partner (tdim (p, 1)) c) (p, 1) ∗ room c (partner (tdim (p, 2)) c) (p, 2)
      ∗ room c (partner (tdim (p, 3)) c) (p, 3) ∗ room c (partner (tdim (p, 5)) c) (p, 5)
      ∗ room c (partner (tdim (p, 7)) c) (p, 7) ∗ room c (partner (tdim (p, 8)) c) (p, 8)) ∗ ∃ f, agP c (ks c p 2) (sz p 2) f) := by
  obtain ⟨h3, h5, h7, h8⟩ := sent_start c p
  iintro ⟨⟨H0, H1, H2⟩, %f, H⟩
  ihave H := (Entails.of_eq ((rows_ag c).pieces c p f)) $$ H
  icases H with ⟨⟨⟨HL, H3⟩, H5⟩, H7, H8⟩
  isplitr [HL]
  · isplitl [H0]; · iapply (room_rcv c _ p 0); iexact H0
    isplitl [H1]; · iapply (room_rcv c _ p 1); iexact H1
    isplitl [H2]; · iapply (room_rcv c _ p 2); iexact H2
    isplitl [H3]; · iapply (room_ag c (p, 3) (show ¬(3 : ℕ) < 3 by decide) _ _ h3 rfl); iexists f; iexact H3
    isplitl [H5]; · iapply (room_ag c (p, 5) (show ¬(5 : ℕ) < 3 by decide) _ _ h5 rfl); iexists f; iexact H5
    isplitl [H7]; · iapply (room_ag c (p, 7) (show ¬(7 : ℕ) < 3 by decide) _ _ h7 rfl); iexists f; iexact H7
    iapply (room_ag c (p, 8) (show ¬(8 : ℕ) < 3 by decide) _ _ h8 rfl); iexists f; iexact H8
  iexists f; iexact HL

/-- What a device hands its three partners, from its receive buffer and its gathering buffer; it keeps its own leaf rows. -/
theorem give (c : Dev nD) :
    (iprop((∃ f, rcvP c 0 1792 f) ∗ ∃ f, agP c 0 2048 f) : sProp 𝕄)
    ⊢ iprop(((barPay (partner 0 c) 0 ∗ barPay (partner 1 c) 1) ∗ barPay (partner 2 c) 2)
      ∗ (∃ f, agP c (ks c 0 2) (sz 0 2) f) ∗ (∃ f, agP c (ks c 1 2) (sz 1 2) f) ∗ ∃ f, agP c (ks c 2 2) (sz 2 2) f) := by
  iintro ⟨Hr, %f, Ha⟩
  ihave Hr := ((rows_rcv c).slots) $$ Hr
  icases Hr with ⟨R0, R1, R2⟩
  ihave Ha := (Entails.of_eq ((rows_ag c).parts f)) $$ Ha
  icases Ha with ⟨A0, A1, A2⟩
  ihave H0 := (rooms c 0) $$ [R0 A0]
  · isplitl [R0]; · iexact R0
    iexists f; iexact A0
  ihave H1 := (rooms c 1) $$ [R1 A1]
  · isplitl [R1]; · iexact R1
    iexists f; iexact A1
  ihave H2 := (rooms c 2) $$ [R2 A2]
  · isplitl [R2]; · iexact R2
    iexists f; iexact A2
  icases H0 with ⟨⟨B00, B01, B02, B03, B05, B07, B08⟩, L0⟩
  icases H1 with ⟨⟨B10, B11, B12, B13, B15, B17, B18⟩, L1⟩
  icases H2 with ⟨⟨B20, B21, B22, B23, B25, B27, B28⟩, L2⟩
  isplitr [L0 L1 L2]
  · iapply (bars_out c)
    iapply (Entails.of_eq (seqOf_used (F := F) fun x => room c (partner (tdim x) c) x).symm)
    simp only [order, seqOf]
    isplitl [B20]; · iexact B20
    isplitl [B00]; · iexact B00
    isplitl [B10]; · iexact B10
    isplitl [B01]; · iexact B01
    isplitl [B11]; · iexact B11
    isplitl [B21]; · iexact B21
    isplitl [B02]; · iexact B02
    isplitl [B12]; · iexact B12
    isplitl [B22]; · iexact B22
    isplitl [B03]; · iexact B03
    isplitl [B13]; · iexact B13
    isplitl [B23]; · iexact B23
    isplitl [B05]; · iexact B05
    isplitl [B15]; · iexact B15
    isplitl [B25]; · iexact B25
    isplitl [B07]; · iexact B07
    isplitl [B08]; · iexact B08
    isplitl [B17]; · iexact B17
    isplitl [B18]; · iexact B18
    isplitl [B27]; · iexact B27
    isplitl [B28]; · iexact B28
    iempintro
  isplitl [L0]; · iexact L0
  isplitl [L1]; · iexact L1
  iexact L2

/-! ## The signals and the wait -/

variable (K : Dev nD × Ci → ℕ)

/-- The signal to the partner across `d`. -/
theorem signal_step {α : Type} (Q : α → sProp 𝕄) (c e : Dev nD) (d : Fin 3) (he : e = partner d c) (O : CellTallies nD τ sig Unit) (W : Waits sig Unit)
    {n : ℕ} (hn : n = 1) {kk : PUnit → Prog (TpuEff nD τ sig (Elt F) Λ₀ .tc) α} :
    iprop(records X Wt K ∗ owes (c : Thread nD τ) (O + tallyAt (barCell (partner d c)) () 1) W ∗ dutyTok ER (barCell (partner d c)) 0 d ∗ barPay (partner d c) d)
      ⊢ iprop((owes (c : Thread nD τ) O W -∗ WP c (kk ⟨⟩) Q)
        -∗ WP c (.op (.semSignal (e : Thread nD τ) barS n) kk) Q) := by
  subst he hn
  iintro ⟨#HR, HO, Ht, Hp⟩ Hk
  iapply (Rounds.wp_signal 𝒱₀ ER (Rd X Wt) (c : Thread nD τ) none (dst := (partner d c : Thread nD τ)) (κ := K (partner d c, none))
      (d := d) (by rw [duties_bar]; exact Finset.mem_univ _) ((amount_bar X Wt (partner d c) d).trans rfl) () O rfl)
    $$ [HO Ht Hp]
  · isplitr; · iapply (inv_at X Wt K (partner d c, none)); iexact HR
    isplitl [HO]; · iexact HO
    isplitl [Ht]; · iexact Ht
    isplitl [Hp]; · rw [payload_bar]; iexact Hp
    iapply (reached_at X Wt K (partner d c, none)); iexact HR
  iexact Hk

/-- What device `c` holds for transfer `x` before the barrier. -/
def item0 (c : Dev nD) (x : Xf) : sProp 𝕄 :=
  iprop((dutyTok ER (xcell c x false) 0 0 ∗ dutyTok ER (xcell (partner (tdim x) c) x true) 0 0)
    ∗ (atPos ER (xcell c x false) 0 ∅ 0 ∗ atPos ER (xcell c x true) 0 ∅ 0 ∗ cred (tallyAt (xcell c x true) () (amt x))))

/-- With the rows its partners let it write, a device has all that its transfers need. -/
theorem items (c : Dev nD) :
    (iprop((bigSep usedS (item0 c)) ∗ bigSep usedS fun x => room (partner (tdim x) c) c x) : sProp 𝕄) ⊢ todo c order := by
  rw [todo_eq, ← seqOf_used, ← bigSep_sep']
  refine bigSep_mono fun x _ => ?_
  show iprop(item0 c x ∗ room (partner (tdim x) c) c x) ⊢ item c x
  unfold item0 item room
  iintro ⟨⟨H1, H2⟩, H3⟩
  isplitl [H1]; · iexact H1
  isplitl [H2] <;> iassumption

/-- The wait for the three partners: every transfer can be started now. -/
theorem bar_wait {α : Type} (Q : α → sProp 𝕄) (c : Dev nD) (W : Waits sig Unit)
    {n : ℕ} (hn : n = 3) {kk : PUnit → Prog (TpuEff nD τ sig (Elt F) Λ₀ .tc) α} :
    iprop(records X Wt K ∗ levAts L lv ∗ owes (c : Thread nD τ) (owed c order) W ∗ cred (tallyAt (barCell c) () 3) ∗ atPos ER (barCell c) 0 ∅ 0
        ∗ bigSep usedS (item0 c))
      ⊢ iprop(((St X Wt K c order [] ∗ semVal (barCell c) 0) -∗ WP c (kk ⟨⟩) Q)
        -∗ WP c (.op (.semWait barS n) kk) Q) := by
  subst hn
  iintro ⟨#HR, #HL, HO, Hc, Ha, Hi⟩ Hk
  iapply (Rounds.wp_wait_rest_token 𝒱₀ ER (Rd X Wt) (c : Thread nD τ) none (κ := K (c, none))
      (wpE_semWait_eq 𝒱₀ (c : Thread nD τ) none Set.univ) (Set.mem_univ _) () (O := owed c order) (W := W) (R := 0) (m := 0) (T := ∅)
      (by rw [expect_bar])) $$ [Hc HO Ha]
  · isplitr; · iapply (inv_at X Wt K (c, none)); iexact HR
    isplitl [Hc]; · iexact Hc
    isplitl [HO]; · iexact HO
    isplitr; · iapply (mayWait c (.reg barS) order (fun y _ => by show 1 < 2 + _; omega)); iexact HL
    iexact Ha
  iintro ⟨HO, Ha, -, Hpay⟩
  imod (Rounds.cell_close ER (Rd X Wt) (Set.mem_univ (K (c, none))) (fun h => h) (R := 0 + 1) (duties_later X Wt (barCell c))) $$ [Ha] with Hz
  · isplitr; · iapply (inv_at X Wt K (c, none)); iexact HR
    iexact Ha
  ihave Hp := (Entails.of_eq (rest_bar X Wt c)) $$ Hpay
  ihave Hp := (bars_in c) $$ Hp
  ihave Ht := (items c) $$ [Hi Hp]
  · isplitl [Hi] <;> iassumption
  iapply Hk
  isplitr [Hz]
  · unfold St
    isplitr; · iexact HR
    isplitr; · iexact HL
    isplitl [Ht]; · iexact Ht
    isplitr; · iempintro
    iexists _; iexact HO
  iexact Hz

/-- The semaphores of the two unused steps. -/
def idleS : Finset (Xf × Bool) := Finset.univ.filter fun a => used a.1 = false

/-- A semaphore no transfer uses is finished with at once. -/
theorem close_idle (c : Dev nD) :
    (iprop(records X Wt K ∗ bigSep idleS fun a => atPos ER (xcell c a.1 a.2) 0 ∅ 0) : sProp 𝕄)
      ⊢ iprop(|={Set.univ}[frame]=> bigSep idleS fun a => semVal (xcell c a.1 a.2) 0) := by
  refine (bigSep_with_persistent (S := idleS) (R := (records X Wt K : sProp 𝕄)) (Φ := fun a : Xf × Bool => atPos ER (xcell c a.1 a.2) 0 ∅ 0)
    (Ψ := fun a => iprop(|={Set.univ}[frame]=> semVal (xcell c a.1 a.2) 0)) fun a ha => ?_).trans (bigSep_fupd _ _)
  iintro ⟨#HR, Ha⟩
  iapply (Rounds.cell_close ER (Rd X Wt) (Set.mem_univ (K (c, some a))) (fun h => h) (R := 0)
    (fun r _ => duties_unused X Wt c a.1 a.2 (Finset.mem_filter.mp ha).2 r))
  isplitr; · iapply (inv_at X Wt K (c, some a)); iexact HR
  iexact Ha

end Cert.Fly

end
-- ==== Proof.Phases.lean ====
/-
# The phases of a part

Each of the three parts of the rows goes through the same phases on every device: at stage `k` of the reduction its outgoing
rows are under way (`phF`), read (`phG`), the partner's rows are in (`phH`), the rows to send next are summed (`phI`) and
then the rows to keep (`phJ`); at the end it is reduced (`phL`) and gathered stage by stage (`phN` to `phQ`), the last stage in two
pieces (`pcR` to `pcD`). A phase says what the part's rows of every buffer hold. The rules here take a part from phase to phase.
-/
module

public import proofs.«01_k».proof.Proof.Bar

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x256 .f32) (Wt : Dev nD → Vec F S256x2048 .f32)

/-! ## What a part holds -/

set_option backward.proofsInPublic true in
/-- Step `k` of part `p`. -/
def xof (p : Fin 3) (k : ℕ) : Xf := (p, ⟨k % 9, Nat.mod_lt _ (by decide)⟩)

/-- Some contents of send slot `k`. -/
def sSlot (c : Dev nD) (p : Fin 3) (k : ℕ) : sProp 𝕄 := iprop(∃ f, sndP (F := F) c (sb p k) (sz p k) f)
/-- Some contents of receive slot `k`. -/
def rSlot (c : Dev nD) (p : Fin 3) (k : ℕ) : sProp 𝕄 := iprop(∃ f, rcvP (F := F) c (sb p k) (sz p k) f)
/-- Some contents of the result rows sent at stage `k`. -/
def oSent (c : Dev nD) (p : Fin 3) (k : ℕ) : sProp 𝕄 := iprop(∃ f, outP (F := F) c (ss c p k) (sz p k) f)
/-- Some contents of the result rows of piece `j` of the first stage's sent rows. -/
def oPiece (c : Dev nD) (p : Fin 3) (j : ℕ) : sProp 𝕄 := iprop(∃ f, outP (F := F) c (ss c p 0 + j * sz p 1) (sz p 1) f)
/-- Some contents of the gather rows of the device's own leaf. -/
def aLeaf (c : Dev nD) (p : Fin 3) : sProp 𝕄 := iprop(∃ f, agP (F := F) c (ks c p 2) (sz p 2) f)

/-- The send slots from stage `k` on. -/
def new (c : Dev nD) (p : Fin 3) : ℕ → sProp 𝕄
  | 0 => iprop(sSlot (F := F) c p 0 ∗ sSlot c p 1 ∗ sSlot c p 2 ∗ emp)
  | 1 => iprop(sSlot (F := F) c p 1 ∗ sSlot c p 2 ∗ emp)
  | 2 => iprop(sSlot (F := F) c p 2 ∗ emp)
  | _ => iprop(emp)
/-- The unused send slots are the next one and those after it. -/
theorem new_succ (c : Dev nD) (p : Fin 3) (k : ℕ) (hk : k < 3) : (new c p k : sProp 𝕄) = iprop(sSlot c p k ∗ new c p (k + 1)) := by
  interval_cases k <;> rfl

/-- What stages before `k` have finished with. -/
def old (c : Dev nD) (p : Fin 3) : ℕ → sProp 𝕄
  | 0 => oSent c p 0
  | k + 1 => iprop(old c p k ∗ rSlot (F := F) c p k ∗ sSlot c p k ∗ oSent c p (k + 1))

/-- What the partner of stage `k` sent, in receive slot `k`. -/
def rv (c : Dev nD) (p : Fin 3) (k : ℕ) (r : ℕ) (j : Fin 2048) : F .bf16 := snd X Wt k (partner (dm p k) c) p (ks c p k + r - sb p k) j

/-- Before its first product. -/
def phA (c : Dev nD) (p : Fin 3) : sProp 𝕄 :=
  iprop((∃ f, outP (F := F) c (ks c p 0) (sz p 0) f) ∗ new c p 0 ∗ old c p 0 ∗ aLeaf c p)
/-- The first rows to send are computed. -/
def phB (c : Dev nD) (p : Fin 3) : sProp 𝕄 :=
  iprop(sndP c (sb p 0) (sz p 0) (tval X Wt c (xof p 0)) ∗ (∃ f, outP (F := F) c (ks c p 0) (sz p 0) f) ∗ new c p 1 ∗ old c p 0 ∗ aLeaf c p)
/-- They are under way. -/
def phE (c : Dev nD) (p : Fin 3) : sProp 𝕄 :=
  iprop(fly c (xof p 0) ∗ (∃ f, outP (F := F) c (ks c p 0) (sz p 0) f) ∗ new c p 1 ∗ old c p 0 ∗ aLeaf c p)
/-- Stage `k`'s rows are under way, and the rows kept so far summed. -/
def phF (c : Dev nD) (p : Fin 3) (k : ℕ) : sProp 𝕄 :=
  iprop(fly c (xof p k) ∗ outP c (ks c p k) (sz p k) (acc X Wt k c p) ∗ new c p (k + 1) ∗ old c p k ∗ aLeaf c p)
/-- The sender's end of stage `k` is waited for. -/
def phG (c : Dev nD) (p : Fin 3) (k : ℕ) : sProp 𝕄 :=
  iprop(fly2 c (xof p k) ∗ sSlot c p k ∗ outP c (ks c p k) (sz p k) (acc X Wt k c p) ∗ new c p (k + 1) ∗ old c p k ∗ aLeaf c p)
/-- Both ends are: the partner's rows are in the receive slot. -/
def phH (c : Dev nD) (p : Fin 3) (k : ℕ) : sProp 𝕄 :=
  iprop(rcvP c (sb p k) (sz p k) (rv X Wt c p k) ∗ sSlot c p k ∗ outP c (ks c p k) (sz p k) (acc X Wt k c p) ∗ new c p (k + 1) ∗ old c p k ∗ aLeaf c p)
/-- The rows to send at the next stage are summed, into its send slot. -/
def phI (c : Dev nD) (p : Fin 3) (k : ℕ) : sProp 𝕄 :=
  iprop(rcvP c (sb p k) (sz p k) (rv X Wt c p k) ∗ sSlot c p k ∗ (outP c (ks c p (k + 1)) (sz p (k + 1)) (acc X Wt k c p) ∗ oSent c p (k + 1))
    ∗ sndP c (sb p (k + 1)) (sz p (k + 1)) (tval X Wt c (xof p (k + 1))) ∗ new c p (k + 2) ∗ old c p k ∗ aLeaf c p)
/-- The rows to keep are summed too: the next stage's transfer can start. -/
def phJ (c : Dev nD) (p : Fin 3) (k : ℕ) : sProp 𝕄 :=
  iprop(sndP c (sb p k) (sz p k) (tval X Wt c (xof p k)) ∗ outP c (ks c p k) (sz p k) (acc X Wt k c p) ∗ new c p (k + 1) ∗ old c p k ∗ aLeaf c p)
/-- All three stages summed, and the maximum with zero taken. -/
def phL (c : Dev nD) (p : Fin 3) : sProp 𝕄 :=
  iprop(outP c (ks c p 2) (sz p 2) (fin X Wt c p) ∗ aLeaf c p ∗ rSlot c p 2 ∗ sSlot c p 2 ∗ old c p 2)

/-- The slots of the part. -/
def slots (c : Dev nD) (p : Fin 3) : sProp 𝕄 :=
  iprop((rSlot (F := F) c p 0 ∗ rSlot c p 1 ∗ rSlot c p 2) ∗ sSlot c p 0 ∗ sSlot c p 1 ∗ sSlot c p 2)
/-- The result rows still to be gathered, at level `m`. -/
def left (c : Dev nD) (p : Fin 3) : ℕ → sProp 𝕄
  | 0 => oSent (F := F) c p 0
  | m + 1 => iprop(oSent (F := F) c p (m + 1) ∗ left c p m)

/-- Gathered up to level `m`. -/
def phN (c : Dev nD) (p : Fin 3) (m : ℕ) : sProp 𝕄 :=
  iprop(agP c (ks c p m) (sz p m) (gat X Wt) ∗ outP c (ks c p m) (sz p m) (outv X Wt c) ∗ left c p m ∗ slots c p)
/-- The gathered rows are under way to the partner of level `m`. -/
def phO (c : Dev nD) (p : Fin 3) (m : ℕ) : sProp 𝕄 :=
  iprop(fly c (xof p (7 - 2 * m)) ∗ outP c (ks c p m) (sz p m) (outv X Wt c) ∗ left c p m ∗ slots c p)
/-- The sender's end of it is waited for. -/
def phP (c : Dev nD) (p : Fin 3) (m : ℕ) : sProp 𝕄 :=
  iprop(fly2 c (xof p (7 - 2 * m)) ∗ agP c (ks c p m) (sz p m) (gat X Wt) ∗ outP c (ks c p m) (sz p m) (outv X Wt c) ∗ left c p m ∗ slots c p)
/-- Both ends are: the partner's gathered rows are there. -/
def phQ (c : Dev nD) (p : Fin 3) (m : ℕ) : sProp 𝕄 :=
  iprop(agP c (ss c p m) (sz p m) (gat X Wt) ∗ agP c (ks c p m) (sz p m) (gat X Wt) ∗ outP c (ks c p m) (sz p m) (outv X Wt c) ∗ left c p m ∗ slots c p)

/-- The rows gathered before the last stage. -/
def home (c : Dev nD) (p : Fin 3) : sProp 𝕄 := iprop(outP c (ks c p 0) (sz p 0) (outv X Wt c) ∗ slots c p)
/-- Piece `j` of the last stage, ready to be sent. -/
def pcR (c : Dev nD) (p : Fin 3) (j : ℕ) : sProp 𝕄 := iprop(agP c (ks c p 0 + j * sz p 1) (sz p 1) (gat X Wt) ∗ oPiece c p j)
/-- It is under way. -/
def pcF (c : Dev nD) (p : Fin 3) (j : ℕ) : sProp 𝕄 := iprop(fly (F := F) c (xof p (7 + j)) ∗ oPiece c p j)
/-- The sender's end of it is waited for. -/
def pcG (c : Dev nD) (p : Fin 3) (j : ℕ) : sProp 𝕄 :=
  iprop(fly2 c (xof p (7 + j)) ∗ agP c (ks c p 0 + j * sz p 1) (sz p 1) (gat X Wt) ∗ oPiece c p j)
/-- Both ends are: the partner's piece is there. -/
def pcH (c : Dev nD) (p : Fin 3) (j : ℕ) : sProp 𝕄 :=
  iprop(agP c (ss c p 0 + j * sz p 1) (sz p 1) (gat X Wt) ∗ agP c (ks c p 0 + j * sz p 1) (sz p 1) (gat X Wt) ∗ oPiece c p j)
/-- Piece `j` of the last stage, in the result. -/
def pcD (c : Dev nD) (p : Fin 3) (j : ℕ) : sProp 𝕄 :=
  iprop(agP c (ss c p 0 + j * sz p 1) (sz p 1) (gat X Wt) ∗ agP c (ks c p 0 + j * sz p 1) (sz p 1) (gat X Wt)
    ∗ outP c (ss c p 0 + j * sz p 1) (sz p 1) (outv X Wt c))

/-! ## The transfers of a phase -/

/-- The source of the reduction's transfer of stage `k` is the send slot. -/
theorem src_rs (c : Dev nD) (p : Fin 3) (k : ℕ) (hk3 : k < 3) (f) : (srcP c (xof p k) f : sProp 𝕄) = sndP c (sb p k) (sz p k) f := by
  have hk : (xof p k).2.val = k := Nat.mod_eq_of_lt (by omega)
  unfold srcP tstart tlen; rw [hk, if_pos hk3, if_pos hk3, if_pos hk3]; rfl
/-- What the reduction's transfer of stage `k` brings is the partner's rows in the receive slot. -/
theorem rcv_rs (c : Dev nD) (p : Fin 3) (k : ℕ) (hk3 : k < 3) : (rcvPay X Wt c (xof p k) : sProp 𝕄) = rcvP c (sb p k) (sz p k) (rv X Wt c p k) := by
  have hk : (xof p k).2.val = k := Nat.mod_eq_of_lt (by omega)
  have hp : ss (partner (dm p k) c) p k = ks c p k := ss_partner c p ⟨k, hk3⟩
  have hd : tdim (xof p k) = dm p k := by unfold tdim; rw [hk, if_pos hk3]; rfl
  unfold rcvPay dstP tstart tlen tval rv; rw [hk, if_pos hk3, if_pos hk3, if_pos hk3, if_pos hk3, hd]
  show (rcvP c (sb p k) (sz p k) fun r j => snd X Wt k (partner (dm p k) c) p (ss (partner (dm p k) c) p k + r - sb p k) j : sProp 𝕄) = _
  rw [hp]
/-- The length and the dimension of the gathering transfers. -/
theorem xof_ag (p : Fin 3) : (∀ m : ℕ, m = 1 ∨ m = 2 → tlen (xof p (7 - 2 * m)) = sz p m ∧ tdim (xof p (7 - 2 * m)) = dm p m ∧ ¬(xof p (7 - 2 * m)).2.val < 3
      ∧ ∀ c, tstart c (xof p (7 - 2 * m)) = ks c p m)
    ∧ ∀ j : ℕ, j = 0 ∨ j = 1 → tlen (xof p (7 + j)) = sz p 1 ∧ tdim (xof p (7 + j)) = dm p 0 ∧ ¬(xof p (7 + j)).2.val < 3
      ∧ ∀ c, tstart c (xof p (7 + j)) = ks c p 0 + j * sz p 1 := by
  constructor
  · rintro m (rfl | rfl) <;> refine ⟨by revert p; decide, by revert p; decide, by revert p; decide, fun c => rfl⟩
  · rintro j (rfl | rfl) <;> refine ⟨by revert p; decide, by revert p; decide, by revert p; decide, fun c => rfl⟩
/-- The source of the gathering transfer at level `m` is the rows gathered so far. -/
theorem src_ag (c : Dev nD) (p : Fin 3) (m : ℕ) (hm : m = 1 ∨ m = 2) :
    (srcP c (xof p (7 - 2 * m)) (tval X Wt c (xof p (7 - 2 * m))) : sProp 𝕄) = agP c (ks c p m) (sz p m) (gat X Wt) := by
  obtain ⟨h1, h2, h3, h4⟩ := (xof_ag p).1 m hm
  unfold srcP tval; rw [h1, if_neg h3, if_neg h3, h4]
/-- What the gathering transfer at level `m` brings is the gathered rows of the partner. -/
theorem rcv_ag (c : Dev nD) (p : Fin 3) (m : ℕ) (hm : m = 1 ∨ m = 2) :
    (rcvPay X Wt c (xof p (7 - 2 * m)) : sProp 𝕄) = agP c (ss c p m) (sz p m) (gat X Wt) := by
  obtain ⟨h1, h2, h3, h4⟩ := (xof_ag p).1 m hm
  have hk : ks (partner (dm p m) c) p m = ss c p m := by rcases hm with rfl | rfl; exacts [ks_partner c p 1, ks_partner c p 2]
  unfold rcvPay dstP tval; rw [h1, if_neg h3, if_neg h3, h4, h2, hk]
/-- The source of piece `j` of the last gathering transfer is that piece of the gathered rows. -/
theorem src_pc (c : Dev nD) (p : Fin 3) (j : ℕ) (hj : j = 0 ∨ j = 1) :
    (srcP c (xof p (7 + j)) (tval X Wt c (xof p (7 + j))) : sProp 𝕄) = agP c (ks c p 0 + j * sz p 1) (sz p 1) (gat X Wt) := by
  obtain ⟨h1, h2, h3, h4⟩ := (xof_ag p).2 j hj
  unfold srcP tval; rw [h1, if_neg h3, if_neg h3, h4]
/-- What piece `j` brings is the partner's piece. -/
theorem rcv_pc (c : Dev nD) (p : Fin 3) (j : ℕ) (hj : j = 0 ∨ j = 1) :
    (rcvPay X Wt c (xof p (7 + j)) : sProp 𝕄) = agP c (ss c p 0 + j * sz p 1) (sz p 1) (gat X Wt) := by
  obtain ⟨h1, h2, h3, h4⟩ := (xof_ag p).2 j hj
  unfold rcvPay dstP tval; rw [h1, if_neg h3, if_neg h3, h4, h2, show ks (partner (dm p 0) c) p 0 = ss c p 0 from ks_partner c p 0]

/-! ## Phase to phase by a transfer -/

/-- The first transfer of the reduction starts. -/
theorem goB (c : Dev nD) (p : Fin 3) : phB X Wt c p ⊢ iprop(srcP c (xof p 0) (tval X Wt c (xof p 0)) ∗ (fly c (xof p 0) -∗ phE (F := F) c p)) := by
  unfold phB phE
  iintro ⟨Hs, Hp⟩
  isplitl [Hs]
  · iapply (Entails.of_eq (src_rs c p 0 (by decide) _).symm) $$ Hs
  iintro Hf; isplitl [Hf] <;> iassumption
/-- A later transfer of the reduction starts. -/
theorem goJ (c : Dev nD) (p : Fin 3) (k : ℕ) (hk : k < 3) : phJ X Wt c p k ⊢ iprop(srcP c (xof p k) (tval X Wt c (xof p k)) ∗ (fly c (xof p k) -∗ phF X Wt c p k)) := by
  unfold phJ phF
  iintro ⟨Hs, Hp⟩
  isplitl [Hs]
  · iapply (Entails.of_eq (src_rs c p k hk _).symm) $$ Hs
  iintro Hf; isplitl [Hf] <;> iassumption
/-- The sender's end of a transfer of the reduction is waited for. -/
theorem goF (c : Dev nD) (p : Fin 3) (k : ℕ) (hk : k < 3) : phF X Wt c p k ⊢ iprop(fly c (xof p k) ∗ ((fly2 c (xof p k) ∗ srcP c (xof p k) (tval X Wt c (xof p k))) -∗ phG X Wt c p k)) := by
  unfold phF phG
  iintro ⟨Hf, Hp⟩
  isplitl [Hf]; · iexact Hf
  iintro ⟨Hf, Hs⟩
  ihave Hs := (Entails.of_eq (src_rs c p k hk _)) $$ Hs
  isplitl [Hf]; · iexact Hf
  isplitl [Hs]
  · unfold sSlot; iexists _; iexact Hs
  iexact Hp
/-- The receiver's end of it is waited for. -/
theorem goG (c : Dev nD) (p : Fin 3) (k : ℕ) (hk : k < 3) : phG X Wt c p k ⊢ iprop(fly2 c (xof p k) ∗ (rcvPay X Wt c (xof p k) -∗ phH X Wt c p k)) := by
  unfold phG phH
  iintro ⟨Hf, Hp⟩
  isplitl [Hf]; · iexact Hf
  iintro Hr
  ihave Hr := (Entails.of_eq (rcv_rs X Wt c p k hk)) $$ Hr
  isplitl [Hr] <;> iassumption
/-- A gathering transfer starts. -/
theorem goN (c : Dev nD) (p : Fin 3) (m : ℕ) (hm : m = 1 ∨ m = 2) :
    phN X Wt c p m ⊢ iprop(srcP c (xof p (7 - 2 * m)) (tval X Wt c (xof p (7 - 2 * m))) ∗ (fly c (xof p (7 - 2 * m)) -∗ phO X Wt c p m)) := by
  unfold phN phO
  iintro ⟨Hs, Hp⟩
  isplitl [Hs]
  · iapply (Entails.of_eq (src_ag X Wt c p m hm).symm) $$ Hs
  iintro Hf; isplitl [Hf] <;> iassumption
/-- Its sender's end is waited for. -/
theorem goO (c : Dev nD) (p : Fin 3) (m : ℕ) (hm : m = 1 ∨ m = 2) :
    phO X Wt c p m ⊢ iprop(fly c (xof p (7 - 2 * m)) ∗ ((fly2 c (xof p (7 - 2 * m)) ∗ srcP c (xof p (7 - 2 * m)) (tval X Wt c (xof p (7 - 2 * m)))) -∗ phP X Wt c p m)) := by
  unfold phO phP
  iintro ⟨Hf, Hp⟩
  isplitl [Hf]; · iexact Hf
  iintro ⟨Hf, Hs⟩
  ihave Hs := (Entails.of_eq (src_ag X Wt c p m hm)) $$ Hs
  isplitl [Hf]; · iexact Hf
  isplitl [Hs] <;> iassumption
/-- Its receiver's end is waited for. -/
theorem goP (c : Dev nD) (p : Fin 3) (m : ℕ) (hm : m = 1 ∨ m = 2) :
    phP X Wt c p m ⊢ iprop(fly2 c (xof p (7 - 2 * m)) ∗ (rcvPay X Wt c (xof p (7 - 2 * m)) -∗ phQ X Wt c p m)) := by
  unfold phP phQ
  iintro ⟨Hf, Hp⟩
  isplitl [Hf]; · iexact Hf
  iintro Hr
  ihave Hr := (Entails.of_eq (rcv_ag X Wt c p m hm)) $$ Hr
  isplitl [Hr] <;> iassumption
/-- A piece of the last gathering starts. -/
theorem goR (c : Dev nD) (p : Fin 3) (j : ℕ) (hj : j = 0 ∨ j = 1) :
    pcR X Wt c p j ⊢ iprop(srcP c (xof p (7 + j)) (tval X Wt c (xof p (7 + j))) ∗ (fly c (xof p (7 + j)) -∗ pcF (F := F) c p j)) := by
  unfold pcR pcF
  iintro ⟨Hs, Hp⟩
  isplitl [Hs]
  · iapply (Entails.of_eq (src_pc X Wt c p j hj).symm) $$ Hs
  iintro Hf; isplitl [Hf] <;> iassumption
/-- The sender's end of the piece is waited for. -/
theorem goS (c : Dev nD) (p : Fin 3) (j : ℕ) (hj : j = 0 ∨ j = 1) :
    pcF c p j ⊢ iprop(fly (F := F) c (xof p (7 + j)) ∗ ((fly2 c (xof p (7 + j)) ∗ srcP c (xof p (7 + j)) (tval X Wt c (xof p (7 + j)))) -∗ pcG X Wt c p j)) := by
  unfold pcF pcG
  iintro ⟨Hf, Hp⟩
  isplitl [Hf]; · iexact Hf
  iintro ⟨Hf, Hs⟩
  ihave Hs := (Entails.of_eq (src_pc X Wt c p j hj)) $$ Hs
  isplitl [Hf]; · iexact Hf
  isplitl [Hs] <;> iassumption
/-- The receiver's end of the piece is waited for. -/
theorem goT (c : Dev nD) (p : Fin 3) (j : ℕ) (hj : j = 0 ∨ j = 1) :
    pcG X Wt c p j ⊢ iprop(fly2 c (xof p (7 + j)) ∗ (rcvPay X Wt c (xof p (7 + j)) -∗ pcH X Wt c p j)) := by
  unfold pcG pcH
  iintro ⟨Hf, Hp⟩
  isplitl [Hf]; · iexact Hf
  iintro Hr
  ihave Hr := (Entails.of_eq (rcv_pc X Wt c p j hj)) $$ Hr
  isplitl [Hr] <;> iassumption

/-! ## The running state, by how many transfers are started and finished -/

variable (K : Dev nD × Ci → ℕ)

/-- Device `c` with the first `i` transfers started and the first `j` finished. -/
def Run (c : Dev nD) (i j : ℕ) : sProp 𝕄 := St X Wt K c (order.drop i) (order.take j).reverse

/-- Starting a transfer out of the send buffer. -/
theorem run_start_rs {α : Type} (Q : α → sProp 𝕄) (c : Dev nD) {e : Dev nD} (x : Xf) (i j : ℕ) (hi : order.drop i = x :: order.drop (i + 1))
    (hu : used x = true) (hx : x.2.val < 3) (he : e = partner (tdim x) c)
    {n : ℕ} (hn : n = tlen x) {off1 off2 : Fin 2 → ℕ} (ho1 : off1 = ![tstart c x, 0]) (ho2 : off2 = ![tstart c x, 0])
    {inb1 : ∀ a, off1 a + (⟨2, ![n, 2048]⟩ : Shape).size a ≤ (⟨2, ![1792, 2048]⟩ : Shape).size a}
    {inb2 : ∀ a, off2 a + (⟨2, ![n, 2048]⟩ : Shape).size a ≤ (⟨2, ![1792, 2048]⟩ : Shape).size a}
    {s1 s2 : DmaSem sig} (h1 : s1 = xsem x false) (h2 : s2 = xsem x true)
    {hu1 : ∀ a, (Rect.unit (s := ⟨2, ![1792, 2048]⟩) off1 (⟨2, ![n, 2048]⟩ : Shape).size inb1).stride a = 1} {hu2 : ∀ a, (Rect.unit (s := ⟨2, ![1792, 2048]⟩) off2 (⟨2, ![n, 2048]⟩ : Shape).size inb2).stride a = 1}
    {hsc : ((Memref.whole cc0_scratch0 : Memref sig .tc .vmem ⟨2, ![1792, 2048]⟩ .bf16).slice (Rect.unit (s := ⟨2, ![1792, 2048]⟩) off2 (⟨2, ![n, 2048]⟩ : Shape).size inb2) hu2).view.ref.isScScratch = false} {hsrc : ((Memref.whole cc0_scratch1 : Memref sig .tc .vmem ⟨2, ![1792, 2048]⟩ .bf16).slice (Rect.unit (s := ⟨2, ![1792, 2048]⟩) off1 (⟨2, ![n, 2048]⟩ : Shape).size inb1) hu1).view.WordExact} {hdst : ((Memref.whole cc0_scratch0 : Memref sig .tc .vmem ⟨2, ![1792, 2048]⟩ .bf16).slice (Rect.unit (s := ⟨2, ![1792, 2048]⟩) off2 (⟨2, ![n, 2048]⟩ : Shape).size inb2) hu2).view.WordExact}
    {hsem : DmaTarget.Typed .vmem (.dma s2) (.remote (Dev.tc e : Thread nD τ) ((Memref.whole cc0_scratch0 : Memref sig .tc .vmem ⟨2, ![1792, 2048]⟩ .bf16).slice (Rect.unit (s := ⟨2, ![1792, 2048]⟩) off2 (⟨2, ![n, 2048]⟩ : Shape).size inb2) hu2) (.dma s1) hsc)}
    {kk : PUnit → Prog (TpuEff nD τ sig (Elt F) Λ₀ .tc) α}
    {P P' : sProp 𝕄} (hs : P ⊢ iprop(srcP c x (tval X Wt c x) ∗ (fly (F := F) c x -∗ P'))) :
    Run X Wt K c i j ⊢ iprop(P -∗ (Run X Wt K c (i + 1) j -∗ P' -∗ WP c (kk ⟨⟩) Q)
        -∗ WP c (.op (.enqueueDma ((Memref.whole cc0_scratch1 : Memref sig .tc .vmem ⟨2, ![1792, 2048]⟩ .bf16).slice (Rect.unit (s := ⟨2, ![1792, 2048]⟩) off1 (⟨2, ![n, 2048]⟩ : Shape).size inb1) hu1) (.remote (Dev.tc e : Thread nD τ) ((Memref.whole cc0_scratch0 : Memref sig .tc .vmem ⟨2, ![1792, 2048]⟩ .bf16).slice (Rect.unit (s := ⟨2, ![1792, 2048]⟩) off2 (⟨2, ![n, 2048]⟩ : Shape).size inb2) hu2) (.dma s1) hsc) (.dma s2) hsrc hdst hsem) kk) Q) := by
  unfold Run; rw [hi]
  iintro HS HP Hk
  ihave ⟨Hs, HP⟩ := hs $$ HP
  iapply (start_rs X Wt K Q c x hu hx he _ _ hn ho1 ho2 h1 h2) $$ [HS Hs]
  · isplitl [HS] <;> iassumption
  iintro ⟨Hf, HS⟩
  ihave HP := HP $$ Hf
  iapply Hk $$ HS HP

/-- Starting a transfer of gathered rows. -/
theorem run_start_ag {α : Type} (Q : α → sProp 𝕄) (c : Dev nD) {e : Dev nD} (x : Xf) (i j : ℕ) (hi : order.drop i = x :: order.drop (i + 1))
    (hu : used x = true) (hx : ¬x.2.val < 3) (he : e = partner (tdim x) c)
    {n : ℕ} (hn : n = tlen x) {off1 off2 : Fin 2 → ℕ} (ho1 : off1 = ![tstart c x, 0]) (ho2 : off2 = ![tstart c x, 0])
    {inb1 : ∀ a, off1 a + (⟨2, ![n, 2048]⟩ : Shape).size a ≤ (⟨2, ![2048, 2048]⟩ : Shape).size a}
    {inb2 : ∀ a, off2 a + (⟨2, ![n, 2048]⟩ : Shape).size a ≤ (⟨2, ![2048, 2048]⟩ : Shape).size a}
    {s1 s2 : DmaSem sig} (h1 : s1 = xsem x false) (h2 : s2 = xsem x true)
    {hu1 : ∀ a, (Rect.unit (s := ⟨2, ![2048, 2048]⟩) off1 (⟨2, ![n, 2048]⟩ : Shape).size inb1).stride a = 1} {hu2 : ∀ a, (Rect.unit (s := ⟨2, ![2048, 2048]⟩) off2 (⟨2, ![n, 2048]⟩ : Shape).size inb2).stride a = 1}
    {hsc : ((Memref.whole cc0_scratch2 : Memref sig .tc .vmem ⟨2, ![2048, 2048]⟩ .bf16).slice (Rect.unit (s := ⟨2, ![2048, 2048]⟩) off2 (⟨2, ![n, 2048]⟩ : Shape).size inb2) hu2).view.ref.isScScratch = false} {hsrc : ((Memref.whole cc0_scratch2 : Memref sig .tc .vmem ⟨2, ![2048, 2048]⟩ .bf16).slice (Rect.unit (s := ⟨2, ![2048, 2048]⟩) off1 (⟨2, ![n, 2048]⟩ : Shape).size inb1) hu1).view.WordExact} {hdst : ((Memref.whole cc0_scratch2 : Memref sig .tc .vmem ⟨2, ![2048, 2048]⟩ .bf16).slice (Rect.unit (s := ⟨2, ![2048, 2048]⟩) off2 (⟨2, ![n, 2048]⟩ : Shape).size inb2) hu2).view.WordExact}
    {hsem : DmaTarget.Typed .vmem (.dma s2) (.remote (Dev.tc e : Thread nD τ) ((Memref.whole cc0_scratch2 : Memref sig .tc .vmem ⟨2, ![2048, 2048]⟩ .bf16).slice (Rect.unit (s := ⟨2, ![2048, 2048]⟩) off2 (⟨2, ![n, 2048]⟩ : Shape).size inb2) hu2) (.dma s1) hsc)}
    {kk : PUnit → Prog (TpuEff nD τ sig (Elt F) Λ₀ .tc) α}
    {P P' : sProp 𝕄} (hs : P ⊢ iprop(srcP c x (tval X Wt c x) ∗ (fly (F := F) c x -∗ P'))) :
    Run X Wt K c i j ⊢ iprop(P -∗ (Run X Wt K c (i + 1) j -∗ P' -∗ WP c (kk ⟨⟩) Q)
        -∗ WP c (.op (.enqueueDma ((Memref.whole cc0_scratch2 : Memref sig .tc .vmem ⟨2, ![2048, 2048]⟩ .bf16).slice (Rect.unit (s := ⟨2, ![2048, 2048]⟩) off1 (⟨2, ![n, 2048]⟩ : Shape).size inb1) hu1) (.remote (Dev.tc e : Thread nD τ) ((Memref.whole cc0_scratch2 : Memref sig .tc .vmem ⟨2, ![2048, 2048]⟩ .bf16).slice (Rect.unit (s := ⟨2, ![2048, 2048]⟩) off2 (⟨2, ![n, 2048]⟩ : Shape).size inb2) hu2) (.dma s1) hsc) (.dma s2) hsrc hdst hsem) kk) Q) := by
  unfold Run; rw [hi]
  iintro HS HP Hk
  ihave ⟨Hs, HP⟩ := hs $$ HP
  iapply (start_ag X Wt K Q c x hu hx he _ _ hn ho1 ho2 h1 h2) $$ [HS Hs]
  · isplitl [HS] <;> iassumption
  iintro ⟨Hf, HS⟩
  ihave HP := HP $$ Hf
  iapply Hk $$ HS HP

/-- Waiting for a transfer's own rows. -/
theorem run_snd {α : Type} (Q : α → sProp 𝕄) (c : Dev nD) (x : Xf) (i j : ℕ) (hu : used x = true)
    {s : Shape} {a b : Memref sig .tc .vmem s .bf16} {s1 : DmaSem sig} (h1 : s1 = xsem x false) (hs : s = ⟨2, ![tlen x, 2048]⟩)
    {ha : a.view.WordExact} {hb : b.view.WordExact} {kk : PUnit → Prog (TpuEff nD τ sig (Elt F) Λ₀ .tc) α}
    {P P' : sProp 𝕄} (hs' : P ⊢ iprop(fly (F := F) c x ∗ ((fly2 (F := F) c x ∗ srcP c x (tval X Wt c x)) -∗ P'))) :
    Run X Wt K c i j ⊢ iprop(P -∗ (Run X Wt K c i j -∗ P' -∗ WP c (kk ⟨⟩) Q)
        -∗ WP c (.op (.waitDma2 s1 a b ha hb) kk) Q) := by
  unfold Run
  iintro HS HP Hk
  ihave ⟨Hf, HP⟩ := hs' $$ HP
  iapply (wait_snd X Wt K Q c x hu _ _ h1 hs) $$ [HS Hf]
  · isplitl [HS] <;> iassumption
  iintro ⟨HS, Hf, Hs⟩
  ihave HP := HP $$ [Hf Hs]
  · isplitl [Hf] <;> iassumption
  iapply Hk $$ HS HP

/-- Waiting for the partner's rows. -/
theorem run_rcv {α : Type} (Q : α → sProp 𝕄) (c : Dev nD) (x : Xf) (i j : ℕ) (hu : used x = true)
    (hl : ∀ y ∈ order.drop i, order.idxOf x < order.idxOf y) (hj : (order.take (j + 1)).reverse = x :: (order.take j).reverse)
    {s : Shape} {a b : Memref sig .tc .vmem s .bf16} {s1 : DmaSem sig} (h1 : s1 = xsem x true) (hs : s = ⟨2, ![tlen x, 2048]⟩)
    {ha : a.view.WordExact} {hb : b.view.WordExact} {kk : PUnit → Prog (TpuEff nD τ sig (Elt F) Λ₀ .tc) α}
    {P P' : sProp 𝕄} (hs' : P ⊢ iprop(fly2 (F := F) c x ∗ (rcvPay X Wt c x -∗ P'))) :
    Run X Wt K c i j ⊢ iprop(P -∗ (Run X Wt K c i (j + 1) -∗ P' -∗ WP c (kk ⟨⟩) Q)
        -∗ WP c (.op (.waitDma2 s1 a b ha hb) kk) Q) := by
  unfold Run; rw [hj]
  iintro HS HP Hk
  ihave ⟨Hf, HP⟩ := hs' $$ HP
  iapply (wait_rcv X Wt K Q c x hu _ _ hl h1 hs) $$ [HS Hf]
  · isplitl [HS] <;> iassumption
  iintro ⟨HS, Hr⟩
  ihave HP := HP $$ Hr
  iapply Hk $$ HS HP

end Cert.Fly

end
-- ==== Proof.Rules.lean ====
/-
# Phase to phase by loads and stores

The rules that take a part from one phase to the next through the device's own loads and stores. Each group of the kernel loads its
operands (`read_…`) and then stores their combination (`put_…`); the two are separate rules, since a group can be split between
two stretches of the program.
-/
module

public import proofs.«01_k».proof.Proof.Phases
public import proofs.«01_k».proof.Proof.Blocks

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x256 .f32) (Wt : Dev nD → Vec F S256x2048 .f32)

/-! ## Offsets within a slot -/

/-- The rows sent at one stage begin no earlier than those kept at the stage before. -/
theorem ks_le_ss (c : Dev nD) (p : Fin 3) (k : ℕ) : ks c p k ≤ ss c p (k + 1) := Nat.le_add_right _ _
/-- Nor do the rows kept. -/
theorem ks_le_ks (c : Dev nD) (p : Fin 3) (k : ℕ) : ks c p k ≤ ks c p (k + 1) := Nat.le_add_right _ _
/-- The rows kept and the rows sent at one stage are among those kept at the stage before. -/
theorem in_slot (c : Dev nD) (p k : Fin 3) (hk : k.val < 2) :
    ss c p (k + 1) + sz p (k + 1) ≤ ks c p k + sz p k ∧ ks c p (k + 1) + sz p (k + 1) ≤ ks c p k + sz p k := by
  revert c p k; decide

/-! ## The first products -/

/-- The first rows to send are stored. -/
theorem put_snd0 {α : Type} (Q : α → sProp 𝕄) (c : Dev nD) (p : Fin 3) {n : ℕ} {off1 : Fin 2 → ℕ}
    {inb1 : ∀ a, off1 a + (⟨2, ![n, 2048]⟩ : Shape).size a ≤ (⟨2, ![1792, 2048]⟩ : Shape).size a}
    {hl1 : (Memref.whole cc0_scratch1 : Memref sig .tc _ _ _).view.LoadsAt (Rect.unit (s := ⟨2, ![1792, 2048]⟩) off1 (⟨2, ![n, 2048]⟩ : Shape).size inb1).toLoadRect}
    {hx1 : ((Memref.whole cc0_scratch1 : Memref sig .tc _ _ _).access (Rect.unit (s := ⟨2, ![1792, 2048]⟩) off1 (⟨2, ![n, 2048]⟩ : Shape).size inb1)).Stores Finset.univ}
    {hm1 : (Finset.univ : Finset (Rect.unit (s := ⟨2, ![1792, 2048]⟩) off1 (⟨2, ![n, 2048]⟩ : Shape).size inb1).shape.Idx) = Finset.univ ∨ ∀ a, (Rect.unit (s := ⟨2, ![1792, 2048]⟩) off1 (⟨2, ![n, 2048]⟩ : Shape).size inb1).stride a = 1}
    {w : Vec F ⟨2, ![n, 2048]⟩ .bf16} {kk : PUnit → Prog (TpuEff nD τ sig (Elt F) Λ₀ .tc) α}
    (hn : n = sz p 0) (h1 : off1 = ![sb p 0, 0])
    (hw : ∀ i, w i = FloatOps.truncf .bf16 bitsLt_bf16_f32 (dotv X Wt c p (ss c p 0) (ss c p 0 + (i 0).val) (i 1))) :
    phA c p ⊢ iprop((phB X Wt c p -∗ WP c (kk ⟨⟩) Q)
      -∗ WP c (.op (.load (Memref.whole cc0_scratch1) (Rect.unit (s := ⟨2, ![1792, 2048]⟩) off1 (⟨2, ![n, 2048]⟩ : Shape).size inb1).toLoadRect hl1) fun _ => .op (.store (Memref.whole cc0_scratch1) (Rect.unit (s := ⟨2, ![1792, 2048]⟩) off1 (⟨2, ![n, 2048]⟩ : Shape).size inb1) w Finset.univ hx1 hm1) kk) Q) := by
  subst hn
  have hg : ∀ i, w i = tval X Wt c (xof p 0) (sb p 0 + (i 0).val) (i 1) := fun i => by
    refine (hw i).trans ?_; show _ = snd X Wt 0 c p (ss c p 0 + (sb p 0 + (i 0).val) - sb p 0) (i 1)
    rw [show ss c p 0 + (sb p 0 + (i 0).val) - sb p 0 = ss c p 0 + (i 0).val by omega]; rfl
  unfold phA phB
  show iprop(_ ∗ ((∃ f, sndP (F := F) c (sb p 0) (sz p 0) f) ∗ new c p 1) ∗ _) ⊢ _
  iintro ⟨Ho, ⟨⟨%f, Hs⟩, Hn⟩, Hr⟩ Hk
  iapply (load_snd Q c h1 le_rfl le_rfl) $$ Hs; iintro Hs
  iapply (store_snd Q c _ h1 hg) $$ Hs; iintro Hs
  iapply Hk
  isplitl [Hs]; · iexact Hs
  isplitl [Ho]; · iexact Ho
  isplitl [Hn] <;> iassumption

/-- The first rows to keep are stored. -/
theorem put_out0 {α : Type} (Q : α → sProp 𝕄) (c : Dev nD) (p : Fin 3) {n : ℕ} {off1 : Fin 2 → ℕ}
    {inb1 : ∀ a, off1 a + (⟨2, ![n, 2048]⟩ : Shape).size a ≤ (⟨2, ![2048, 2048]⟩ : Shape).size a}
    {hl1 : (Memref.whole cc0_stg2_0 : Memref sig .tc _ _ _).view.LoadsAt (Rect.unit (s := ⟨2, ![2048, 2048]⟩) off1 (⟨2, ![n, 2048]⟩ : Shape).size inb1).toLoadRect}
    {hx1 : ((Memref.whole cc0_stg2_0 : Memref sig .tc _ _ _).access (Rect.unit (s := ⟨2, ![2048, 2048]⟩) off1 (⟨2, ![n, 2048]⟩ : Shape).size inb1)).Stores Finset.univ}
    {hm1 : (Finset.univ : Finset (Rect.unit (s := ⟨2, ![2048, 2048]⟩) off1 (⟨2, ![n, 2048]⟩ : Shape).size inb1).shape.Idx) = Finset.univ ∨ ∀ a, (Rect.unit (s := ⟨2, ![2048, 2048]⟩) off1 (⟨2, ![n, 2048]⟩ : Shape).size inb1).stride a = 1}
    {w : Vec F ⟨2, ![n, 2048]⟩ .f32} {kk : PUnit → Prog (TpuEff nD τ sig (Elt F) Λ₀ .tc) α}
    (hn : n = sz p 0) (h1 : off1 = ![ks c p 0, 0])
    (hw : ∀ i, w i = dotv X Wt c p (ks c p 0) (ks c p 0 + (i 0).val) (i 1)) :
    phE c p ⊢ iprop((phF X Wt c p 0 -∗ WP c (kk ⟨⟩) Q)
      -∗ WP c (.op (.load (Memref.whole cc0_stg2_0) (Rect.unit (s := ⟨2, ![2048, 2048]⟩) off1 (⟨2, ![n, 2048]⟩ : Shape).size inb1).toLoadRect hl1) fun _ => .op (.store (Memref.whole cc0_stg2_0) (Rect.unit (s := ⟨2, ![2048, 2048]⟩) off1 (⟨2, ![n, 2048]⟩ : Shape).size inb1) w Finset.univ hx1 hm1) kk) Q) := by
  subst hn
  have hg : ∀ i, w i = acc X Wt 0 c p (ks c p 0 + (i 0).val) (i 1) := hw
  unfold phE phF
  iintro ⟨Hf, ⟨%f, Ho⟩, Hr⟩ Hk
  iapply (load_out Q c h1 le_rfl le_rfl) $$ Ho; iintro Ho
  iapply (store_out Q c _ h1 hg) $$ Ho; iintro Ho
  iapply Hk
  isplitl [Hf]; · iexact Hf
  isplitl [Ho] <;> iassumption

/-! ## A stage of the reduction -/

/-- The rows to send next, and the partner's rows for them, are loaded. -/
theorem read_fwd {α : Type} (Q : α → sProp 𝕄) (c : Dev nD) (p : Fin 3) (k : ℕ) (hk : k < 2) {n : ℕ} {off1 off2 : Fin 2 → ℕ}
    {inb1 : ∀ a, off1 a + (⟨2, ![n, 2048]⟩ : Shape).size a ≤ (⟨2, ![2048, 2048]⟩ : Shape).size a}
    {hl1 : (Memref.whole cc0_stg2_0 : Memref sig .tc _ _ _).view.LoadsAt (Rect.unit (s := ⟨2, ![2048, 2048]⟩) off1 (⟨2, ![n, 2048]⟩ : Shape).size inb1).toLoadRect}
    {inb2 : ∀ a, off2 a + (⟨2, ![n, 2048]⟩ : Shape).size a ≤ (⟨2, ![1792, 2048]⟩ : Shape).size a}
    {hl2 : (Memref.whole cc0_scratch0 : Memref sig .tc _ _ _).view.LoadsAt (Rect.unit (s := ⟨2, ![1792, 2048]⟩) off2 (⟨2, ![n, 2048]⟩ : Shape).size inb2).toLoadRect}
    {kk : Vec F ⟨2, ![n, 2048]⟩ .f32 → Vec F ⟨2, ![n, 2048]⟩ .bf16 → Prog (TpuEff nD τ sig (Elt F) Λ₀ .tc) α}
    (hn : n = sz p (k + 1)) (h1 : off1 = ![ss c p (k + 1), 0]) (h2 : off2 = ![sb p k + (ss c p (k + 1) - ks c p k), 0]) :
    phH X Wt c p k ⊢ iprop((phH X Wt c p k -∗ WP c (kk (fun i => acc X Wt k c p (ss c p (k + 1) + (i 0).val) (i 1)) (fun i => snd X Wt k (partner (dm p k) c) p (ss c p (k + 1) + (i 0).val) (i 1))) Q)
      -∗ WP c (.op (.load (Memref.whole cc0_stg2_0) (Rect.unit (s := ⟨2, ![2048, 2048]⟩) off1 (⟨2, ![n, 2048]⟩ : Shape).size inb1).toLoadRect hl1) fun v1 => .op (.load (Memref.whole cc0_scratch0) (Rect.unit (s := ⟨2, ![1792, 2048]⟩) off2 (⟨2, ![n, 2048]⟩ : Shape).size inb2).toLoadRect hl2) fun v2 => kk v1 v2) Q) := by
  subst hn
  have hle := ks_le_ss c p k
  have hin : ss c p (k + 1) + sz p (k + 1) ≤ ks c p k + sz p k := (in_slot c p ⟨k, by omega⟩ hk).1
  have hg : (fun i : (⟨2, ![sz p (k + 1), 2048]⟩ : Shape).Idx => rv X Wt c p k (sb p k + (ss c p (k + 1) - ks c p k) + (i 0).val) (i 1))
      = fun i => snd X Wt k (partner (dm p k) c) p (ss c p (k + 1) + (i 0).val) (i 1) := by
    funext i; unfold rv
    rw [show ks c p k + (sb p k + (ss c p (k + 1) - ks c p k) + (i 0).val) - sb p k = ss c p (k + 1) + (i 0).val by omega]
  unfold phH
  iintro ⟨Hr, Hs, Ho, Hp⟩ Hk
  iapply (load_out Q c h1 hle hin) $$ Ho; iintro Ho
  iapply (load_rcv Q c h2 (a := sb p k) (k := sz p k) (by omega) (by omega)) $$ Hr; iintro Hr
  rw [hg]
  iapply Hk
  isplitl [Hr]; · iexact Hr
  isplitl [Hs]; · iexact Hs
  isplitl [Ho] <;> iassumption

/-- The rows to send next are stored. -/
theorem put_fwd {α : Type} (Q : α → sProp 𝕄) (c : Dev nD) (p : Fin 3) (k : ℕ) (hk : k < 2) {n : ℕ} {off1 : Fin 2 → ℕ}
    {inb1 : ∀ a, off1 a + (⟨2, ![n, 2048]⟩ : Shape).size a ≤ (⟨2, ![1792, 2048]⟩ : Shape).size a}
    {hl1 : (Memref.whole cc0_scratch1 : Memref sig .tc _ _ _).view.LoadsAt (Rect.unit (s := ⟨2, ![1792, 2048]⟩) off1 (⟨2, ![n, 2048]⟩ : Shape).size inb1).toLoadRect}
    {hx1 : ((Memref.whole cc0_scratch1 : Memref sig .tc _ _ _).access (Rect.unit (s := ⟨2, ![1792, 2048]⟩) off1 (⟨2, ![n, 2048]⟩ : Shape).size inb1)).Stores Finset.univ}
    {hm1 : (Finset.univ : Finset (Rect.unit (s := ⟨2, ![1792, 2048]⟩) off1 (⟨2, ![n, 2048]⟩ : Shape).size inb1).shape.Idx) = Finset.univ ∨ ∀ a, (Rect.unit (s := ⟨2, ![1792, 2048]⟩) off1 (⟨2, ![n, 2048]⟩ : Shape).size inb1).stride a = 1}
    {w : Vec F ⟨2, ![n, 2048]⟩ .bf16} {kk : PUnit → Prog (TpuEff nD τ sig (Elt F) Λ₀ .tc) α}
    (hn : n = sz p (k + 1)) (h1 : off1 = ![sb p (k + 1), 0])
    (hw : ∀ i, w i = FloatOps.truncf .bf16 bitsLt_bf16_f32 (FloatOps.addf (acc X Wt k c p (ss c p (k + 1) + (i 0).val) (i 1)) (FloatOps.extf .f32 bitsLt_bf16_f32 (snd X Wt k (partner (dm p k) c) p (ss c p (k + 1) + (i 0).val) (i 1))))) :
    phH X Wt c p k ⊢ iprop((phI X Wt c p k -∗ WP c (kk ⟨⟩) Q)
      -∗ WP c (.op (.load (Memref.whole cc0_scratch1) (Rect.unit (s := ⟨2, ![1792, 2048]⟩) off1 (⟨2, ![n, 2048]⟩ : Shape).size inb1).toLoadRect hl1) fun _ => .op (.store (Memref.whole cc0_scratch1) (Rect.unit (s := ⟨2, ![1792, 2048]⟩) off1 (⟨2, ![n, 2048]⟩ : Shape).size inb1) w Finset.univ hx1 hm1) kk) Q) := by
  subst hn
  have hg : ∀ i, w i = tval X Wt c (xof p (k + 1)) (sb p (k + 1) + (i 0).val) (i 1) := fun i => by
    have hx : (xof p (k + 1)).2.val = k + 1 := Nat.mod_eq_of_lt (by omega)
    refine (hw i).trans ?_; unfold tval; rw [hx, if_pos (by omega)]
    show FloatOps.truncf .bf16 bitsLt_bf16_f32 (acc X Wt (k + 1) c p (ss c p (k + 1) + (i 0).val) (i 1)) = snd X Wt (k + 1) c p (ss c p (k + 1) + (sb p (k + 1) + (i 0).val) - sb p (k + 1)) (i 1)
    rw [show ss c p (k + 1) + (sb p (k + 1) + (i 0).val) - sb p (k + 1) = ss c p (k + 1) + (i 0).val by omega]; rfl
  have hh : outP c (ks c p k) (sz p k) (acc X Wt k c p) ⊢ iprop(outP c (ks c p (k + 1)) (sz p (k + 1)) (acc X Wt k c p) ∗ oSent (F := F) c p (k + 1)) := by
    rw [show (outP c (ks c p k) (sz p k) (acc X Wt k c p) : sProp 𝕄) = _ from (rows_out c).half c p ⟨k, hk⟩ _]
    unfold oSent
    iintro ⟨H1, H2⟩
    isplitl [H1]; · iexact H1
    iexists _; iexact H2
  unfold phH phI
  rw [new_succ c p (k + 1) (by omega)]
  unfold sSlot
  iintro ⟨Hr, Hs, Ho, ⟨⟨%f, Hn⟩, Hm⟩, Hp⟩ Hk
  ihave Ho := hh $$ Ho
  iapply (load_snd Q c h1 le_rfl le_rfl) $$ Hn; iintro Hn
  iapply (store_snd Q c _ h1 hg) $$ Hn; iintro Hn
  iapply Hk
  isplitl [Hr]; · iexact Hr
  isplitl [Hs]; · iexact Hs
  isplitl [Ho]; · iexact Ho
  isplitl [Hn]; · iexact Hn
  isplitl [Hm] <;> iassumption

/-- The rows kept, and the partner's rows for them, are loaded. -/
theorem read_keep {α : Type} (Q : α → sProp 𝕄) (c : Dev nD) (p : Fin 3) (k : ℕ) (hk : k < 2) {n : ℕ} {off1 off2 : Fin 2 → ℕ}
    {inb1 : ∀ a, off1 a + (⟨2, ![n, 2048]⟩ : Shape).size a ≤ (⟨2, ![2048, 2048]⟩ : Shape).size a}
    {hl1 : (Memref.whole cc0_stg2_0 : Memref sig .tc _ _ _).view.LoadsAt (Rect.unit (s := ⟨2, ![2048, 2048]⟩) off1 (⟨2, ![n, 2048]⟩ : Shape).size inb1).toLoadRect}
    {inb2 : ∀ a, off2 a + (⟨2, ![n, 2048]⟩ : Shape).size a ≤ (⟨2, ![1792, 2048]⟩ : Shape).size a}
    {hl2 : (Memref.whole cc0_scratch0 : Memref sig .tc _ _ _).view.LoadsAt (Rect.unit (s := ⟨2, ![1792, 2048]⟩) off2 (⟨2, ![n, 2048]⟩ : Shape).size inb2).toLoadRect}
    {kk : Vec F ⟨2, ![n, 2048]⟩ .f32 → Vec F ⟨2, ![n, 2048]⟩ .bf16 → Prog (TpuEff nD τ sig (Elt F) Λ₀ .tc) α}
    (hn : n = sz p (k + 1)) (h1 : off1 = ![ks c p (k + 1), 0]) (h2 : off2 = ![sb p k + (ks c p (k + 1) - ks c p k), 0]) :
    phI X Wt c p k ⊢ iprop((phI X Wt c p k -∗ WP c (kk (fun i => acc X Wt k c p (ks c p (k + 1) + (i 0).val) (i 1)) (fun i => snd X Wt k (partner (dm p k) c) p (ks c p (k + 1) + (i 0).val) (i 1))) Q)
      -∗ WP c (.op (.load (Memref.whole cc0_stg2_0) (Rect.unit (s := ⟨2, ![2048, 2048]⟩) off1 (⟨2, ![n, 2048]⟩ : Shape).size inb1).toLoadRect hl1) fun v1 => .op (.load (Memref.whole cc0_scratch0) (Rect.unit (s := ⟨2, ![1792, 2048]⟩) off2 (⟨2, ![n, 2048]⟩ : Shape).size inb2).toLoadRect hl2) fun v2 => kk v1 v2) Q) := by
  subst hn
  have hle := ks_le_ks c p k
  have hin : ks c p (k + 1) + sz p (k + 1) ≤ ks c p k + sz p k := (in_slot c p ⟨k, by omega⟩ hk).2
  have hg : (fun i : (⟨2, ![sz p (k + 1), 2048]⟩ : Shape).Idx => rv X Wt c p k (sb p k + (ks c p (k + 1) - ks c p k) + (i 0).val) (i 1))
      = fun i => snd X Wt k (partner (dm p k) c) p (ks c p (k + 1) + (i 0).val) (i 1) := by
    funext i; unfold rv
    rw [show ks c p k + (sb p k + (ks c p (k + 1) - ks c p k) + (i 0).val) - sb p k = ks c p (k + 1) + (i 0).val by omega]
  unfold phI
  iintro ⟨Hr, Hs, ⟨Ho, Hj⟩, Hp⟩ Hk
  iapply (load_out Q c h1 le_rfl le_rfl) $$ Ho; iintro Ho
  iapply (load_rcv Q c h2 (a := sb p k) (k := sz p k) (by omega) (by omega)) $$ Hr; iintro Hr
  rw [hg]
  iapply Hk
  isplitl [Hr]; · iexact Hr
  isplitl [Hs]; · iexact Hs
  isplitl [Ho Hj]; · isplitl [Ho] <;> iassumption
  iexact Hp

/-- The rows kept are stored: the stage is done. -/
theorem put_keep {α : Type} (Q : α → sProp 𝕄) (c : Dev nD) (p : Fin 3) (k : ℕ) {n : ℕ} {off1 : Fin 2 → ℕ}
    {inb1 : ∀ a, off1 a + (⟨2, ![n, 2048]⟩ : Shape).size a ≤ (⟨2, ![2048, 2048]⟩ : Shape).size a}
    {hl1 : (Memref.whole cc0_stg2_0 : Memref sig .tc _ _ _).view.LoadsAt (Rect.unit (s := ⟨2, ![2048, 2048]⟩) off1 (⟨2, ![n, 2048]⟩ : Shape).size inb1).toLoadRect}
    {hx1 : ((Memref.whole cc0_stg2_0 : Memref sig .tc _ _ _).access (Rect.unit (s := ⟨2, ![2048, 2048]⟩) off1 (⟨2, ![n, 2048]⟩ : Shape).size inb1)).Stores Finset.univ}
    {hm1 : (Finset.univ : Finset (Rect.unit (s := ⟨2, ![2048, 2048]⟩) off1 (⟨2, ![n, 2048]⟩ : Shape).size inb1).shape.Idx) = Finset.univ ∨ ∀ a, (Rect.unit (s := ⟨2, ![2048, 2048]⟩) off1 (⟨2, ![n, 2048]⟩ : Shape).size inb1).stride a = 1}
    {w : Vec F ⟨2, ![n, 2048]⟩ .f32} {kk : PUnit → Prog (TpuEff nD τ sig (Elt F) Λ₀ .tc) α}
    (hn : n = sz p (k + 1)) (h1 : off1 = ![ks c p (k + 1), 0])
    (hw : ∀ i, w i = FloatOps.addf (acc X Wt k c p (ks c p (k + 1) + (i 0).val) (i 1)) (FloatOps.extf .f32 bitsLt_bf16_f32 (snd X Wt k (partner (dm p k) c) p (ks c p (k + 1) + (i 0).val) (i 1)))) :
    phI X Wt c p k ⊢ iprop((phJ X Wt c p (k + 1) -∗ WP c (kk ⟨⟩) Q)
      -∗ WP c (.op (.load (Memref.whole cc0_stg2_0) (Rect.unit (s := ⟨2, ![2048, 2048]⟩) off1 (⟨2, ![n, 2048]⟩ : Shape).size inb1).toLoadRect hl1) fun _ => .op (.store (Memref.whole cc0_stg2_0) (Rect.unit (s := ⟨2, ![2048, 2048]⟩) off1 (⟨2, ![n, 2048]⟩ : Shape).size inb1) w Finset.univ hx1 hm1) kk) Q) := by
  subst hn
  have hg : ∀ i, w i = acc X Wt (k + 1) c p (ks c p (k + 1) + (i 0).val) (i 1) := hw
  unfold phI phJ
  show _ ⊢ iprop(((_ ∗ _ ∗ _ ∗ (old c p k ∗ rSlot (F := F) c p k ∗ sSlot c p k ∗ oSent c p (k + 1)) ∗ _) -∗ _) -∗ _)
  iintro ⟨Hr, Hs, ⟨Ho, Hj⟩, Hn, Hm, Hl, Ha⟩ Hk
  iapply (load_out Q c h1 le_rfl le_rfl) $$ Ho; iintro Ho
  iapply (store_out Q c _ h1 hg) $$ Ho; iintro Ho
  iapply Hk
  isplitl [Hn]; · iexact Hn
  isplitl [Ho]; · iexact Ho
  isplitl [Hm]; · iexact Hm
  isplitl [Hr Hs Hl Hj]
  · isplitl [Hl]; · iexact Hl
    isplitl [Hr]
    · unfold rSlot; iexists _; iexact Hr
    isplitl [Hs] <;> iassumption
  iexact Ha

/-! ## The last stage of the reduction, and the device's own leaf -/

/-- The rows kept, and the last partner's rows for them, are loaded. -/
theorem read_fin {α : Type} (Q : α → sProp 𝕄) (c : Dev nD) (p : Fin 3) {n : ℕ} {off1 off2 : Fin 2 → ℕ}
    {inb1 : ∀ a, off1 a + (⟨2, ![n, 2048]⟩ : Shape).size a ≤ (⟨2, ![2048, 2048]⟩ : Shape).size a}
    {hl1 : (Memref.whole cc0_stg2_0 : Memref sig .tc _ _ _).view.LoadsAt (Rect.unit (s := ⟨2, ![2048, 2048]⟩) off1 (⟨2, ![n, 2048]⟩ : Shape).size inb1).toLoadRect}
    {inb2 : ∀ a, off2 a + (⟨2, ![n, 2048]⟩ : Shape).size a ≤ (⟨2, ![1792, 2048]⟩ : Shape).size a}
    {hl2 : (Memref.whole cc0_scratch0 : Memref sig .tc _ _ _).view.LoadsAt (Rect.unit (s := ⟨2, ![1792, 2048]⟩) off2 (⟨2, ![n, 2048]⟩ : Shape).size inb2).toLoadRect}
    {kk : Vec F ⟨2, ![n, 2048]⟩ .f32 → Vec F ⟨2, ![n, 2048]⟩ .bf16 → Prog (TpuEff nD τ sig (Elt F) Λ₀ .tc) α}
    (hn : n = sz p 2) (h1 : off1 = ![ks c p 2, 0]) (h2 : off2 = ![sb p 2, 0]) :
    phH X Wt c p 2 ⊢ iprop((phH X Wt c p 2 -∗ WP c (kk (fun i => acc X Wt 2 c p (ks c p 2 + (i 0).val) (i 1)) (fun i => snd X Wt 2 (partner (dm p 2) c) p (ks c p 2 + (i 0).val) (i 1))) Q)
      -∗ WP c (.op (.load (Memref.whole cc0_stg2_0) (Rect.unit (s := ⟨2, ![2048, 2048]⟩) off1 (⟨2, ![n, 2048]⟩ : Shape).size inb1).toLoadRect hl1) fun v1 => .op (.load (Memref.whole cc0_scratch0) (Rect.unit (s := ⟨2, ![1792, 2048]⟩) off2 (⟨2, ![n, 2048]⟩ : Shape).size inb2).toLoadRect hl2) fun v2 => kk v1 v2) Q) := by
  subst hn
  have hg : (fun i : (⟨2, ![sz p 2, 2048]⟩ : Shape).Idx => rv X Wt c p 2 (sb p 2 + (i 0).val) (i 1))
      = fun i => snd X Wt 2 (partner (dm p 2) c) p (ks c p 2 + (i 0).val) (i 1) := by
    funext i; unfold rv
    rw [show ks c p 2 + (sb p 2 + (i 0).val) - sb p 2 = ks c p 2 + (i 0).val by omega]
  unfold phH
  iintro ⟨Hr, Hs, Ho, Hp⟩ Hk
  iapply (load_out Q c h1 le_rfl le_rfl) $$ Ho; iintro Ho
  iapply (load_rcv Q c h2 le_rfl le_rfl) $$ Hr; iintro Hr
  rw [hg]
  iapply Hk
  isplitl [Hr]; · iexact Hr
  isplitl [Hs]; · iexact Hs
  isplitl [Ho] <;> iassumption

/-- The reduced rows are stored. -/
theorem put_fin {α : Type} (Q : α → sProp 𝕄) (c : Dev nD) (p : Fin 3) {n : ℕ} {off1 : Fin 2 → ℕ}
    {inb1 : ∀ a, off1 a + (⟨2, ![n, 2048]⟩ : Shape).size a ≤ (⟨2, ![2048, 2048]⟩ : Shape).size a}
    {hl1 : (Memref.whole cc0_stg2_0 : Memref sig .tc _ _ _).view.LoadsAt (Rect.unit (s := ⟨2, ![2048, 2048]⟩) off1 (⟨2, ![n, 2048]⟩ : Shape).size inb1).toLoadRect}
    {hx1 : ((Memref.whole cc0_stg2_0 : Memref sig .tc _ _ _).access (Rect.unit (s := ⟨2, ![2048, 2048]⟩) off1 (⟨2, ![n, 2048]⟩ : Shape).size inb1)).Stores Finset.univ}
    {hm1 : (Finset.univ : Finset (Rect.unit (s := ⟨2, ![2048, 2048]⟩) off1 (⟨2, ![n, 2048]⟩ : Shape).size inb1).shape.Idx) = Finset.univ ∨ ∀ a, (Rect.unit (s := ⟨2, ![2048, 2048]⟩) off1 (⟨2, ![n, 2048]⟩ : Shape).size inb1).stride a = 1}
    {w : Vec F ⟨2, ![n, 2048]⟩ .f32} {kk : PUnit → Prog (TpuEff nD τ sig (Elt F) Λ₀ .tc) α}
    (hn : n = sz p 2) (h1 : off1 = ![ks c p 2, 0])
    (hw : ∀ i, w i = FloatOps.maximumf (FloatOps.addf (acc X Wt 2 c p (ks c p 2 + (i 0).val) (i 1)) (FloatOps.extf .f32 bitsLt_bf16_f32 (snd X Wt 2 (partner (dm p 2) c) p (ks c p 2 + (i 0).val) (i 1)))) (FloatOps.ofBits .f32 0x00000000#32)) :
    phH X Wt c p 2 ⊢ iprop((phL X Wt c p -∗ WP c (kk ⟨⟩) Q)
      -∗ WP c (.op (.load (Memref.whole cc0_stg2_0) (Rect.unit (s := ⟨2, ![2048, 2048]⟩) off1 (⟨2, ![n, 2048]⟩ : Shape).size inb1).toLoadRect hl1) fun _ => .op (.store (Memref.whole cc0_stg2_0) (Rect.unit (s := ⟨2, ![2048, 2048]⟩) off1 (⟨2, ![n, 2048]⟩ : Shape).size inb1) w Finset.univ hx1 hm1) kk) Q) := by
  subst hn
  have hg : ∀ i, w i = fin X Wt c p (ks c p 2 + (i 0).val) (i 1) := hw
  unfold phH phL
  iintro ⟨Hr, Hs, Ho, Hm, Hl, Ha⟩ Hk
  iapply (load_out Q c h1 le_rfl le_rfl) $$ Ho; iintro Ho
  iapply (store_out Q c _ h1 hg) $$ Ho; iintro Ho
  iapply Hk
  isplitl [Ho]; · iexact Ho
  isplitl [Ha]; · iexact Ha
  isplitl [Hr]
  · unfold rSlot; iexists _; iexact Hr
  isplitl [Hs] <;> iassumption

/-- The reduced rows are loaded. -/
theorem read_leaf {α : Type} (Q : α → sProp 𝕄) (c : Dev nD) (p : Fin 3) {n : ℕ} {off1 : Fin 2 → ℕ}
    {inb1 : ∀ a, off1 a + (⟨2, ![n, 2048]⟩ : Shape).size a ≤ (⟨2, ![2048, 2048]⟩ : Shape).size a}
    {hl1 : (Memref.whole cc0_stg2_0 : Memref sig .tc _ _ _).view.LoadsAt (Rect.unit (s := ⟨2, ![2048, 2048]⟩) off1 (⟨2, ![n, 2048]⟩ : Shape).size inb1).toLoadRect}
    {kk : Vec F ⟨2, ![n, 2048]⟩ .f32 → Prog (TpuEff nD τ sig (Elt F) Λ₀ .tc) α}
    (hn : n = sz p 2) (h1 : off1 = ![ks c p 2, 0]) :
    phL X Wt c p ⊢ iprop((phL X Wt c p -∗ WP c (kk (fun i => fin X Wt c p (ks c p 2 + (i 0).val) (i 1))) Q)
      -∗ WP c (.op (.load (Memref.whole cc0_stg2_0) (Rect.unit (s := ⟨2, ![2048, 2048]⟩) off1 (⟨2, ![n, 2048]⟩ : Shape).size inb1).toLoadRect hl1) kk) Q) := by
  subst hn
  unfold phL
  iintro ⟨Ho, Hp⟩ Hk
  iapply (load_out Q c h1 le_rfl le_rfl) $$ Ho; iintro Ho
  iapply Hk
  isplitl [Ho] <;> iassumption

/-- The reduced rows are stored for the gather. -/
theorem put_leaf {α : Type} (Q : α → sProp 𝕄) (c : Dev nD) (p : Fin 3) {n : ℕ} {off1 : Fin 2 → ℕ}
    {inb1 : ∀ a, off1 a + (⟨2, ![n, 2048]⟩ : Shape).size a ≤ (⟨2, ![2048, 2048]⟩ : Shape).size a}
    {hl1 : (Memref.whole cc0_scratch2 : Memref sig .tc _ _ _).view.LoadsAt (Rect.unit (s := ⟨2, ![2048, 2048]⟩) off1 (⟨2, ![n, 2048]⟩ : Shape).size inb1).toLoadRect}
    {hx1 : ((Memref.whole cc0_scratch2 : Memref sig .tc _ _ _).access (Rect.unit (s := ⟨2, ![2048, 2048]⟩) off1 (⟨2, ![n, 2048]⟩ : Shape).size inb1)).Stores Finset.univ}
    {hm1 : (Finset.univ : Finset (Rect.unit (s := ⟨2, ![2048, 2048]⟩) off1 (⟨2, ![n, 2048]⟩ : Shape).size inb1).shape.Idx) = Finset.univ ∨ ∀ a, (Rect.unit (s := ⟨2, ![2048, 2048]⟩) off1 (⟨2, ![n, 2048]⟩ : Shape).size inb1).stride a = 1}
    {w : Vec F ⟨2, ![n, 2048]⟩ .bf16} {kk : PUnit → Prog (TpuEff nD τ sig (Elt F) Λ₀ .tc) α}
    (hn : n = sz p 2) (h1 : off1 = ![ks c p 2, 0])
    (hw : ∀ i, w i = FloatOps.truncf .bf16 bitsLt_bf16_f32 (fin X Wt c p (ks c p 2 + (i 0).val) (i 1))) :
    phL X Wt c p ⊢ iprop((phN X Wt c p 2 -∗ WP c (kk ⟨⟩) Q)
      -∗ WP c (.op (.load (Memref.whole cc0_scratch2) (Rect.unit (s := ⟨2, ![2048, 2048]⟩) off1 (⟨2, ![n, 2048]⟩ : Shape).size inb1).toLoadRect hl1) fun _ => .op (.store (Memref.whole cc0_scratch2) (Rect.unit (s := ⟨2, ![2048, 2048]⟩) off1 (⟨2, ![n, 2048]⟩ : Shape).size inb1) w Finset.univ hx1 hm1) kk) Q) := by
  subst hn
  have hg : ∀ i, w i = gat X Wt (ks c p 2 + (i 0).val) (i 1) := fun i => by
    exact (hw i).trans (gat_leaf X Wt (Nat.le_add_right _ _) (Nat.add_lt_add_left (i 0).isLt _) _).symm
  have hv : (outP c (ks c p 2) (sz p 2) (fin X Wt c p) : sProp 𝕄) = outP c (ks c p 2) (sz p 2) (outv X Wt c) :=
    (rows_out c).congr _ _ _ _ fun r j h1 h2 => (outv_leaf X Wt h1 h2 j).symm
  unfold phL phN
  show iprop(_ ∗ _ ∗ _ ∗ _ ∗ ((oSent (F := F) c p 0 ∗ rSlot c p 0 ∗ sSlot c p 0 ∗ oSent c p 1) ∗ rSlot c p 1 ∗ sSlot c p 1 ∗ oSent c p 2))
    ⊢ iprop(((_ ∗ _ ∗ (oSent (F := F) c p 2 ∗ oSent c p 1 ∗ oSent c p 0) ∗ ((rSlot c p 0 ∗ rSlot c p 1 ∗ rSlot c p 2) ∗ sSlot c p 0 ∗ sSlot c p 1 ∗ sSlot c p 2)) -∗ _) -∗ _)
  unfold aLeaf
  rw [hv]
  iintro ⟨Ho, ⟨%f, Ha⟩, Hr2, Hs2, ⟨Hj0, Hr0, Hs0, Hj1⟩, Hr1, Hs1, Hj2⟩ Hk
  iapply (load_ag Q c h1 le_rfl le_rfl) $$ Ha; iintro Ha
  iapply (store_ag Q c _ h1 hg) $$ Ha; iintro Ha
  iapply Hk
  isplitl [Ha]; · iexact Ha
  isplitl [Ho]; · iexact Ho
  isplitl [Hj0 Hj1 Hj2]
  · isplitl [Hj2]; · iexact Hj2
    isplitl [Hj1] <;> iassumption
  isplitl [Hr0 Hr1 Hr2]
  · isplitl [Hr0]; · iexact Hr0
    isplitl [Hr1] <;> iassumption
  isplitl [Hs0]; · iexact Hs0
  isplitl [Hs1] <;> iassumption

/-! ## The gather -/

/-- Gathered rows are loaded. -/
theorem read_ag {α : Type} (Q : α → sProp 𝕄) (c : Dev nD) (p : Fin 3) (m : ℕ) {n : ℕ} {off1 : Fin 2 → ℕ}
    {inb1 : ∀ a, off1 a + (⟨2, ![n, 2048]⟩ : Shape).size a ≤ (⟨2, ![2048, 2048]⟩ : Shape).size a}
    {hl1 : (Memref.whole cc0_scratch2 : Memref sig .tc _ _ _).view.LoadsAt (Rect.unit (s := ⟨2, ![2048, 2048]⟩) off1 (⟨2, ![n, 2048]⟩ : Shape).size inb1).toLoadRect}
    {kk : Vec F ⟨2, ![n, 2048]⟩ .bf16 → Prog (TpuEff nD τ sig (Elt F) Λ₀ .tc) α}
    (hn : n = sz p m) (h1 : off1 = ![ss c p m, 0]) :
    phQ X Wt c p m ⊢ iprop((phQ X Wt c p m -∗ WP c (kk (fun i => gat X Wt (ss c p m + (i 0).val) (i 1))) Q)
      -∗ WP c (.op (.load (Memref.whole cc0_scratch2) (Rect.unit (s := ⟨2, ![2048, 2048]⟩) off1 (⟨2, ![n, 2048]⟩ : Shape).size inb1).toLoadRect hl1) kk) Q) := by
  subst hn
  unfold phQ
  iintro ⟨Ho, Hp⟩ Hk
  iapply (load_ag Q c h1 le_rfl le_rfl) $$ Ho; iintro Ho
  iapply Hk
  isplitl [Ho] <;> iassumption

/-- Gathered rows are stored into the result. -/
theorem put_ag {α : Type} (Q : α → sProp 𝕄) (c : Dev nD) (p : Fin 3) (m : ℕ) (hm : m < 2) {n : ℕ} {off1 : Fin 2 → ℕ}
    {inb1 : ∀ a, off1 a + (⟨2, ![n, 2048]⟩ : Shape).size a ≤ (⟨2, ![2048, 2048]⟩ : Shape).size a}
    {hl1 : (Memref.whole cc0_stg2_0 : Memref sig .tc _ _ _).view.LoadsAt (Rect.unit (s := ⟨2, ![2048, 2048]⟩) off1 (⟨2, ![n, 2048]⟩ : Shape).size inb1).toLoadRect}
    {hx1 : ((Memref.whole cc0_stg2_0 : Memref sig .tc _ _ _).access (Rect.unit (s := ⟨2, ![2048, 2048]⟩) off1 (⟨2, ![n, 2048]⟩ : Shape).size inb1)).Stores Finset.univ}
    {hm1 : (Finset.univ : Finset (Rect.unit (s := ⟨2, ![2048, 2048]⟩) off1 (⟨2, ![n, 2048]⟩ : Shape).size inb1).shape.Idx) = Finset.univ ∨ ∀ a, (Rect.unit (s := ⟨2, ![2048, 2048]⟩) off1 (⟨2, ![n, 2048]⟩ : Shape).size inb1).stride a = 1}
    {w : Vec F ⟨2, ![n, 2048]⟩ .f32} {kk : PUnit → Prog (TpuEff nD τ sig (Elt F) Λ₀ .tc) α}
    (hn : n = sz p (m + 1)) (h1 : off1 = ![ss c p (m + 1), 0])
    (hw : ∀ i, w i = FloatOps.extf .f32 bitsLt_bf16_f32 (gat X Wt (ss c p (m + 1) + (i 0).val) (i 1))) :
    phQ X Wt c p (m + 1) ⊢ iprop((phN X Wt c p m -∗ WP c (kk ⟨⟩) Q)
      -∗ WP c (.op (.load (Memref.whole cc0_stg2_0) (Rect.unit (s := ⟨2, ![2048, 2048]⟩) off1 (⟨2, ![n, 2048]⟩ : Shape).size inb1).toLoadRect hl1) fun _ => .op (.store (Memref.whole cc0_stg2_0) (Rect.unit (s := ⟨2, ![2048, 2048]⟩) off1 (⟨2, ![n, 2048]⟩ : Shape).size inb1) w Finset.univ hx1 hm1) kk) Q) := by
  subst hn
  have hg : ∀ i, w i = outv X Wt c (ss c p (m + 1) + (i 0).val) (i 1) := fun i => by
    exact (hw i).trans (outv_sent X Wt (c := c) (p := p) ⟨m + 1, by omega⟩ (Nat.le_add_right _ _) (Nat.add_lt_add_left (i 0).isLt _) _).symm
  have h3 : (outP c (ks c p m) (sz p m) (outv X Wt c) : sProp 𝕄) = _ := (rows_out c).half c p ⟨m, hm⟩ _
  have h4 : (agP c (ks c p m) (sz p m) (gat X Wt) : sProp 𝕄) = _ := (rows_ag c).half c p ⟨m, hm⟩ _
  unfold phQ phN
  rw [h3, h4]
  show iprop(_ ∗ _ ∗ _ ∗ ((∃ f, outP (F := F) c (ss c p (m + 1)) (sz p (m + 1)) f) ∗ left c p m) ∗ _) ⊢ _
  iintro ⟨Hj, Hk', Ho, ⟨⟨%f, Hn⟩, Hl⟩, Hs⟩ Hk
  iapply (load_out Q c h1 le_rfl le_rfl) $$ Hn; iintro Hn
  iapply (store_out Q c _ h1 hg) $$ Hn; iintro Hn
  iapply Hk
  isplitl [Hj Hk']; · isplitl [Hk'] <;> iassumption
  isplitl [Ho Hn]; · isplitl [Ho] <;> iassumption
  isplitl [Hl] <;> iassumption

/-- A piece of the last gathered rows is loaded. -/
theorem read_pc {α : Type} (Q : α → sProp 𝕄) (c : Dev nD) (p : Fin 3) (j : ℕ) {n : ℕ} {off1 : Fin 2 → ℕ}
    {inb1 : ∀ a, off1 a + (⟨2, ![n, 2048]⟩ : Shape).size a ≤ (⟨2, ![2048, 2048]⟩ : Shape).size a}
    {hl1 : (Memref.whole cc0_scratch2 : Memref sig .tc _ _ _).view.LoadsAt (Rect.unit (s := ⟨2, ![2048, 2048]⟩) off1 (⟨2, ![n, 2048]⟩ : Shape).size inb1).toLoadRect}
    {kk : Vec F ⟨2, ![n, 2048]⟩ .bf16 → Prog (TpuEff nD τ sig (Elt F) Λ₀ .tc) α}
    (hn : n = sz p 1) (h1 : off1 = ![ss c p 0 + j * sz p 1, 0]) :
    pcH X Wt c p j ⊢ iprop((pcH X Wt c p j -∗ WP c (kk (fun i => gat X Wt (ss c p 0 + j * sz p 1 + (i 0).val) (i 1))) Q)
      -∗ WP c (.op (.load (Memref.whole cc0_scratch2) (Rect.unit (s := ⟨2, ![2048, 2048]⟩) off1 (⟨2, ![n, 2048]⟩ : Shape).size inb1).toLoadRect hl1) kk) Q) := by
  subst hn
  unfold pcH
  iintro ⟨Ho, Hp⟩ Hk
  iapply (load_ag Q c h1 le_rfl le_rfl) $$ Ho; iintro Ho
  iapply Hk
  isplitl [Ho] <;> iassumption

/-- A piece of the last gathered rows is stored into the result. -/
theorem put_pc {α : Type} (Q : α → sProp 𝕄) (c : Dev nD) (p : Fin 3) (j : ℕ) (hj : j < 2) {n : ℕ} {off1 : Fin 2 → ℕ}
    {inb1 : ∀ a, off1 a + (⟨2, ![n, 2048]⟩ : Shape).size a ≤ (⟨2, ![2048, 2048]⟩ : Shape).size a}
    {hl1 : (Memref.whole cc0_stg2_0 : Memref sig .tc _ _ _).view.LoadsAt (Rect.unit (s := ⟨2, ![2048, 2048]⟩) off1 (⟨2, ![n, 2048]⟩ : Shape).size inb1).toLoadRect}
    {hx1 : ((Memref.whole cc0_stg2_0 : Memref sig .tc _ _ _).access (Rect.unit (s := ⟨2, ![2048, 2048]⟩) off1 (⟨2, ![n, 2048]⟩ : Shape).size inb1)).Stores Finset.univ}
    {hm1 : (Finset.univ : Finset (Rect.unit (s := ⟨2, ![2048, 2048]⟩) off1 (⟨2, ![n, 2048]⟩ : Shape).size inb1).shape.Idx) = Finset.univ ∨ ∀ a, (Rect.unit (s := ⟨2, ![2048, 2048]⟩) off1 (⟨2, ![n, 2048]⟩ : Shape).size inb1).stride a = 1}
    {w : Vec F ⟨2, ![n, 2048]⟩ .f32} {kk : PUnit → Prog (TpuEff nD τ sig (Elt F) Λ₀ .tc) α}
    (hn : n = sz p 1) (h1 : off1 = ![ss c p 0 + j * sz p 1, 0])
    (hw : ∀ i, w i = FloatOps.extf .f32 bitsLt_bf16_f32 (gat X Wt (ss c p 0 + j * sz p 1 + (i 0).val) (i 1))) :
    pcH X Wt c p j ⊢ iprop((pcD X Wt c p j -∗ WP c (kk ⟨⟩) Q)
      -∗ WP c (.op (.load (Memref.whole cc0_stg2_0) (Rect.unit (s := ⟨2, ![2048, 2048]⟩) off1 (⟨2, ![n, 2048]⟩ : Shape).size inb1).toLoadRect hl1) fun _ => .op (.store (Memref.whole cc0_stg2_0) (Rect.unit (s := ⟨2, ![2048, 2048]⟩) off1 (⟨2, ![n, 2048]⟩ : Shape).size inb1) w Finset.univ hx1 hm1) kk) Q) := by
  subst hn
  have hb : ss c p 0 + j * sz p 1 + sz p 1 ≤ ss c p 0 + sz p 0 := by
    have : sz p 1 + sz p 1 = sz p 0 := (by decide : ∀ p : Fin 3, sz p 1 + sz p 1 = sz p 0) p
    interval_cases j <;> omega
  have hg : ∀ i, w i = outv X Wt c (ss c p 0 + j * sz p 1 + (i 0).val) (i 1) := fun i => by
    have hi : (i 0).val < sz p 1 := (i 0).isLt
    exact (hw i).trans (outv_sent X Wt (c := c) (p := p) 0 (by show ss c p 0 ≤ _; omega) (by show _ < ss c p 0 + sz p 0; omega) _).symm
  unfold pcH pcD oPiece
  iintro ⟨Hj, Hk', ⟨%f, Hn⟩⟩ Hk
  iapply (load_out Q c h1 le_rfl le_rfl) $$ Hn; iintro Hn
  iapply (store_out Q c _ h1 hg) $$ Hn; iintro Hn
  iapply Hk
  isplitl [Hj]; · iexact Hj
  isplitl [Hk'] <;> iassumption

/-- Before the last stage: the rows gathered so far, in two pieces to be sent. -/
theorem split_home (c : Dev nD) (p : Fin 3) : phN X Wt c p 0 ⊢ iprop(home X Wt c p ∗ pcR X Wt c p 0 ∗ pcR X Wt c p 1) := by
  have h4 : (agP c (ks c p 0) (sz p 0) (gat X Wt) : sProp 𝕄) = _ := (rows_ag c).two (ks c p 0) p _
  have h5 : ∀ f, (outP c (ss c p 0) (sz p 0) f : sProp 𝕄) = _ := fun f => (rows_out c).two (ss c p 0) p f
  unfold phN home pcR oPiece
  rw [h4]
  show iprop(_ ∗ _ ∗ (∃ f, outP (F := F) c (ss c p 0) (sz p 0) f) ∗ _) ⊢ _
  iintro ⟨⟨Ha, Hb⟩, Ho, ⟨%f, Hj⟩, Hs⟩
  ihave ⟨H0, H1⟩ := (Entails.of_eq (h5 f)) $$ Hj
  isplitl [Ho Hs]; · isplitl [Ho] <;> iassumption
  isplitl [Ha H0]
  · isplitl [Ha]; · iexact Ha
    iexists f; iexact H0
  isplitl [Hb]; · iexact Hb
  iexists f; iexact H1

end Cert.Fly

end
-- ==== Proof.Offs.lean ====
/-
# The printed offsets and peers

Where each load, store and transfer of the kernel goes, in the terms of the plan: the rows kept, the rows sent, the slots.
-/
module

public import proofs.«01_k».proof.Proof.Rules

@[expose] public section

namespace Cert.Fly

open Cert.KernelIdeal Cert.KernelIdeal.Gen
open Idealize.ShloMosaic Idealize.ShloMosaic.TcCoe

/-! ## Rows of `x`, of the result, of the slots and of the gather buffer

Each theorem `offN` says where the offsets that the program computes from the device's number begin: at the rows kept (`ks`) or
sent (`ss`) of a part at a stage, or, for the receive slots, at the slot's base and the distance of those rows from the first
row kept before. The last ones, with a letter, are the two pieces of the last stage of the gathering. -/

theorem off1 (c : Dev nD) : k0_off1 c = ![ss c 2 0, 0] := by revert c; decide +kernel
theorem off2 (c : Dev nD) : k0_off2 c = ![ss c 0 0, 0] := by revert c; decide +kernel
theorem off3 (c : Dev nD) : k0_off3 c = ![ss c 1 0, 0] := by revert c; decide +kernel
theorem off4 (c : Dev nD) : k0_off4 c = ![ks c 0 0, 0] := by revert c; decide +kernel
theorem off5 (c : Dev nD) : k0_off5 c = ![ks c 0 0, 0] := by revert c; decide +kernel
theorem off6 (c : Dev nD) : k0_off6 c = ![ks c 1 0, 0] := by revert c; decide +kernel
theorem off7 (c : Dev nD) : k0_off7 c = ![ks c 1 0, 0] := by revert c; decide +kernel
theorem off8 (c : Dev nD) : k0_off8 c = ![ks c 2 0, 0] := by revert c; decide +kernel
theorem off9 (c : Dev nD) : k0_off9 c = ![ks c 2 0, 0] := by revert c; decide +kernel
theorem off10 (c : Dev nD) : k0_off10 c = ![ss c 2 1, 0] := by revert c; decide +kernel
theorem off12 (c : Dev nD) : k0_off12 c = ![ks c 2 1, 0] := by revert c; decide +kernel
theorem off11 (c : Dev nD) : k0_off11 c = ![sb 2 0 + (ss c 2 1 - ks c 2 0), 0] := by revert c; decide +kernel
theorem off13 (c : Dev nD) : k0_off13 c = ![sb 2 0 + (ks c 2 1 - ks c 2 0), 0] := by revert c; decide +kernel
theorem off14 (c : Dev nD) : k0_off14 c = ![ss c 0 1, 0] := by revert c; decide +kernel
theorem off16 (c : Dev nD) : k0_off16 c = ![ks c 0 1, 0] := by revert c; decide +kernel
theorem off15 (c : Dev nD) : k0_off15 c = ![sb 0 0 + (ss c 0 1 - ks c 0 0), 0] := by revert c; decide +kernel
theorem off17 (c : Dev nD) : k0_off17 c = ![sb 0 0 + (ks c 0 1 - ks c 0 0), 0] := by revert c; decide +kernel
theorem off18 (c : Dev nD) : k0_off18 c = ![ss c 1 1, 0] := by revert c; decide +kernel
theorem off20 (c : Dev nD) : k0_off20 c = ![ks c 1 1, 0] := by revert c; decide +kernel
theorem off19 (c : Dev nD) : k0_off19 c = ![sb 1 0 + (ss c 1 1 - ks c 1 0), 0] := by revert c; decide +kernel
theorem off21 (c : Dev nD) : k0_off21 c = ![sb 1 0 + (ks c 1 1 - ks c 1 0), 0] := by revert c; decide +kernel
theorem off22 (c : Dev nD) : k0_off22 c = ![ss c 0 2, 0] := by revert c; decide +kernel
theorem off24 (c : Dev nD) : k0_off24 c = ![ks c 0 2, 0] := by revert c; decide +kernel
theorem off23 (c : Dev nD) : k0_off23 c = ![sb 0 1 + (ss c 0 2 - ks c 0 1), 0] := by revert c; decide +kernel
theorem off25 (c : Dev nD) : k0_off25 c = ![sb 0 1 + (ks c 0 2 - ks c 0 1), 0] := by revert c; decide +kernel
theorem off26 (c : Dev nD) : k0_off26 c = ![ss c 1 2, 0] := by revert c; decide +kernel
theorem off28 (c : Dev nD) : k0_off28 c = ![ks c 1 2, 0] := by revert c; decide +kernel
theorem off27 (c : Dev nD) : k0_off27 c = ![sb 1 1 + (ss c 1 2 - ks c 1 1), 0] := by revert c; decide +kernel
theorem off29 (c : Dev nD) : k0_off29 c = ![sb 1 1 + (ks c 1 2 - ks c 1 1), 0] := by revert c; decide +kernel
theorem off30 (c : Dev nD) : k0_off30 c = ![ss c 2 2, 0] := by revert c; decide +kernel
theorem off32 (c : Dev nD) : k0_off32 c = ![ks c 2 2, 0] := by revert c; decide +kernel
theorem off31 (c : Dev nD) : k0_off31 c = ![sb 2 1 + (ss c 2 2 - ks c 2 1), 0] := by revert c; decide +kernel
theorem off33 (c : Dev nD) : k0_off33 c = ![sb 2 1 + (ks c 2 2 - ks c 2 1), 0] := by revert c; decide +kernel
theorem off34 (c : Dev nD) : k0_off34 c = ![ks c 0 2, 0] := by revert c; decide +kernel
theorem off35 (c : Dev nD) : k0_off35 c = ![ks c 1 2, 0] := by revert c; decide +kernel
theorem off36 (c : Dev nD) : k0_off36 c = ![ks c 2 2, 0] := by revert c; decide +kernel
theorem off37 (c : Dev nD) : k0_off37 c = ![ss c 0 2, 0] := by revert c; decide +kernel
theorem off38 (c : Dev nD) : k0_off38 c = ![ss c 1 2, 0] := by revert c; decide +kernel
theorem off39 (c : Dev nD) : k0_off39 c = ![ss c 2 2, 0] := by revert c; decide +kernel
theorem off40 (c : Dev nD) : k0_off40 c = ![ks c 0 1, 0] := by revert c; decide +kernel
theorem off41 (c : Dev nD) : k0_off41 c = ![ks c 1 1, 0] := by revert c; decide +kernel
theorem off42 (c : Dev nD) : k0_off42 c = ![ks c 2 1, 0] := by revert c; decide +kernel
theorem off43 (c : Dev nD) : k0_off43 c = ![ss c 0 1, 0] := by revert c; decide +kernel
theorem off44 (c : Dev nD) : k0_off44 c = ![ss c 1 1, 0] := by revert c; decide +kernel
theorem off45 (c : Dev nD) : k0_off45 c = ![ss c 2 1, 0] := by revert c; decide +kernel
theorem off46a (c : Dev nD) : k0_off46 c 0#32 = ![ks c 0 0 + 0 * sz 0 1, 0] := by revert c; decide +kernel
theorem off49a (c : Dev nD) : k0_off49 c 0#32 = ![ss c 0 0 + 0 * sz 0 1, 0] := by revert c; decide +kernel
theorem off46b (c : Dev nD) : k0_off46 c 160#32 = ![ks c 0 0 + 1 * sz 0 1, 0] := by revert c; decide +kernel
theorem off49b (c : Dev nD) : k0_off49 c 160#32 = ![ss c 0 0 + 1 * sz 0 1, 0] := by revert c; decide +kernel
theorem off47a (c : Dev nD) : k0_off47 c 0#32 = ![ks c 1 0 + 0 * sz 1 1, 0] := by revert c; decide +kernel
theorem off50a (c : Dev nD) : k0_off50 c 0#32 = ![ss c 1 0 + 0 * sz 1 1, 0] := by revert c; decide +kernel
theorem off47b (c : Dev nD) : k0_off47 c 160#32 = ![ks c 1 0 + 1 * sz 1 1, 0] := by revert c; decide +kernel
theorem off50b (c : Dev nD) : k0_off50 c 160#32 = ![ss c 1 0 + 1 * sz 1 1, 0] := by revert c; decide +kernel
theorem off48a (c : Dev nD) : k0_off48 c 0#32 = ![ks c 2 0 + 0 * sz 2 1, 0] := by revert c; decide +kernel
theorem off51a (c : Dev nD) : k0_off51 c 0#32 = ![ss c 2 0 + 0 * sz 2 1, 0] := by revert c; decide +kernel
theorem off48b (c : Dev nD) : k0_off48 c 192#32 = ![ks c 2 0 + 1 * sz 2 1, 0] := by revert c; decide +kernel
theorem off51b (c : Dev nD) : k0_off51 c 192#32 = ![ss c 2 0 + 1 * sz 2 1, 0] := by revert c; decide +kernel

/-! ## The peers

Each theorem `devN` says which partner the N-th printed peer is: the first three are those told at the barrier, the others the
receivers of the transfers in the order in which they start. -/

theorem dev1 (c : Dev nD) : (⟨k0_dev1 c, k0_dev1_lt c⟩ : Dev nD) = partner 0 c := by revert c; decide +kernel
theorem dev2 (c : Dev nD) : (⟨k0_dev2 c, k0_dev2_lt c⟩ : Dev nD) = partner 1 c := by revert c; decide +kernel
theorem dev3 (c : Dev nD) : (⟨k0_dev3 c, k0_dev3_lt c⟩ : Dev nD) = partner 2 c := by revert c; decide +kernel
theorem dev4 (c : Dev nD) : (⟨k0_dev4 c, k0_dev4_lt c⟩ : Dev nD) = partner (tdim (xof 2 0)) c := by revert c; decide +kernel
theorem dev5 (c : Dev nD) : (⟨k0_dev5 c, k0_dev5_lt c⟩ : Dev nD) = partner (tdim (xof 0 0)) c := by revert c; decide +kernel
theorem dev6 (c : Dev nD) : (⟨k0_dev6 c, k0_dev6_lt c⟩ : Dev nD) = partner (tdim (xof 1 0)) c := by revert c; decide +kernel
theorem dev7 (c : Dev nD) : (⟨k0_dev7 c, k0_dev7_lt c⟩ : Dev nD) = partner (tdim (xof 0 1)) c := by revert c; decide +kernel
theorem dev8 (c : Dev nD) : (⟨k0_dev8 c, k0_dev8_lt c⟩ : Dev nD) = partner (tdim (xof 1 1)) c := by revert c; decide +kernel
theorem dev9 (c : Dev nD) : (⟨k0_dev9 c, k0_dev9_lt c⟩ : Dev nD) = partner (tdim (xof 2 1)) c := by revert c; decide +kernel
theorem dev10 (c : Dev nD) : (⟨k0_dev10 c, k0_dev10_lt c⟩ : Dev nD) = partner (tdim (xof 0 2)) c := by revert c; decide +kernel
theorem dev11 (c : Dev nD) : (⟨k0_dev11 c, k0_dev11_lt c⟩ : Dev nD) = partner (tdim (xof 1 2)) c := by revert c; decide +kernel
theorem dev12 (c : Dev nD) : (⟨k0_dev12 c, k0_dev12_lt c⟩ : Dev nD) = partner (tdim (xof 2 2)) c := by revert c; decide +kernel
theorem dev13 (c : Dev nD) : (⟨k0_dev13 c, k0_dev13_lt c⟩ : Dev nD) = partner (tdim (xof 0 3)) c := by revert c; decide +kernel
theorem dev14 (c : Dev nD) : (⟨k0_dev14 c, k0_dev14_lt c⟩ : Dev nD) = partner (tdim (xof 1 3)) c := by revert c; decide +kernel
theorem dev15 (c : Dev nD) : (⟨k0_dev15 c, k0_dev15_lt c⟩ : Dev nD) = partner (tdim (xof 2 3)) c := by revert c; decide +kernel
theorem dev16 (c : Dev nD) : (⟨k0_dev16 c, k0_dev16_lt c⟩ : Dev nD) = partner (tdim (xof 0 5)) c := by revert c; decide +kernel
theorem dev17 (c : Dev nD) : (⟨k0_dev17 c, k0_dev17_lt c⟩ : Dev nD) = partner (tdim (xof 1 5)) c := by revert c; decide +kernel
theorem dev18 (c : Dev nD) : (⟨k0_dev18 c, k0_dev18_lt c⟩ : Dev nD) = partner (tdim (xof 2 5)) c := by revert c; decide +kernel
theorem dev19 (c : Dev nD) : (⟨k0_dev19 c, k0_dev19_lt c⟩ : Dev nD) = partner (tdim (xof 0 7)) c := by revert c; decide +kernel
theorem dev20 (c : Dev nD) : (⟨k0_dev20 c, k0_dev20_lt c⟩ : Dev nD) = partner (tdim (xof 0 8)) c := by revert c; decide +kernel
theorem dev21 (c : Dev nD) : (⟨k0_dev21 c, k0_dev21_lt c⟩ : Dev nD) = partner (tdim (xof 1 7)) c := by revert c; decide +kernel
theorem dev22 (c : Dev nD) : (⟨k0_dev22 c, k0_dev22_lt c⟩ : Dev nD) = partner (tdim (xof 1 8)) c := by revert c; decide +kernel
theorem dev23 (c : Dev nD) : (⟨k0_dev23 c, k0_dev23_lt c⟩ : Dev nD) = partner (tdim (xof 2 7)) c := by revert c; decide +kernel
theorem dev24 (c : Dev nD) : (⟨k0_dev24 c, k0_dev24_lt c⟩ : Dev nD) = partner (tdim (xof 2 8)) c := by revert c; decide +kernel

end Cert.Fly

end
-- ==== Proof.PartsA.lean ====
/-
# The reduction, first half

The kernel's stretches up to the sums of the first stage: what each does to the parts' phases.
-/
module

public import proofs.«01_k».proof.Proof.Offs

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x256 .f32) (Wt : Dev nD → Vec F S256x2048 .f32) (K : Dev nD × Ci → ℕ)

/-- A stretch of the kernel, on the kernel's buffers and semaphores. -/
abbrev on {β : Type 1} (f : (arg0 : Memref sig .tc .vmem S2048x256 .f32) → arg0.IsWhole → (arg1 : Memref sig .tc .vmem S256x2048 .f32) → arg1.IsWhole →
    (arg2 : Memref sig .tc .vmem S2048x2048 .f32) → arg2.IsWhole → (arg3 : Memref sig .tc .vmem S1792x2048 .bf16) → arg3.IsWhole →
    (arg4 : Memref sig .tc .vmem S1792x2048 .bf16) → arg4.IsWhole → (arg5 : Memref sig .tc .vmem S2048x2048 .bf16) → arg5.IsWhole →
    DmaSems sig S3x2x3 → DmaSems sig S3x2x3x2 → β) : β :=
  f (Memref.whole cc0_stg0_0) (Memref.isWhole_whole _) (Memref.whole cc0_stg1_0) (Memref.isWhole_whole _) (Memref.whole cc0_stg2_0) (Memref.isWhole_whole _)
    (Memref.whole cc0_scratch0) (Memref.isWhole_whole _) (Memref.whole cc0_scratch1) (Memref.isWhole_whole _) (Memref.whole cc0_scratch2) (Memref.isWhole_whole _)
    cc0_scratch3 cc0_scratch4

/-- The product of 320 rows that the first part forms is `dotv`. -/
theorem dot0 (c : Dev nD) (a : ℕ) (i : (⟨2, ![320, 2048]⟩ : Shape).Idx) : blk0 (xrows X c 320 a) (Wt c) i = dotv X Wt c 0 a (a + (i 0).val) (i 1) := (at2_of (n := 320) (by decide) _ i a).symm
/-- So is the second part's. -/
theorem dot1 (c : Dev nD) (a : ℕ) (i : (⟨2, ![320, 2048]⟩ : Shape).Idx) : blk0 (xrows X c 320 a) (Wt c) i = dotv X Wt c 1 a (a + (i 0).val) (i 1) := (at2_of (n := 320) (by decide) _ i a).symm
/-- And the third part's, of 384 rows. -/
theorem dot2 (c : Dev nD) (a : ℕ) (i : (⟨2, ![384, 2048]⟩ : Shape).Idx) : blk2 (xrows X c 384 a) (Wt c) i = dotv X Wt c 2 a (a + (i 0).val) (i 1) := (at2_of (n := 384) (by decide) _ i a).symm

/-- The first rows of part 2 to send are computed and sent. -/
theorem part2 {α : Type} (Q : α → sProp 𝕄) (c : Dev nD) {w0 w1 w2 w3 : BitVec 32}
    {kk : (Σ' (_ : BitVec 32) (_ : FVec F S320x256 .f32) (_ : FVec F S256x2048 .f32), FVec F S320x2048 .f32) → Prog (TpuEff nD τ sig (Elt F) Λ₀ .tc) α} :
    Run X Wt K c 0 0 ⊢ iprop(phA c 2 -∗ xP X c -∗ wP Wt c
      -∗ (∀ v0 : BitVec 32, Run X Wt K c 1 0 -∗ phE c 2 -∗ xP X c -∗ wP Wt c -∗ WP c (kk ⟨v0, k0_pay3 (xrows X c 320 (ss c 0 0)), k0_pay4 (Wt c), constant S320x2048 .f32 0x00000000#32⟩) Q)
      -∗ WP c (on (k0_part2 (F := F)) c w0 w1 w2 w3 >>= kk) Q) := by
  unfold on
  rw [k0_part2_eq_skeleton]
  unfold k0_part2_skel
  simp only [Prog.lift, Prog.bind_op, Prog.bind_ret, Prog.pure_eq_ret]
  iintro HS H2 Hx Hw Hk
  iapply (load_x X Q c (n := 384) (off1 c) ((by decide +kernel : ∀ c, ss c 2 0 + 384 ≤ 2048) c)) $$ Hx; iintro Hx
  iapply (load_w Wt Q c rfl) $$ Hw; iintro Hw
  iapply (put_snd0 X Wt Q c 2 (n := 384) rfl rfl fun i => by simp only [k0_pay2, shapeCast_self]; exact congrArg (FloatOps.truncf .bf16 bitsLt_bf16_f32) (dot2 X Wt c _ i)) $$ H2; iintro H2
  iapply (run_start_rs X Wt K Q c (xof 2 0) 0 0 rfl rfl (by decide) (dev4 c) (n := 384) rfl rfl rfl rfl rfl (goB X Wt c 2)) $$ HS H2; iintro HS H2
  iapply (load_x X Q c (n := 320) (off2 c) ((by decide +kernel : ∀ c, ss c 0 0 + 320 ≤ 2048) c)) $$ Hx; iintro Hx
  iapply (load_w Wt Q c rfl) $$ Hw; iintro Hw
  iapply Hk $$ HS H2 Hx Hw

/-- The first rows of part 0 to send are sent, those of part 1 computed. -/
theorem part3 {α : Type} (Q : α → sProp 𝕄) (c : Dev nD) {w0 w1 w2 w3 : BitVec 32}
    {kk : (Σ' (_ : BitVec 32), BitVec 32) → Prog (TpuEff nD τ sig (Elt F) Λ₀ .tc) α} :
    Run X Wt K c 1 0 ⊢ iprop(phA c 0 -∗ phA c 1 -∗ xP X c -∗ wP Wt c
      -∗ (∀ v0 : BitVec 32, ∀ v1 : BitVec 32, Run X Wt K c 2 0 -∗ phE c 0 -∗ phB X Wt c 1 -∗ xP X c -∗ wP Wt c -∗ WP c (kk ⟨v0, v1⟩) Q)
      -∗ WP c (on (k0_part3 (F := F)) c w0 w1 w2 w3 (k0_pay3 (xrows X c 320 (ss c 0 0))) (k0_pay4 (Wt c)) (constant S320x2048 .f32 0x00000000#32) >>= kk) Q) := by
  unfold on
  rw [k0_part3_eq_skeleton]
  unfold k0_part3_skel
  simp only [Prog.lift, Prog.bind_op, Prog.bind_ret, Prog.pure_eq_ret]
  iintro HS H0 H1 Hx Hw Hk
  iapply (put_snd0 X Wt Q c 0 (n := 320) rfl rfl fun i => by simp only [k0_pay3, k0_pay4, k0_pay5, shapeCast_self]; exact congrArg (FloatOps.truncf .bf16 bitsLt_bf16_f32) (dot0 X Wt c _ i)) $$ H0; iintro H0
  iapply (run_start_rs X Wt K Q c (xof 0 0) 1 0 rfl rfl (by decide) (dev5 c) (n := 320) rfl rfl rfl rfl rfl (goB X Wt c 0)) $$ HS H0; iintro HS H0
  iapply (load_x X Q c (n := 320) (off3 c) ((by decide +kernel : ∀ c, ss c 1 0 + 320 ≤ 2048) c)) $$ Hx; iintro Hx
  iapply (load_w Wt Q c rfl) $$ Hw; iintro Hw
  iapply (put_snd0 X Wt Q c 1 (n := 320) rfl rfl fun i => by simp only [k0_pay6, shapeCast_self]; exact congrArg (FloatOps.truncf .bf16 bitsLt_bf16_f32) (dot1 X Wt c _ i)) $$ H1; iintro H1
  iapply Hk $$ HS H0 H1 Hx Hw

/-- The first rows of part 1 are sent; the rows kept of parts 0 and 1 are computed. -/
theorem part4 {α : Type} (Q : α → sProp 𝕄) (c : Dev nD) {w0 w1 w2 w3 w4 w5 w6 w7 : BitVec 32}
    {kk : FVec F S384x2048 .f32 → Prog (TpuEff nD τ sig (Elt F) Λ₀ .tc) α} :
    Run X Wt K c 2 0 ⊢ iprop(phE c 0 -∗ phB X Wt c 1 -∗ xP X c -∗ wP Wt c
      -∗ (Run X Wt K c 3 0 -∗ phF X Wt c 0 0 -∗ phF X Wt c 1 0 -∗ xP X c -∗ wP Wt c -∗ WP c (kk (k0_pay9 (xrows X c 384 (ks c 2 0)) (Wt c))) Q)
      -∗ WP c (on (k0_part4 (F := F)) c w0 w1 w2 w3 w4 w5 w6 w7 >>= kk) Q) := by
  unfold on
  rw [k0_part4_eq_skeleton]
  unfold k0_part4_skel
  simp only [Prog.lift, Prog.bind_op, Prog.bind_ret, Prog.pure_eq_ret]
  iintro HS H0 H1 Hx Hw Hk
  iapply (run_start_rs X Wt K Q c (xof 1 0) 2 0 rfl rfl (by decide) (dev6 c) (n := 320) rfl rfl rfl rfl rfl (goB X Wt c 1)) $$ HS H1; iintro HS H1
  iapply (load_x X Q c (n := 320) (off4 c) ((by decide +kernel : ∀ c, ks c 0 0 + 320 ≤ 2048) c)) $$ Hx; iintro Hx
  iapply (load_w Wt Q c rfl) $$ Hw; iintro Hw
  iapply (put_out0 X Wt Q c 0 (n := 320) rfl (off5 c) fun i => by simp only [k0_pay7, shapeCast_self]; exact dot0 X Wt c _ i) $$ H0; iintro H0
  iapply (load_x X Q c (n := 320) (off6 c) ((by decide +kernel : ∀ c, ks c 1 0 + 320 ≤ 2048) c)) $$ Hx; iintro Hx
  iapply (load_w Wt Q c rfl) $$ Hw; iintro Hw
  iapply (put_out0 X Wt Q c 1 (n := 320) rfl (off7 c) fun i => by simp only [k0_pay8, shapeCast_self]; exact dot1 X Wt c _ i) $$ H1; iintro H1
  iapply (load_x X Q c (n := 384) (off8 c) ((by decide +kernel : ∀ c, ks c 2 0 + 384 ≤ 2048) c)) $$ Hx; iintro Hx
  iapply (load_w Wt Q c rfl) $$ Hw; iintro Hw
  iapply Hk $$ HS H0 H1 Hx Hw

/-- The rows kept of part 2 are stored; the partner's rows are in. -/
theorem part5 {α : Type} (Q : α → sProp 𝕄) (c : Dev nD) {w0 w1 w2 w3 : BitVec 32}
    {kk : (Σ' (_ : BitVec 32) (_ : BitVec 32), FVec F S192x2048 .bf16) → Prog (TpuEff nD τ sig (Elt F) Λ₀ .tc) α} :
    Run X Wt K c 3 0 ⊢ iprop(phE c 2
      -∗ (∀ v0 : BitVec 32, ∀ v1 : BitVec 32, Run X Wt K c 3 1 -∗ phH X Wt c 2 0 -∗ WP c (kk ⟨v0, v1, k0_pay10 (fun i => acc X Wt 0 c 2 (ss c 2 1 + (i 0).val) (i 1)) (fun i => snd X Wt 0 (partner (dm 2 0) c) 2 (ss c 2 1 + (i 0).val) (i 1))⟩) Q)
      -∗ WP c (on (k0_part5 (F := F)) c w0 w1 w2 w3 (k0_pay9 (xrows X c 384 (ks c 2 0)) (Wt c)) >>= kk) Q) := by
  unfold on
  rw [k0_part5_eq_skeleton]
  unfold k0_part5_skel
  simp only [Prog.lift, Prog.bind_op, Prog.bind_ret, Prog.pure_eq_ret]
  iintro HS H2 Hk
  iapply (put_out0 X Wt Q c 2 (n := 384) rfl (off9 c) fun i => by simp only [k0_pay9, shapeCast_self]; exact dot2 X Wt c _ i) $$ H2; iintro H2
  iapply (run_snd X Wt K Q c (xof 2 0) 3 0 rfl rfl rfl (goF X Wt c 2 0 (by decide))) $$ HS H2; iintro HS H2
  iapply (run_rcv X Wt K Q c (xof 2 0) 3 0 rfl (by decide) rfl rfl rfl (goG X Wt c 2 0 (by decide))) $$ HS H2; iintro HS H2
  iapply (read_fwd X Wt Q c 2 0 (by decide) (n := 192) rfl (off10 c) (off11 c)) $$ H2; iintro H2
  iapply Hk $$ HS H2

/-- Part 2's first stage is summed; part 0's partner's rows are in. -/
theorem part6 {α : Type} (Q : α → sProp 𝕄) (c : Dev nD) {w0 w1 w2 w3 w4 : BitVec 32}
    {kk : BitVec 32 → Prog (TpuEff nD τ sig (Elt F) Λ₀ .tc) α} :
    Run X Wt K c 3 1 ⊢ iprop(phH X Wt c 2 0 -∗ phF X Wt c 0 0
      -∗ (∀ v0 : BitVec 32, Run X Wt K c 3 2 -∗ phJ X Wt c 2 1 -∗ phH X Wt c 0 0 -∗ WP c (kk v0) Q)
      -∗ WP c (on (k0_part6 (F := F)) c w0 w1 w2 w3 w4 (k0_pay10 (fun i => acc X Wt 0 c 2 (ss c 2 1 + (i 0).val) (i 1)) (fun i => snd X Wt 0 (partner (dm 2 0) c) 2 (ss c 2 1 + (i 0).val) (i 1))) >>= kk) Q) := by
  unfold on
  rw [k0_part6_eq_skeleton]
  unfold k0_part6_skel
  simp only [Prog.lift, Prog.bind_op, Prog.bind_ret, Prog.pure_eq_ret]
  iintro HS H2 H0 Hk
  iapply (put_fwd X Wt Q c 2 0 (by decide) (n := 192) rfl rfl fun i => by simp only [k0_pay10, k0_pay11, shapeCast_self]; rfl) $$ H2; iintro H2
  iapply (read_keep X Wt Q c 2 0 (by decide) (n := 192) rfl (off12 c) (off13 c)) $$ H2; iintro H2
  iapply (put_keep X Wt Q c 2 0 (n := 192) rfl (off12 c) fun i => by simp only [k0_pay12, shapeCast_self]; rfl) $$ H2; iintro H2
  iapply (run_snd X Wt K Q c (xof 0 0) 3 1 rfl rfl rfl (goF X Wt c 0 0 (by decide))) $$ HS H0; iintro HS H0
  iapply (run_rcv X Wt K Q c (xof 0 0) 3 1 rfl (by decide) rfl rfl rfl (goG X Wt c 0 0 (by decide))) $$ HS H0; iintro HS H0
  iapply Hk $$ HS H2 H0

/-- Part 0's first stage is summed. -/
theorem part7 {α : Type} (Q : α → sProp 𝕄) (c : Dev nD) {w0 w1 : BitVec 32}
    {kk : PUnit → Prog (TpuEff nD τ sig (Elt F) Λ₀ .tc) α} :
    Run X Wt K c 3 2 ⊢ iprop(phH X Wt c 0 0 -∗ phF X Wt c 1 0
      -∗ (Run X Wt K c 3 2 -∗ phJ X Wt c 0 1 -∗ phG X Wt c 1 0 -∗ WP c (kk ⟨⟩) Q)
      -∗ WP c (on (k0_part7 (F := F)) c w0 w1 >>= kk) Q) := by
  unfold on
  rw [k0_part7_eq_skeleton]
  unfold k0_part7_skel
  simp only [Prog.lift, Prog.bind_op, Prog.bind_ret, Prog.pure_eq_ret]
  iintro HS H0 H1 Hk
  iapply (read_fwd X Wt Q c 0 0 (by decide) (n := 160) rfl (off14 c) (off15 c)) $$ H0; iintro H0
  iapply (put_fwd X Wt Q c 0 0 (by decide) (n := 160) rfl rfl fun i => by simp only [k0_pay13, shapeCast_self]; rfl) $$ H0; iintro H0
  iapply (read_keep X Wt Q c 0 0 (by decide) (n := 160) rfl (off16 c) (off17 c)) $$ H0; iintro H0
  iapply (put_keep X Wt Q c 0 0 (n := 160) rfl (off16 c) fun i => by simp only [k0_pay14, shapeCast_self]; rfl) $$ H0; iintro H0
  iapply (run_snd X Wt K Q c (xof 1 0) 3 2 rfl rfl rfl (goF X Wt c 1 0 (by decide))) $$ HS H1; iintro HS H1
  iapply Hk $$ HS H0 H1

/-- Part 1's first stage is summed. -/
theorem part8 {α : Type} (Q : α → sProp 𝕄) (c : Dev nD) {w0 w1 w2 w3 : BitVec 32}
    {kk : BitVec 32 → Prog (TpuEff nD τ sig (Elt F) Λ₀ .tc) α} :
    Run X Wt K c 3 2 ⊢ iprop(phG X Wt c 1 0
      -∗ (∀ v0 : BitVec 32, Run X Wt K c 3 3 -∗ phJ X Wt c 1 1 -∗ WP c (kk v0) Q)
      -∗ WP c (on (k0_part8 (F := F)) c w0 w1 w2 w3 >>= kk) Q) := by
  unfold on
  rw [k0_part8_eq_skeleton]
  unfold k0_part8_skel
  simp only [Prog.lift, Prog.bind_op, Prog.bind_ret, Prog.pure_eq_ret]
  iintro HS H1 Hk
  iapply (run_rcv X Wt K Q c (xof 1 0) 3 2 rfl (by decide) rfl rfl rfl (goG X Wt c 1 0 (by decide))) $$ HS H1; iintro HS H1
  iapply (read_fwd X Wt Q c 1 0 (by decide) (n := 160) rfl (off18 c) (off19 c)) $$ H1; iintro H1
  iapply (put_fwd X Wt Q c 1 0 (by decide) (n := 160) rfl rfl fun i => by simp only [k0_pay15, shapeCast_self]; rfl) $$ H1; iintro H1
  iapply (read_keep X Wt Q c 1 0 (by decide) (n := 160) rfl (off20 c) (off21 c)) $$ H1; iintro H1
  iapply (put_keep X Wt Q c 1 0 (n := 160) rfl (off20 c) fun i => by simp only [k0_pay16, shapeCast_self]; rfl) $$ H1; iintro H1
  iapply Hk $$ HS H1

end Cert.Fly

end
-- ==== Proof.PartsB.lean ====
/-
# The reduction, second half

The kernel's stretches from the second stage's transfers to the reduced rows.
-/
module

public import proofs.«01_k».proof.Proof.PartsA

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x256 .f32) (Wt : Dev nD → Vec F S256x2048 .f32) (K : Dev nD × Ci → ℕ)

/-- Parts 0 and 1 send their second stage's rows. -/
theorem part9 {α : Type} (Q : α → sProp 𝕄) (c : Dev nD) {w0 w1 w2 : BitVec 32}
    {kk : PUnit → Prog (TpuEff nD τ sig (Elt F) Λ₀ .tc) α} :
    Run X Wt K c 3 3 ⊢ iprop(phJ X Wt c 0 1 -∗ phJ X Wt c 1 1
      -∗ (Run X Wt K c 5 3 -∗ phF X Wt c 0 1 -∗ phF X Wt c 1 1 -∗ WP c (kk ⟨⟩) Q)
      -∗ WP c (on (k0_part9 (F := F)) c w0 w1 w2 >>= kk) Q) := by
  unfold on
  rw [k0_part9_eq_skeleton]
  unfold k0_part9_skel
  simp only [Prog.lift, Prog.bind_op, Prog.bind_ret, Prog.pure_eq_ret]
  iintro HS H0 H1 Hk
  iapply (run_start_rs X Wt K Q c (xof 0 1) 3 3 rfl rfl (by decide) (dev7 c) (n := 160) rfl rfl rfl rfl rfl (goJ X Wt c 0 1 (by decide))) $$ HS H0; iintro HS H0
  iapply (run_start_rs X Wt K Q c (xof 1 1) 4 3 rfl rfl (by decide) (dev8 c) (n := 160) rfl rfl rfl rfl rfl (goJ X Wt c 1 1 (by decide))) $$ HS H1; iintro HS H1
  iapply Hk $$ HS H0 H1

/-- Part 2 sends its second stage's rows; part 0's partner's rows are in. -/
theorem part10 {α : Type} (Q : α → sProp 𝕄) (c : Dev nD) {w0 w1 w2 w3 : BitVec 32}
    {kk : (Σ' (_ : BitVec 32) (_ : BitVec 32), FVec F S80x2048 .bf16) → Prog (TpuEff nD τ sig (Elt F) Λ₀ .tc) α} :
    Run X Wt K c 5 3 ⊢ iprop(phJ X Wt c 2 1 -∗ phF X Wt c 0 1
      -∗ (∀ v0 : BitVec 32, ∀ v1 : BitVec 32, Run X Wt K c 6 4 -∗ phF X Wt c 2 1 -∗ phH X Wt c 0 1 -∗ WP c (kk ⟨v0, v1, k0_pay17 (fun i => acc X Wt 1 c 0 (ss c 0 2 + (i 0).val) (i 1)) (fun i => snd X Wt 1 (partner (dm 0 1) c) 0 (ss c 0 2 + (i 0).val) (i 1))⟩) Q)
      -∗ WP c (on (k0_part10 (F := F)) c w0 w1 w2 w3 >>= kk) Q) := by
  unfold on
  rw [k0_part10_eq_skeleton]
  unfold k0_part10_skel
  simp only [Prog.lift, Prog.bind_op, Prog.bind_ret, Prog.pure_eq_ret]
  iintro HS H2 H0 Hk
  iapply (run_start_rs X Wt K Q c (xof 2 1) 5 3 rfl rfl (by decide) (dev9 c) (n := 192) rfl rfl rfl rfl rfl (goJ X Wt c 2 1 (by decide))) $$ HS H2; iintro HS H2
  iapply (run_snd X Wt K Q c (xof 0 1) 6 3 rfl rfl rfl (goF X Wt c 0 1 (by decide))) $$ HS H0; iintro HS H0
  iapply (run_rcv X Wt K Q c (xof 0 1) 6 3 rfl (by decide) rfl rfl rfl (goG X Wt c 0 1 (by decide))) $$ HS H0; iintro HS H0
  iapply (read_fwd X Wt Q c 0 1 (by decide) (n := 80) rfl (off22 c) (off23 c)) $$ H0; iintro H0
  iapply Hk $$ HS H2 H0

/-- Part 0's second stage is summed; part 1's partner's rows are in. -/
theorem part11 {α : Type} (Q : α → sProp 𝕄) (c : Dev nD) {w0 w1 w2 w3 w4 : BitVec 32}
    {kk : BitVec 32 → Prog (TpuEff nD τ sig (Elt F) Λ₀ .tc) α} :
    Run X Wt K c 6 4 ⊢ iprop(phH X Wt c 0 1 -∗ phF X Wt c 1 1
      -∗ (∀ v0 : BitVec 32, Run X Wt K c 6 5 -∗ phJ X Wt c 0 2 -∗ phH X Wt c 1 1 -∗ WP c (kk v0) Q)
      -∗ WP c (on (k0_part11 (F := F)) c w0 w1 w2 w3 w4 (k0_pay17 (fun i => acc X Wt 1 c 0 (ss c 0 2 + (i 0).val) (i 1)) (fun i => snd X Wt 1 (partner (dm 0 1) c) 0 (ss c 0 2 + (i 0).val) (i 1))) >>= kk) Q) := by
  unfold on
  rw [k0_part11_eq_skeleton]
  unfold k0_part11_skel
  simp only [Prog.lift, Prog.bind_op, Prog.bind_ret, Prog.pure_eq_ret]
  iintro HS H0 H1 Hk
  iapply (put_fwd X Wt Q c 0 1 (by decide) (n := 80) rfl rfl fun i => by simp only [k0_pay17, k0_pay18, shapeCast_self]; rfl) $$ H0; iintro H0
  iapply (read_keep X Wt Q c 0 1 (by decide) (n := 80) rfl (off24 c) (off25 c)) $$ H0; iintro H0
  iapply (put_keep X Wt Q c 0 1 (n := 80) rfl (off24 c) fun i => by simp only [k0_pay19, shapeCast_self]; rfl) $$ H0; iintro H0
  iapply (run_snd X Wt K Q c (xof 1 1) 6 4 rfl rfl rfl (goF X Wt c 1 1 (by decide))) $$ HS H1; iintro HS H1
  iapply (run_rcv X Wt K Q c (xof 1 1) 6 4 rfl (by decide) rfl rfl rfl (goG X Wt c 1 1 (by decide))) $$ HS H1; iintro HS H1
  iapply Hk $$ HS H0 H1

/-- Part 1's second stage is summed. -/
theorem part12 {α : Type} (Q : α → sProp 𝕄) (c : Dev nD) {w0 w1 : BitVec 32}
    {kk : PUnit → Prog (TpuEff nD τ sig (Elt F) Λ₀ .tc) α} :
    Run X Wt K c 6 5 ⊢ iprop(phH X Wt c 1 1 -∗ phF X Wt c 2 1
      -∗ (Run X Wt K c 6 5 -∗ phJ X Wt c 1 2 -∗ phG X Wt c 2 1 -∗ WP c (kk ⟨⟩) Q)
      -∗ WP c (on (k0_part12 (F := F)) c w0 w1 >>= kk) Q) := by
  unfold on
  rw [k0_part12_eq_skeleton]
  unfold k0_part12_skel
  simp only [Prog.lift, Prog.bind_op, Prog.bind_ret, Prog.pure_eq_ret]
  iintro HS H1 H2 Hk
  iapply (read_fwd X Wt Q c 1 1 (by decide) (n := 80) rfl (off26 c) (off27 c)) $$ H1; iintro H1
  iapply (put_fwd X Wt Q c 1 1 (by decide) (n := 80) rfl rfl fun i => by simp only [k0_pay20, shapeCast_self]; rfl) $$ H1; iintro H1
  iapply (read_keep X Wt Q c 1 1 (by decide) (n := 80) rfl (off28 c) (off29 c)) $$ H1; iintro H1
  iapply (put_keep X Wt Q c 1 1 (n := 80) rfl (off28 c) fun i => by simp only [k0_pay21, shapeCast_self]; rfl) $$ H1; iintro H1
  iapply (run_snd X Wt K Q c (xof 2 1) 6 5 rfl rfl rfl (goF X Wt c 2 1 (by decide))) $$ HS H2; iintro HS H2
  iapply Hk $$ HS H1 H2

/-- Part 2's second stage is summed. -/
theorem part13 {α : Type} (Q : α → sProp 𝕄) (c : Dev nD) {w0 w1 w2 w3 : BitVec 32}
    {kk : BitVec 32 → Prog (TpuEff nD τ sig (Elt F) Λ₀ .tc) α} :
    Run X Wt K c 6 5 ⊢ iprop(phG X Wt c 2 1
      -∗ (∀ v0 : BitVec 32, Run X Wt K c 6 6 -∗ phJ X Wt c 2 2 -∗ WP c (kk v0) Q)
      -∗ WP c (on (k0_part13 (F := F)) c w0 w1 w2 w3 >>= kk) Q) := by
  unfold on
  rw [k0_part13_eq_skeleton]
  unfold k0_part13_skel
  simp only [Prog.lift, Prog.bind_op, Prog.bind_ret, Prog.pure_eq_ret]
  iintro HS H2 Hk
  iapply (run_rcv X Wt K Q c (xof 2 1) 6 5 rfl (by decide) rfl rfl rfl (goG X Wt c 2 1 (by decide))) $$ HS H2; iintro HS H2
  iapply (read_fwd X Wt Q c 2 1 (by decide) (n := 96) rfl (off30 c) (off31 c)) $$ H2; iintro H2
  iapply (put_fwd X Wt Q c 2 1 (by decide) (n := 96) rfl rfl fun i => by simp only [k0_pay22, shapeCast_self]; rfl) $$ H2; iintro H2
  iapply (read_keep X Wt Q c 2 1 (by decide) (n := 96) rfl (off32 c) (off33 c)) $$ H2; iintro H2
  iapply (put_keep X Wt Q c 2 1 (n := 96) rfl (off32 c) fun i => by simp only [k0_pay23, shapeCast_self]; rfl) $$ H2; iintro H2
  iapply Hk $$ HS H2

/-- Parts 0 and 1 send their last stage's rows. -/
theorem part14 {α : Type} (Q : α → sProp 𝕄) (c : Dev nD) {w0 w1 w2 : BitVec 32}
    {kk : PUnit → Prog (TpuEff nD τ sig (Elt F) Λ₀ .tc) α} :
    Run X Wt K c 6 6 ⊢ iprop(phJ X Wt c 0 2 -∗ phJ X Wt c 1 2
      -∗ (Run X Wt K c 8 6 -∗ phF X Wt c 0 2 -∗ phF X Wt c 1 2 -∗ WP c (kk ⟨⟩) Q)
      -∗ WP c (on (k0_part14 (F := F)) c w0 w1 w2 >>= kk) Q) := by
  unfold on
  rw [k0_part14_eq_skeleton]
  unfold k0_part14_skel
  simp only [Prog.lift, Prog.bind_op, Prog.bind_ret, Prog.pure_eq_ret]
  iintro HS H0 H1 Hk
  iapply (run_start_rs X Wt K Q c (xof 0 2) 6 6 rfl rfl (by decide) (dev10 c) (n := 80) rfl rfl rfl rfl rfl (goJ X Wt c 0 2 (by decide))) $$ HS H0; iintro HS H0
  iapply (run_start_rs X Wt K Q c (xof 1 2) 7 6 rfl rfl (by decide) (dev11 c) (n := 80) rfl rfl rfl rfl rfl (goJ X Wt c 1 2 (by decide))) $$ HS H1; iintro HS H1
  iapply Hk $$ HS H0 H1

/-- Part 2 sends its last stage's rows; part 0 is reduced. -/
theorem part15 {α : Type} (Q : α → sProp 𝕄) (c : Dev nD) {w0 w1 w2 : BitVec 32}
    {kk : (Σ' (_ : BitVec 32), Vec F S80x2048 .f32) → Prog (TpuEff nD τ sig (Elt F) Λ₀ .tc) α} :
    Run X Wt K c 8 6 ⊢ iprop(phJ X Wt c 2 2 -∗ phF X Wt c 0 2
      -∗ (∀ v0 : BitVec 32, Run X Wt K c 9 7 -∗ phF X Wt c 2 2 -∗ phL X Wt c 0 -∗ WP c (kk ⟨v0, fun i => fin X Wt c 0 (ks c 0 2 + (i 0).val) (i 1)⟩) Q)
      -∗ WP c (on (k0_part15 (F := F)) c w0 w1 w2 >>= kk) Q) := by
  unfold on
  rw [k0_part15_eq_skeleton]
  unfold k0_part15_skel
  simp only [Prog.lift, Prog.bind_op, Prog.bind_ret, Prog.pure_eq_ret]
  iintro HS H2 H0 Hk
  iapply (run_start_rs X Wt K Q c (xof 2 2) 8 6 rfl rfl (by decide) (dev12 c) (n := 96) rfl rfl rfl rfl rfl (goJ X Wt c 2 2 (by decide))) $$ HS H2; iintro HS H2
  iapply (run_snd X Wt K Q c (xof 0 2) 9 6 rfl rfl rfl (goF X Wt c 0 2 (by decide))) $$ HS H0; iintro HS H0
  iapply (run_rcv X Wt K Q c (xof 0 2) 9 6 rfl (by decide) rfl rfl rfl (goG X Wt c 0 2 (by decide))) $$ HS H0; iintro HS H0
  iapply (read_fin X Wt Q c 0 (n := 80) rfl (off24 c) rfl) $$ H0; iintro H0
  iapply (put_fin X Wt Q c 0 (n := 80) rfl (off24 c) fun i => by simp only [k0_pay24, shapeCast_self]; rfl) $$ H0; iintro H0
  iapply (read_leaf X Wt Q c 0 (n := 80) rfl (off24 c)) $$ H0; iintro H0
  iapply Hk $$ HS H2 H0

/-- Part 0's reduced rows are sent. -/
theorem part16 {α : Type} (Q : α → sProp 𝕄) (c : Dev nD) {w0 w1 w2 : BitVec 32}
    {kk : PUnit → Prog (TpuEff nD τ sig (Elt F) Λ₀ .tc) α} :
    Run X Wt K c 9 7 ⊢ iprop(phL X Wt c 0 -∗ phF X Wt c 1 2
      -∗ (Run X Wt K c 10 7 -∗ phO X Wt c 0 2 -∗ phG X Wt c 1 2 -∗ WP c (kk ⟨⟩) Q)
      -∗ WP c (on (k0_part16 (F := F)) c w0 w1 w2 (fun i => fin X Wt c 0 (ks c 0 2 + (i 0).val) (i 1)) >>= kk) Q) := by
  unfold on
  rw [k0_part16_eq_skeleton]
  unfold k0_part16_skel
  simp only [Prog.lift, Prog.bind_op, Prog.bind_ret, Prog.pure_eq_ret]
  iintro HS H0 H1 Hk
  iapply (put_leaf X Wt Q c 0 (n := 80) rfl (off24 c) fun i => by simp only [k0_pay25, shapeCast_self]; rfl) $$ H0; iintro H0
  iapply (run_start_ag X Wt K Q c (xof 0 (7 - 2 * 2)) 9 7 rfl rfl (by decide) (dev13 c) (n := 80) rfl (off34 c) (off34 c) rfl rfl (goN X Wt c 0 2 (by decide))) $$ HS H0; iintro HS H0
  iapply (run_snd X Wt K Q c (xof 1 2) 10 7 rfl rfl rfl (goF X Wt c 1 2 (by decide))) $$ HS H1; iintro HS H1
  iapply Hk $$ HS H0 H1

/-- Part 1 is reduced, and its reduced rows are sent. -/
theorem part17 {α : Type} (Q : α → sProp 𝕄) (c : Dev nD) {w0 w1 w2 : BitVec 32}
    {kk : BitVec 32 → Prog (TpuEff nD τ sig (Elt F) Λ₀ .tc) α} :
    Run X Wt K c 10 7 ⊢ iprop(phG X Wt c 1 2
      -∗ (∀ v0 : BitVec 32, Run X Wt K c 11 8 -∗ phO X Wt c 1 2 -∗ WP c (kk v0) Q)
      -∗ WP c (on (k0_part17 (F := F)) c w0 w1 w2 >>= kk) Q) := by
  unfold on
  rw [k0_part17_eq_skeleton]
  unfold k0_part17_skel
  simp only [Prog.lift, Prog.bind_op, Prog.bind_ret, Prog.pure_eq_ret]
  iintro HS H1 Hk
  iapply (run_rcv X Wt K Q c (xof 1 2) 10 7 rfl (by decide) rfl rfl rfl (goG X Wt c 1 2 (by decide))) $$ HS H1; iintro HS H1
  iapply (read_fin X Wt Q c 1 (n := 80) rfl (off28 c) rfl) $$ H1; iintro H1
  iapply (put_fin X Wt Q c 1 (n := 80) rfl (off28 c) fun i => by simp only [k0_pay26, shapeCast_self]; rfl) $$ H1; iintro H1
  iapply (read_leaf X Wt Q c 1 (n := 80) rfl (off28 c)) $$ H1; iintro H1
  iapply (put_leaf X Wt Q c 1 (n := 80) rfl (off28 c) fun i => by simp only [k0_pay27, shapeCast_self]; rfl) $$ H1; iintro H1
  iapply (run_start_ag X Wt K Q c (xof 1 (7 - 2 * 2)) 10 8 rfl rfl (by decide) (dev14 c) (n := 80) rfl (off35 c) (off35 c) rfl rfl (goN X Wt c 1 2 (by decide))) $$ HS H1; iintro HS H1
  iapply Hk $$ HS H1

/-- Part 2 is reduced. -/
theorem part18 {α : Type} (Q : α → sProp 𝕄) (c : Dev nD) {w0 w1 w2 : BitVec 32}
    {kk : BitVec 32 → Prog (TpuEff nD τ sig (Elt F) Λ₀ .tc) α} :
    Run X Wt K c 11 8 ⊢ iprop(phF X Wt c 2 2
      -∗ (∀ v0 : BitVec 32, Run X Wt K c 11 9 -∗ phN X Wt c 2 2 -∗ WP c (kk v0) Q)
      -∗ WP c (on (k0_part18 (F := F)) c w0 w1 w2 >>= kk) Q) := by
  unfold on
  rw [k0_part18_eq_skeleton]
  unfold k0_part18_skel
  simp only [Prog.lift, Prog.bind_op, Prog.bind_ret, Prog.pure_eq_ret]
  iintro HS H2 Hk
  iapply (run_snd X Wt K Q c (xof 2 2) 11 8 rfl rfl rfl (goF X Wt c 2 2 (by decide))) $$ HS H2; iintro HS H2
  iapply (run_rcv X Wt K Q c (xof 2 2) 11 8 rfl (by decide) rfl rfl rfl (goG X Wt c 2 2 (by decide))) $$ HS H2; iintro HS H2
  iapply (read_fin X Wt Q c 2 (n := 96) rfl (off32 c) rfl) $$ H2; iintro H2
  iapply (put_fin X Wt Q c 2 (n := 96) rfl (off32 c) fun i => by simp only [k0_pay28, shapeCast_self]; rfl) $$ H2; iintro H2
  iapply (read_leaf X Wt Q c 2 (n := 96) rfl (off32 c)) $$ H2; iintro H2
  iapply (put_leaf X Wt Q c 2 (n := 96) rfl (off32 c) fun i => by simp only [k0_pay29, shapeCast_self]; rfl) $$ H2; iintro H2
  iapply Hk $$ HS H2

end Cert.Fly

end
-- ==== Proof.PartsC.lean ====
/-
# The gather

The kernel's stretches from the first gathered rows to the last but one.
-/
module

public import proofs.«01_k».proof.Proof.PartsA

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x256 .f32) (Wt : Dev nD → Vec F S256x2048 .f32) (K : Dev nD × Ci → ℕ)

/-- Part 2's reduced rows are sent. -/
theorem part19 {α : Type} (Q : α → sProp 𝕄) (c : Dev nD) {w0 w1 w2 w3 : BitVec 32}
    {kk : (Σ' (_ : BitVec 32), BitVec 32) → Prog (TpuEff nD τ sig (Elt F) Λ₀ .tc) α} :
    Run X Wt K c 11 9 ⊢ iprop(phN X Wt c 2 2 -∗ phO X Wt c 0 2
      -∗ (∀ v0 : BitVec 32, ∀ v1 : BitVec 32, Run X Wt K c 12 9 -∗ phO X Wt c 2 2 -∗ phP X Wt c 0 2 -∗ WP c (kk ⟨v0, v1⟩) Q)
      -∗ WP c (on (k0_part19 (F := F)) c w0 w1 w2 w3 >>= kk) Q) := by
  unfold on
  rw [k0_part19_eq_skeleton]
  unfold k0_part19_skel
  simp only [Prog.lift, Prog.bind_op, Prog.bind_ret, Prog.pure_eq_ret]
  iintro HS H2 H0 Hk
  iapply (run_start_ag X Wt K Q c (xof 2 (7 - 2 * 2)) 11 9 rfl rfl (by decide) (dev15 c) (n := 96) rfl (off36 c) (off36 c) rfl rfl (goN X Wt c 2 2 (by decide))) $$ HS H2; iintro HS H2
  iapply (run_snd X Wt K Q c (xof 0 (7 - 2 * 2)) 12 9 rfl rfl rfl (goO X Wt c 0 2 (by decide))) $$ HS H0; iintro HS H0
  iapply Hk $$ HS H2 H0

/-- Part 0's first gather is stored; part 1's is in. -/
theorem part20 {α : Type} (Q : α → sProp 𝕄) (c : Dev nD) {w0 w1 w2 w3 : BitVec 32}
    {kk : (Σ' (_ : BitVec 32) (_ : BitVec 32), BitVec 32) → Prog (TpuEff nD τ sig (Elt F) Λ₀ .tc) α} :
    Run X Wt K c 12 9 ⊢ iprop(phP X Wt c 0 2 -∗ phO X Wt c 1 2
      -∗ (∀ v0 : BitVec 32, ∀ v1 : BitVec 32, ∀ v2 : BitVec 32, Run X Wt K c 12 11 -∗ phN X Wt c 0 1 -∗ phQ X Wt c 1 2 -∗ WP c (kk ⟨v0, v1, v2⟩) Q)
      -∗ WP c (on (k0_part20 (F := F)) c w0 w1 w2 w3 >>= kk) Q) := by
  unfold on
  rw [k0_part20_eq_skeleton]
  unfold k0_part20_skel
  simp only [Prog.lift, Prog.bind_op, Prog.bind_ret, Prog.pure_eq_ret]
  iintro HS H0 H1 Hk
  iapply (run_rcv X Wt K Q c (xof 0 (7 - 2 * 2)) 12 9 rfl (by decide) rfl rfl rfl (goP X Wt c 0 2 (by decide))) $$ HS H0; iintro HS H0
  iapply (read_ag X Wt Q c 0 2 (n := 80) rfl (off37 c)) $$ H0; iintro H0
  iapply (put_ag X Wt Q c 0 1 (by decide) (n := 80) rfl (off37 c) fun i => by simp only [k0_pay30, shapeCast_self]; rfl) $$ H0; iintro H0
  iapply (run_snd X Wt K Q c (xof 1 (7 - 2 * 2)) 12 10 rfl rfl rfl (goO X Wt c 1 2 (by decide))) $$ HS H1; iintro HS H1
  iapply (run_rcv X Wt K Q c (xof 1 (7 - 2 * 2)) 12 10 rfl (by decide) rfl rfl rfl (goP X Wt c 1 2 (by decide))) $$ HS H1; iintro HS H1
  iapply Hk $$ HS H0 H1

/-- Part 1's first gather is stored; part 2's is in. -/
theorem part21 {α : Type} (Q : α → sProp 𝕄) (c : Dev nD) {w0 w1 w2 w3 w4 : BitVec 32}
    {kk : (Σ' (_ : BitVec 32) (_ : BitVec 32), FVec F S96x2048 .f32) → Prog (TpuEff nD τ sig (Elt F) Λ₀ .tc) α} :
    Run X Wt K c 12 11 ⊢ iprop(phQ X Wt c 1 2 -∗ phO X Wt c 2 2
      -∗ (∀ v0 : BitVec 32, ∀ v1 : BitVec 32, Run X Wt K c 12 12 -∗ phN X Wt c 1 1 -∗ phQ X Wt c 2 2 -∗ WP c (kk ⟨v0, v1, k0_pay32 (fun i => gat X Wt (ss c 2 2 + (i 0).val) (i 1))⟩) Q)
      -∗ WP c (on (k0_part21 (F := F)) c w0 w1 w2 w3 w4 >>= kk) Q) := by
  unfold on
  rw [k0_part21_eq_skeleton]
  unfold k0_part21_skel
  simp only [Prog.lift, Prog.bind_op, Prog.bind_ret, Prog.pure_eq_ret]
  iintro HS H1 H2 Hk
  iapply (read_ag X Wt Q c 1 2 (n := 80) rfl (off38 c)) $$ H1; iintro H1
  iapply (put_ag X Wt Q c 1 1 (by decide) (n := 80) rfl (off38 c) fun i => by simp only [k0_pay31, shapeCast_self]; rfl) $$ H1; iintro H1
  iapply (run_snd X Wt K Q c (xof 2 (7 - 2 * 2)) 12 11 rfl rfl rfl (goO X Wt c 2 2 (by decide))) $$ HS H2; iintro HS H2
  iapply (run_rcv X Wt K Q c (xof 2 (7 - 2 * 2)) 12 11 rfl (by decide) rfl rfl rfl (goP X Wt c 2 2 (by decide))) $$ HS H2; iintro HS H2
  iapply (read_ag X Wt Q c 2 2 (n := 96) rfl (off39 c)) $$ H2; iintro H2
  iapply Hk $$ HS H1 H2

/-- Part 2's first gather is stored; parts 0 and 1 send on. -/
theorem part22 {α : Type} (Q : α → sProp 𝕄) (c : Dev nD) {w0 w1 w2 w3 w4 w5 : BitVec 32}
    {kk : PUnit → Prog (TpuEff nD τ sig (Elt F) Λ₀ .tc) α} :
    Run X Wt K c 12 12 ⊢ iprop(phQ X Wt c 2 2 -∗ phN X Wt c 0 1 -∗ phN X Wt c 1 1
      -∗ (Run X Wt K c 14 12 -∗ phN X Wt c 2 1 -∗ phO X Wt c 0 1 -∗ phO X Wt c 1 1 -∗ WP c (kk ⟨⟩) Q)
      -∗ WP c (on (k0_part22 (F := F)) c w0 w1 w2 w3 w4 w5 (k0_pay32 (fun i => gat X Wt (ss c 2 2 + (i 0).val) (i 1))) >>= kk) Q) := by
  unfold on
  rw [k0_part22_eq_skeleton]
  unfold k0_part22_skel
  simp only [Prog.lift, Prog.bind_op, Prog.bind_ret, Prog.pure_eq_ret]
  iintro HS H2 H0 H1 Hk
  iapply (put_ag X Wt Q c 2 1 (by decide) (n := 96) rfl (off39 c) fun i => by simp only [k0_pay32, shapeCast_self]; rfl) $$ H2; iintro H2
  iapply (run_start_ag X Wt K Q c (xof 0 (7 - 2 * 1)) 12 12 rfl rfl (by decide) (dev16 c) (n := 160) rfl (off40 c) (off40 c) rfl rfl (goN X Wt c 0 1 (by decide))) $$ HS H0; iintro HS H0
  iapply (run_start_ag X Wt K Q c (xof 1 (7 - 2 * 1)) 13 12 rfl rfl (by decide) (dev17 c) (n := 160) rfl (off41 c) (off41 c) rfl rfl (goN X Wt c 1 1 (by decide))) $$ HS H1; iintro HS H1
  iapply Hk $$ HS H2 H0 H1

/-- Part 2 sends on. -/
theorem part23 {α : Type} (Q : α → sProp 𝕄) (c : Dev nD) {w0 w1 w2 w3 : BitVec 32}
    {kk : (Σ' (_ : BitVec 32), BitVec 32) → Prog (TpuEff nD τ sig (Elt F) Λ₀ .tc) α} :
    Run X Wt K c 14 12 ⊢ iprop(phN X Wt c 2 1 -∗ phO X Wt c 0 1
      -∗ (∀ v0 : BitVec 32, ∀ v1 : BitVec 32, Run X Wt K c 15 12 -∗ phO X Wt c 2 1 -∗ phP X Wt c 0 1 -∗ WP c (kk ⟨v0, v1⟩) Q)
      -∗ WP c (on (k0_part23 (F := F)) c w0 w1 w2 w3 >>= kk) Q) := by
  unfold on
  rw [k0_part23_eq_skeleton]
  unfold k0_part23_skel
  simp only [Prog.lift, Prog.bind_op, Prog.bind_ret, Prog.pure_eq_ret]
  iintro HS H2 H0 Hk
  iapply (run_start_ag X Wt K Q c (xof 2 (7 - 2 * 1)) 14 12 rfl rfl (by decide) (dev18 c) (n := 192) rfl (off42 c) (off42 c) rfl rfl (goN X Wt c 2 1 (by decide))) $$ HS H2; iintro HS H2
  iapply (run_snd X Wt K Q c (xof 0 (7 - 2 * 1)) 15 12 rfl rfl rfl (goO X Wt c 0 1 (by decide))) $$ HS H0; iintro HS H0
  iapply Hk $$ HS H2 H0

/-- Part 0's second gather is stored; part 1's is in. -/
theorem part24 {α : Type} (Q : α → sProp 𝕄) (c : Dev nD) {w0 w1 w2 w3 : BitVec 32}
    {kk : (Σ' (_ : BitVec 32) (_ : BitVec 32), BitVec 32) → Prog (TpuEff nD τ sig (Elt F) Λ₀ .tc) α} :
    Run X Wt K c 15 12 ⊢ iprop(phP X Wt c 0 1 -∗ phO X Wt c 1 1
      -∗ (∀ v0 : BitVec 32, ∀ v1 : BitVec 32, ∀ v2 : BitVec 32, Run X Wt K c 15 14 -∗ phN X Wt c 0 0 -∗ phQ X Wt c 1 1 -∗ WP c (kk ⟨v0, v1, v2⟩) Q)
      -∗ WP c (on (k0_part24 (F := F)) c w0 w1 w2 w3 >>= kk) Q) := by
  unfold on
  rw [k0_part24_eq_skeleton]
  unfold k0_part24_skel
  simp only [Prog.lift, Prog.bind_op, Prog.bind_ret, Prog.pure_eq_ret]
  iintro HS H0 H1 Hk
  iapply (run_rcv X Wt K Q c (xof 0 (7 - 2 * 1)) 15 12 rfl (by decide) rfl rfl rfl (goP X Wt c 0 1 (by decide))) $$ HS H0; iintro HS H0
  iapply (read_ag X Wt Q c 0 1 (n := 160) rfl (off43 c)) $$ H0; iintro H0
  iapply (put_ag X Wt Q c 0 0 (by decide) (n := 160) rfl (off43 c) fun i => by simp only [k0_pay33, shapeCast_self]; rfl) $$ H0; iintro H0
  iapply (run_snd X Wt K Q c (xof 1 (7 - 2 * 1)) 15 13 rfl rfl rfl (goO X Wt c 1 1 (by decide))) $$ HS H1; iintro HS H1
  iapply (run_rcv X Wt K Q c (xof 1 (7 - 2 * 1)) 15 13 rfl (by decide) rfl rfl rfl (goP X Wt c 1 1 (by decide))) $$ HS H1; iintro HS H1
  iapply Hk $$ HS H0 H1

/-- Part 1's second gather is stored; part 2's is in. -/
theorem part25 {α : Type} (Q : α → sProp 𝕄) (c : Dev nD) {w0 w1 w2 w3 w4 : BitVec 32}
    {kk : (Σ' (_ : BitVec 32) (_ : BitVec 32), FVec F S192x2048 .f32) → Prog (TpuEff nD τ sig (Elt F) Λ₀ .tc) α} :
    Run X Wt K c 15 14 ⊢ iprop(phQ X Wt c 1 1 -∗ phO X Wt c 2 1
      -∗ (∀ v0 : BitVec 32, ∀ v1 : BitVec 32, Run X Wt K c 15 15 -∗ phN X Wt c 1 0 -∗ phQ X Wt c 2 1 -∗ WP c (kk ⟨v0, v1, k0_pay35 (fun i => gat X Wt (ss c 2 1 + (i 0).val) (i 1))⟩) Q)
      -∗ WP c (on (k0_part25 (F := F)) c w0 w1 w2 w3 w4 >>= kk) Q) := by
  unfold on
  rw [k0_part25_eq_skeleton]
  unfold k0_part25_skel
  simp only [Prog.lift, Prog.bind_op, Prog.bind_ret, Prog.pure_eq_ret]
  iintro HS H1 H2 Hk
  iapply (read_ag X Wt Q c 1 1 (n := 160) rfl (off44 c)) $$ H1; iintro H1
  iapply (put_ag X Wt Q c 1 0 (by decide) (n := 160) rfl (off44 c) fun i => by simp only [k0_pay34, shapeCast_self]; rfl) $$ H1; iintro H1
  iapply (run_snd X Wt K Q c (xof 2 (7 - 2 * 1)) 15 14 rfl rfl rfl (goO X Wt c 2 1 (by decide))) $$ HS H2; iintro HS H2
  iapply (run_rcv X Wt K Q c (xof 2 (7 - 2 * 1)) 15 14 rfl (by decide) rfl rfl rfl (goP X Wt c 2 1 (by decide))) $$ HS H2; iintro HS H2
  iapply (read_ag X Wt Q c 2 1 (n := 192) rfl (off45 c)) $$ H2; iintro H2
  iapply Hk $$ HS H1 H2

/-- Part 2's second gather is stored; part 0 sends its last rows in two pieces. -/
theorem part26 {α : Type} (Q : α → sProp 𝕄) (c : Dev nD) {w0 w1 w2 w3 : BitVec 32}
    {kk : PUnit → Prog (TpuEff nD τ sig (Elt F) Λ₀ .tc) α} :
    Run X Wt K c 15 15 ⊢ iprop(phQ X Wt c 2 1 -∗ phN X Wt c 0 0
      -∗ (Run X Wt K c 17 15 -∗ phN X Wt c 2 0 -∗ home X Wt c 0 -∗ pcF c 0 0 -∗ pcF c 0 1 -∗ WP c (kk ⟨⟩) Q)
      -∗ WP c (on (k0_part26 (F := F)) c w0 w1 w2 w3 (k0_pay35 (fun i => gat X Wt (ss c 2 1 + (i 0).val) (i 1))) >>= kk) Q) := by
  unfold on
  rw [k0_part26_eq_skeleton]
  unfold k0_part26_skel
  simp only [Prog.lift, Prog.bind_op, Prog.bind_ret, Prog.pure_eq_ret]
  iintro HS H2 H0 Hk
  iapply (put_ag X Wt Q c 2 0 (by decide) (n := 192) rfl (off45 c) fun i => by simp only [k0_pay35, shapeCast_self]; rfl) $$ H2; iintro H2
  ihave ⟨Hh0, H00, H01⟩ := (split_home X Wt c 0) $$ H0
  iapply (run_start_ag X Wt K Q c (xof 0 (7 + 0)) 15 15 rfl rfl (by decide) (dev19 c) (n := 160) rfl (off46a c) (off46a c) rfl rfl (goR X Wt c 0 0 (by decide))) $$ HS H00; iintro HS H00
  iapply (run_start_ag X Wt K Q c (xof 0 (7 + 1)) 16 15 rfl rfl (by decide) (dev20 c) (n := 160) rfl (off46b c) (off46b c) rfl rfl (goR X Wt c 0 1 (by decide))) $$ HS H01; iintro HS H01
  iapply Hk $$ HS H2 Hh0 H00 H01

/-- Part 1 sends its last rows. -/
theorem part27 {α : Type} (Q : α → sProp 𝕄) (c : Dev nD) {w0 w1 w2 w3 : BitVec 32}
    {kk : BitVec 32 → Prog (TpuEff nD τ sig (Elt F) Λ₀ .tc) α} :
    Run X Wt K c 17 15 ⊢ iprop(phN X Wt c 1 0
      -∗ (∀ v0 : BitVec 32, Run X Wt K c 19 15 -∗ home X Wt c 1 -∗ pcF c 1 0 -∗ pcF c 1 1 -∗ WP c (kk v0) Q)
      -∗ WP c (on (k0_part27 (F := F)) c w0 w1 w2 w3 >>= kk) Q) := by
  unfold on
  rw [k0_part27_eq_skeleton]
  unfold k0_part27_skel
  simp only [Prog.lift, Prog.bind_op, Prog.bind_ret, Prog.pure_eq_ret]
  iintro HS H1 Hk
  ihave ⟨Hh1, H10, H11⟩ := (split_home X Wt c 1) $$ H1
  iapply (run_start_ag X Wt K Q c (xof 1 (7 + 0)) 17 15 rfl rfl (by decide) (dev21 c) (n := 160) rfl (off47a c) (off47a c) rfl rfl (goR X Wt c 1 0 (by decide))) $$ HS H10; iintro HS H10
  iapply (run_start_ag X Wt K Q c (xof 1 (7 + 1)) 18 15 rfl rfl (by decide) (dev22 c) (n := 160) rfl (off47b c) (off47b c) rfl rfl (goR X Wt c 1 1 (by decide))) $$ HS H11; iintro HS H11
  iapply Hk $$ HS Hh1 H10 H11

/-- Part 2 sends its last rows. -/
theorem part28 {α : Type} (Q : α → sProp 𝕄) (c : Dev nD) {w0 w1 w2 w3 w4 : BitVec 32}
    {kk : BitVec 32 → Prog (TpuEff nD τ sig (Elt F) Λ₀ .tc) α} :
    Run X Wt K c 19 15 ⊢ iprop(phN X Wt c 2 0 -∗ pcF c 0 0
      -∗ (∀ v0 : BitVec 32, Run X Wt K c 21 15 -∗ home X Wt c 2 -∗ pcF c 2 0 -∗ pcF c 2 1 -∗ pcG X Wt c 0 0 -∗ WP c (kk v0) Q)
      -∗ WP c (on (k0_part28 (F := F)) c w0 w1 w2 w3 w4 >>= kk) Q) := by
  unfold on
  rw [k0_part28_eq_skeleton]
  unfold k0_part28_skel
  simp only [Prog.lift, Prog.bind_op, Prog.bind_ret, Prog.pure_eq_ret]
  iintro HS H2 H00 Hk
  ihave ⟨Hh2, H20, H21⟩ := (split_home X Wt c 2) $$ H2
  iapply (run_start_ag X Wt K Q c (xof 2 (7 + 0)) 19 15 rfl rfl (by decide) (dev23 c) (n := 192) rfl (off48a c) (off48a c) rfl rfl (goR X Wt c 2 0 (by decide))) $$ HS H20; iintro HS H20
  iapply (run_start_ag X Wt K Q c (xof 2 (7 + 1)) 20 15 rfl rfl (by decide) (dev24 c) (n := 192) rfl (off48b c) (off48b c) rfl rfl (goR X Wt c 2 1 (by decide))) $$ HS H21; iintro HS H21
  iapply (run_snd X Wt K Q c (xof 0 (7 + 0)) 21 15 rfl rfl rfl (goS X Wt c 0 0 (by decide))) $$ HS H00; iintro HS H00
  iapply Hk $$ HS Hh2 H20 H21 H00

/-- Part 0's last rows, first piece. -/
theorem part29 {α : Type} (Q : α → sProp 𝕄) (c : Dev nD) {w0 w1 : BitVec 32}
    {kk : PUnit → Prog (TpuEff nD τ sig (Elt F) Λ₀ .tc) α} :
    Run X Wt K c 21 15 ⊢ iprop(pcG X Wt c 0 0 -∗ pcF c 0 1
      -∗ (Run X Wt K c 21 16 -∗ pcD X Wt c 0 0 -∗ pcG X Wt c 0 1 -∗ WP c (kk ⟨⟩) Q)
      -∗ WP c (on (k0_part29 (F := F)) c w0 w1 >>= kk) Q) := by
  unfold on
  rw [k0_part29_eq_skeleton]
  unfold k0_part29_skel
  simp only [Prog.lift, Prog.bind_op, Prog.bind_ret, Prog.pure_eq_ret]
  iintro HS H00 H01 Hk
  iapply (run_rcv X Wt K Q c (xof 0 (7 + 0)) 21 15 rfl (by decide) rfl rfl rfl (goT X Wt c 0 0 (by decide))) $$ HS H00; iintro HS H00
  iapply (read_pc X Wt Q c 0 0 (n := 160) rfl (off49a c)) $$ H00; iintro H00
  iapply (put_pc X Wt Q c 0 0 (by decide) (n := 160) rfl (off49a c) fun i => by simp only [k0_pay36, shapeCast_self]; rfl) $$ H00; iintro H00
  iapply (run_snd X Wt K Q c (xof 0 (7 + 1)) 21 16 rfl rfl rfl (goS X Wt c 0 1 (by decide))) $$ HS H01; iintro HS H01
  iapply Hk $$ HS H00 H01

/-- Part 0's last rows, second piece. -/
theorem part30 {α : Type} (Q : α → sProp 𝕄) (c : Dev nD) {w0 w1 w2 w3 : BitVec 32}
    {kk : BitVec 32 → Prog (TpuEff nD τ sig (Elt F) Λ₀ .tc) α} :
    Run X Wt K c 21 16 ⊢ iprop(pcG X Wt c 0 1 -∗ pcF c 1 0
      -∗ (∀ v0 : BitVec 32, Run X Wt K c 21 17 -∗ pcD X Wt c 0 1 -∗ pcG X Wt c 1 0 -∗ WP c (kk v0) Q)
      -∗ WP c (on (k0_part30 (F := F)) c w0 w1 w2 w3 >>= kk) Q) := by
  unfold on
  rw [k0_part30_eq_skeleton]
  unfold k0_part30_skel
  simp only [Prog.lift, Prog.bind_op, Prog.bind_ret, Prog.pure_eq_ret]
  iintro HS H01 H10 Hk
  iapply (run_rcv X Wt K Q c (xof 0 (7 + 1)) 21 16 rfl (by decide) rfl rfl rfl (goT X Wt c 0 1 (by decide))) $$ HS H01; iintro HS H01
  iapply (read_pc X Wt Q c 0 1 (n := 160) rfl (off49b c)) $$ H01; iintro H01
  iapply (put_pc X Wt Q c 0 1 (by decide) (n := 160) rfl (off49b c) fun i => by simp only [k0_pay37, shapeCast_self]; rfl) $$ H01; iintro H01
  iapply (run_snd X Wt K Q c (xof 1 (7 + 0)) 21 17 rfl rfl rfl (goS X Wt c 1 0 (by decide))) $$ HS H10; iintro HS H10
  iapply Hk $$ HS H01 H10

/-- Part 1's last rows. -/
theorem part31 {α : Type} (Q : α → sProp 𝕄) (c : Dev nD) {w0 w1 : BitVec 32}
    {kk : PUnit → Prog (TpuEff nD τ sig (Elt F) Λ₀ .tc) α} :
    Run X Wt K c 21 17 ⊢ iprop(pcG X Wt c 1 0 -∗ pcF c 1 1
      -∗ (Run X Wt K c 21 19 -∗ pcD X Wt c 1 0 -∗ pcD X Wt c 1 1 -∗ WP c (kk ⟨⟩) Q)
      -∗ WP c (on (k0_part31 (F := F)) c w0 w1 >>= kk) Q) := by
  unfold on
  rw [k0_part31_eq_skeleton]
  unfold k0_part31_skel
  simp only [Prog.lift, Prog.bind_op, Prog.bind_ret, Prog.pure_eq_ret]
  iintro HS H10 H11 Hk
  iapply (run_rcv X Wt K Q c (xof 1 (7 + 0)) 21 17 rfl (by decide) rfl rfl rfl (goT X Wt c 1 0 (by decide))) $$ HS H10; iintro HS H10
  iapply (read_pc X Wt Q c 1 0 (n := 160) rfl (off50a c)) $$ H10; iintro H10
  iapply (put_pc X Wt Q c 1 0 (by decide) (n := 160) rfl (off50a c) fun i => by simp only [k0_pay38, shapeCast_self]; rfl) $$ H10; iintro H10
  iapply (run_snd X Wt K Q c (xof 1 (7 + 1)) 21 18 rfl rfl rfl (goS X Wt c 1 1 (by decide))) $$ HS H11; iintro HS H11
  iapply (run_rcv X Wt K Q c (xof 1 (7 + 1)) 21 18 rfl (by decide) rfl rfl rfl (goT X Wt c 1 1 (by decide))) $$ HS H11; iintro HS H11
  iapply (read_pc X Wt Q c 1 1 (n := 160) rfl (off50b c)) $$ H11; iintro H11
  iapply (put_pc X Wt Q c 1 1 (by decide) (n := 160) rfl (off50b c) fun i => by simp only [k0_pay39, shapeCast_self]; rfl) $$ H11; iintro H11
  iapply Hk $$ HS H10 H11

/-- Part 2's last rows, first piece. -/
theorem part32 {α : Type} (Q : α → sProp 𝕄) (c : Dev nD) {w0 w1 w2 : BitVec 32}
    {kk : BitVec 32 → Prog (TpuEff nD τ sig (Elt F) Λ₀ .tc) α} :
    Run X Wt K c 21 19 ⊢ iprop(pcF c 2 0
      -∗ (∀ v0 : BitVec 32, Run X Wt K c 21 20 -∗ pcD X Wt c 2 0 -∗ WP c (kk v0) Q)
      -∗ WP c (on (k0_part32 (F := F)) c w0 w1 w2 >>= kk) Q) := by
  unfold on
  rw [k0_part32_eq_skeleton]
  unfold k0_part32_skel
  simp only [Prog.lift, Prog.bind_op, Prog.bind_ret, Prog.pure_eq_ret]
  iintro HS H20 Hk
  iapply (run_snd X Wt K Q c (xof 2 (7 + 0)) 21 19 rfl rfl rfl (goS X Wt c 2 0 (by decide))) $$ HS H20; iintro HS H20
  iapply (run_rcv X Wt K Q c (xof 2 (7 + 0)) 21 19 rfl (by decide) rfl rfl rfl (goT X Wt c 2 0 (by decide))) $$ HS H20; iintro HS H20
  iapply (read_pc X Wt Q c 2 0 (n := 192) rfl (off51a c)) $$ H20; iintro H20
  iapply (put_pc X Wt Q c 2 0 (by decide) (n := 192) rfl (off51a c) fun i => by simp only [k0_pay40, shapeCast_self]; rfl) $$ H20; iintro H20
  iapply Hk $$ HS H20

end Cert.Fly

end
-- ==== Proof.Body.lean ====
/-
# The kernel on one device

The barrier, the rows set out for the three parts, every stretch in turn, and the rows collected at the end.
-/
module

public import proofs.«01_k».proof.Proof.PartsB
public import proofs.«01_k».proof.Proof.PartsC
public import proofs.«01_k».proof.Proof.Bar

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S2048x256 .f32) (Wt : Dev nD → Vec F S256x2048 .f32) (K : Dev nD × Ci → ℕ)

/-- The barrier: the three partners are told, and have told. -/
theorem part1 {α : Type} (Q : α → sProp 𝕄) (c : Dev nD) (W : Waits sig Unit)
    {kk : (Σ' (_ : Dev nD) (_ : BitVec 32) (_ : BitVec 32) (_ : BitVec 32) (_ : BitVec 32) (_ : BitVec 32) (_ : BitVec 32) (_ : BitVec 32), BitVec 32)
      → Prog (TpuEff nD τ sig (Elt F) Λ₀ .tc) α} :
    iprop(records X Wt K ∗ levAts L lv ∗ owes (c : Thread nD τ) (owedBar c order) W ∗ cred (tallyAt (barCell c) () 3) ∗ atPos ER (barCell c) 0 ∅ 0
        ∗ (dutyTok ER (barCell (partner 0 c)) 0 0 ∗ dutyTok ER (barCell (partner 1 c)) 0 1 ∗ dutyTok ER (barCell (partner 2 c)) 0 2)
        ∗ bigSep usedS (item0 c) ∗ (∃ f, rcvP c 0 1792 f) ∗ ∃ f, agP c 0 2048 f)
      ⊢ iprop((∀ w0 : BitVec 32, ∀ w1 : BitVec 32, ∀ w2 : BitVec 32, ∀ w3 : BitVec 32, ∀ w4 : BitVec 32, ∀ w5 : BitVec 32, ∀ w6 : BitVec 32, ∀ w7 : BitVec 32,
          Run X Wt K c 0 0 -∗ semVal (barCell c) 0 -∗ aLeaf c 0 -∗ aLeaf c 1 -∗ aLeaf c 2 -∗ WP c (kk ⟨c, w0, w1, w2, w3, w4, w5, w6, w7⟩) Q)
        -∗ WP c (on (k0_part1 (F := F)) >>= kk) Q) := by
  unfold on
  rw [k0_part1_eq_skeleton]
  unfold k0_part1_skel
  simp only [WP, semSignalWord, semWaitWord, Prog.lift, Prog.bind_op, Prog.bind_ret, Prog.pure_eq_ret, wp_deviceId]
  simp only [dev1 c, dev2 c, dev3 c]
  iintro ⟨#HR, #HL, HO, Hc, Ha, ⟨Ht0, Ht1, Ht2⟩, Hi, Hrcv, Hag⟩ Hk
  ihave ⟨⟨⟨Hp0, Hp1⟩, Hp2⟩, H0, H1, H2⟩ := (give (F := F) c) $$ [Hrcv Hag]
  · isplitl [Hrcv] <;> iassumption
  unfold owedBar
  iapply (signal_step X Wt K Q c _ 0 rfl _ W rfl) $$ [HO Ht0 Hp0]
  · isplitr; · iexact HR
    isplitl [HO]; · iexact HO
    isplitl [Ht0] <;> iassumption
  iintro HO
  iapply (signal_step X Wt K Q c _ 1 rfl _ W rfl) $$ [HO Ht1 Hp1]
  · isplitr; · iexact HR
    isplitl [HO]; · iexact HO
    isplitl [Ht1] <;> iassumption
  iintro HO
  iapply (signal_step X Wt K Q c _ 2 rfl _ W rfl) $$ [HO Ht2 Hp2]
  · isplitr; · iexact HR
    isplitl [HO]; · iexact HO
    isplitl [Ht2] <;> iassumption
  iintro HO
  iapply (bar_wait X Wt K Q c W rfl) $$ [HO Hc Ha Hi]
  · isplitr; · iexact HR
    isplitr; · iexact HL
    isplitl [HO]; · iexact HO
    isplitl [Hc]; · iexact Hc
    isplitl [Ha] <;> iassumption
  iintro ⟨HS, Hz⟩
  ihave HS := (Entails.of_eq (show St X Wt K c order [] = Run X Wt K c 0 0 from rfl)) $$ HS
  unfold aLeaf
  iapply Hk $$ HS Hz H0 H1 H2

/-- At the start all three send slots of a part are unused. -/
theorem new_zero (c : Dev nD) (p : Fin 3) : (new c p 0 : sProp 𝕄) = iprop(sSlot c p 0 ∗ sSlot c p 1 ∗ sSlot c p 2 ∗ emp) := rfl

/-- The rows of the result and the landing areas, set out for the three parts. -/
theorem start_phases (c : Dev nD) :
    iprop((∃ f, outP (F := F) c 0 2048 f) ∗ (∃ f, sndP (F := F) c 0 1792 f) ∗ aLeaf (F := F) c 0 ∗ aLeaf c 1 ∗ aLeaf c 2)
      ⊢ (iprop(phA c 0 ∗ phA c 1 ∗ phA c 2) : sProp 𝕄) := by
  iintro ⟨⟨%f, Ho⟩, Hs, H0, H1, H2⟩
  ihave ⟨⟨S00, S01, S02⟩, ⟨S10, S11, S12⟩, S20, S21, S22⟩ := (rows_snd (F := F) c).slots $$ Hs
  ihave ⟨P0, P1, P2⟩ := (Entails.of_eq ((rows_out (F := F) c).parts f)) $$ Ho
  ihave ⟨K0, L0⟩ := (Entails.of_eq ((rows_out (F := F) c).half_top c 0 f)) $$ P0
  ihave ⟨K1, L1⟩ := (Entails.of_eq ((rows_out (F := F) c).half_top c 1 f)) $$ P1
  ihave ⟨K2, L2⟩ := (Entails.of_eq ((rows_out (F := F) c).half_top c 2 f)) $$ P2
  unfold phA
  simp only [new_zero, show ∀ p, (old c p 0 : sProp 𝕄) = oSent c p 0 from fun _ => rfl]
  unfold oSent sSlot
  isplitl [K0 L0 S00 S01 S02 H0]
  · isplitl [K0]; · iexists f; iexact K0
    isplitl [S00 S01 S02]
    · isplitl [S00]; · iexact S00
      isplitl [S01]; · iexact S01
      isplitl [S02]; · iexact S02
      iempintro
    isplitl [L0]; · iexists f; iexact L0
    iexact H0
  isplitl [K1 L1 S10 S11 S12 H1]
  · isplitl [K1]; · iexists f; iexact K1
    isplitl [S10 S11 S12]
    · isplitl [S10]; · iexact S10
      isplitl [S11]; · iexact S11
      isplitl [S12]; · iexact S12
      iempintro
    isplitl [L1]; · iexists f; iexact L1
    iexact H1
  isplitl [K2]; · iexists f; iexact K2
  isplitl [S20 S21 S22]
  · isplitl [S20]; · iexact S20
    isplitl [S21]; · iexact S21
    isplitl [S22]; · iexact S22
    iempintro
  isplitl [L2]; · iexists f; iexact L2
  iexact H2

/-- A finished part's rows: of the result, and of the gathered array. -/
theorem end_part (c : Dev nD) (p : Fin 3) :
    iprop(home X Wt c p ∗ pcD X Wt c p 0 ∗ pcD X Wt c p 1)
      ⊢ (iprop(outP c (st p) (sz p 0 + sz p 0) (outv X Wt c) ∗ agP c (st p) (sz p 0 + sz p 0) (gat X Wt) ∗ slots c p) : sProp 𝕄) := by
  rw [(rows_out (F := F) c).half_top c p, (rows_ag (F := F) c).half_top c p, (rows_out (F := F) c).two (ss c p 0) p, (rows_ag (F := F) c).two (ss c p 0) p,
    (rows_ag (F := F) c).two (ks c p 0) p]
  unfold home pcD
  iintro ⟨⟨Ho, Hs⟩, ⟨Ha0, Hb0, Ho0⟩, Ha1, Hb1, Ho1⟩
  isplitl [Ho Ho0 Ho1]
  · isplitl [Ho]; · iexact Ho
    isplitl [Ho0] <;> iassumption
  isplitr [Hs]
  · isplitl [Hb0 Hb1]
    · isplitl [Hb0] <;> iassumption
    isplitl [Ha0] <;> iassumption
  iexact Hs

/-- All the rows at the end: the result whole, the other areas whole with some contents. -/
theorem end_phases (c : Dev nD) :
    iprop((home X Wt c 0 ∗ pcD X Wt c 0 0 ∗ pcD X Wt c 0 1) ∗ (home X Wt c 1 ∗ pcD X Wt c 1 0 ∗ pcD X Wt c 1 1) ∗ home X Wt c 2 ∗ pcD X Wt c 2 0 ∗ pcD X Wt c 2 1)
      ⊢ (iprop(outP c 0 2048 (outv X Wt c) ∗ (∃ f, rcvP (F := F) c 0 1792 f) ∗ (∃ f, sndP (F := F) c 0 1792 f) ∗ ∃ f, agP (F := F) c 0 2048 f) : sProp 𝕄) := by
  rw [(rows_out (F := F) c).parts]
  iintro ⟨H0, H1, H2⟩
  ihave H0 := (end_part X Wt c 0) $$ H0
  ihave H1 := (end_part X Wt c 1) $$ H1
  ihave H2 := (end_part X Wt c 2) $$ H2
  unfold slots rSlot sSlot
  icases H0 with ⟨O0, A0, ⟨R00, R01, R02⟩, S00, S01, S02⟩
  icases H1 with ⟨O1, A1, ⟨R10, R11, R12⟩, S10, S11, S12⟩
  icases H2 with ⟨O2, A2, ⟨R20, R21, R22⟩, S20, S21, S22⟩
  isplitl [O0 O1 O2]
  · isplitl [O0]; · iexact O0
    isplitl [O1] <;> iassumption
  isplitl [R00 R01 R02 R10 R11 R12 R20 R21 R22]
  · iapply (rows_rcv (F := F) c).unslots
    isplitl [R00 R01 R02]
    · isplitl [R00]; · iexact R00
      isplitl [R01] <;> iassumption
    isplitl [R10 R11 R12]
    · isplitl [R10]; · iexact R10
      isplitl [R11] <;> iassumption
    isplitl [R20]; · iexact R20
    isplitl [R21] <;> iassumption
  isplitl [S00 S01 S02 S10 S11 S12 S20 S21 S22]
  · iapply (rows_snd (F := F) c).unslots
    isplitl [S00 S01 S02]
    · isplitl [S00]; · iexact S00
      isplitl [S01] <;> iassumption
    isplitl [S10 S11 S12]
    · isplitl [S10]; · iexact S10
      isplitl [S11] <;> iassumption
    isplitl [S20]; · iexact S20
    isplitl [S21] <;> iassumption
  iexists (gat X Wt)
  rw [(rows_ag (F := F) c).parts]
  isplitl [A0]; · iexact A0
  isplitl [A1] <;> iassumption

/-- The semaphores of the transfers of a list at zero, as one assertion for each of them. -/
theorem closed_eq (c : Dev nD) : (l : List Xf) → closed (F := F) c l = seqOf (fun x => iprop(semVal (xcell c x false) 0 ∗ semVal (xcell c x true) 0)) l
  | [] => rfl
  | x :: l => congrArg (fun A => iprop((semVal (xcell c x false) 0 ∗ semVal (xcell c x true) 0) ∗ A)) (closed_eq c l)

/-- One assertion for each DMA cell of a device: those of the transfers, in pairs, and the unused ones. -/
theorem cells_split (Φ : Xf × Bool → sProp 𝕄) :
    bigSep Finset.univ Φ = iprop((bigSep usedS fun x => iprop(Φ (x, false) ∗ Φ (x, true))) ∗ bigSep idleS Φ) := by
  have h : (bigSep usedS fun x => iprop(Φ (x, false) ∗ Φ (x, true)) : sProp 𝕄) = bigSep (Finset.univ.filter fun a : Xf × Bool => used a.1 = true) Φ := by
    rw [show usedS = Finset.univ.filter (fun x => used x = true) from by decide +kernel, bigSep_filter, bigSep_filter, bigSep_univ_prod (α := Xf) (β := Bool)]
    apply bigSep_congr; intro x _
    rw [bigSep_univ_eq_bigSepL [false, true] (by decide) (by decide)]
    show (if used x = true then iprop(Φ (x, false) ∗ Φ (x, true)) else iprop(emp) : sProp 𝕄)
      = iprop((if used x = true then Φ (x, false) else iprop(emp)) ∗ if used x = true then Φ (x, true) else iprop(emp))
    split
    · rfl
    · exact BI.Entails.antisymm BI.sep_emp.2 BI.sep_emp.1
  rw [h]
  exact (congrArg (fun S => bigSep S Φ) (by decide +kernel)).trans (bigSep_union (by decide +kernel))

/-- Every semaphore of the kernel's own is at zero, once the used and the unused are. -/
theorem all_closed (c : Dev nD) :
    (iprop(closed (F := F) c order.reverse ∗ bigSep idleS fun a => semVal (xcell c a.1 a.2) 0) : sProp 𝕄)
      ⊢ bigSep Finset.univ fun a : Xf × Bool => semVal (xcell c a.1 a.2) 0 := by
  rw [cells_split fun a : Xf × Bool => (semVal (xcell c a.1 a.2) 0 : sProp 𝕄), (closed_eq c order.reverse).trans ((seqOf_bigSepL _ _).trans
    (bigSep_eq_bigSepL_of_eq order.reverse (by decide +kernel : usedS = _) (by decide +kernel) _).symm)]

/-- A program that returns satisfies what its value satisfies. -/
theorem WP_ret {α : Type} (Q : α → sProp 𝕄) (c : Dev nD) (a : α) : iprop(|={Set.univ}[frame]=> Q a) ⊢ WP c (.ret a) Q := by
  unfold WP; rw [wp_ret]

/-- The kernel's body: from its operands, the barrier's debts and every transfer's tokens to the finished result, with every
    semaphore at zero and nothing owed. -/
theorem body (Q : PUnit → sProp 𝕄) (c : Dev nD) (W : Waits sig Unit) :
    iprop(records X Wt K ∗ levAts L lv ∗ owes (c : Thread nD τ) (owedBar c order) W ∗ cred (tallyAt (barCell c) () 3) ∗ atPos ER (barCell c) 0 ∅ 0
        ∗ (dutyTok ER (barCell (partner 0 c)) 0 0 ∗ dutyTok ER (barCell (partner 1 c)) 0 1 ∗ dutyTok ER (barCell (partner 2 c)) 0 2)
        ∗ bigSep usedS (item0 c) ∗ bigSep idleS (fun a => atPos ER (xcell c a.1 a.2) 0 ∅ 0)
        ∗ xP X c ∗ wP Wt c ∗ (∃ f, outP c 0 2048 f) ∗ (∃ f, rcvP c 0 1792 f) ∗ (∃ f, sndP c 0 1792 f) ∗ ∃ f, agP c 0 2048 f)
      ⊢ iprop(((bigSep Finset.univ fun a : Xf × Bool => semVal (xcell c a.1 a.2) 0) -∗ semVal (barCell c) 0 -∗ (∃ W, owes (c : Thread nD τ) 0 W)
          -∗ xP X c -∗ wP Wt c -∗ outP c 0 2048 (outv X Wt c) -∗ (∃ f, rcvP (F := F) c 0 1792 f) -∗ (∃ f, sndP (F := F) c 0 1792 f) -∗ (∃ f, agP (F := F) c 0 2048 f)
          -∗ Q ⟨⟩)
        -∗ WP c (on (cc0_body (F := F))) Q) := by
  unfold on
  rw [cc0_body_eq_skeleton]
  unfold cc0_body_skel
  rw [k0_part33_eq_skeleton]
  unfold k0_part33_skel
  simp only [Prog.bind_assoc, Prog.lift, Prog.bind_op, Prog.bind_ret, Prog.pure_eq_ret]
  iintro ⟨#HR, #HL, HO, Hc, Ha, Ht, Hi, Hid, Hx, Hw, Hout, Hrcv, Hsnd, Hag⟩ Hk
  imod (close_idle X Wt K c) $$ [Hid] with Hid
  · isplitr; · iexact HR
    iexact Hid
  iapply (part1 X Wt K Q c W) $$ [HO Hc Ha Ht Hi Hrcv Hag]
  · isplitr; · iexact HR
    isplitr; · iexact HL
    isplitl [HO]; · iexact HO
    isplitl [Hc]; · iexact Hc
    isplitl [Ha]; · iexact Ha
    isplitl [Ht]; · iexact Ht
    isplitl [Hi]; · iexact Hi
    isplitl [Hrcv] <;> iassumption
  iintro %w0 %w1 %w2 %w3 %w4 %w5 %w6 %w7 HS Hz H0 H1 H2
  ihave ⟨H0, H1, H2⟩ := (start_phases (F := F) c) $$ [Hout Hsnd H0 H1 H2]
  · isplitl [Hout]; · iexact Hout
    isplitl [Hsnd]; · iexact Hsnd
    isplitl [H0]; · iexact H0
    isplitl [H1] <;> iassumption
  iapply (part2 X Wt K Q c) $$ HS H2 Hx Hw; iintro %v0 HS H2 Hx Hw
  iapply (part3 X Wt K Q c) $$ HS H0 H1 Hx Hw; iintro %v0 %v1 HS H0 H1 Hx Hw
  iapply (part4 X Wt K Q c) $$ HS H0 H1 Hx Hw; iintro HS H0 H1 Hx Hw
  iapply (part5 X Wt K Q c) $$ HS H2; iintro %v0 %v1 HS H2
  iapply (part6 X Wt K Q c) $$ HS H2 H0; iintro %v0 HS H2 H0
  iapply (part7 X Wt K Q c) $$ HS H0 H1; iintro HS H0 H1
  iapply (part8 X Wt K Q c) $$ HS H1; iintro %v0 HS H1
  iapply (part9 X Wt K Q c) $$ HS H0 H1; iintro HS H0 H1
  iapply (part10 X Wt K Q c) $$ HS H2 H0; iintro %v0 %v1 HS H2 H0
  iapply (part11 X Wt K Q c) $$ HS H0 H1; iintro %v0 HS H0 H1
  iapply (part12 X Wt K Q c) $$ HS H1 H2; iintro HS H1 H2
  iapply (part13 X Wt K Q c) $$ HS H2; iintro %v0 HS H2
  iapply (part14 X Wt K Q c) $$ HS H0 H1; iintro HS H0 H1
  iapply (part15 X Wt K Q c) $$ HS H2 H0; iintro %v0 HS H2 H0
  iapply (part16 X Wt K Q c) $$ HS H0 H1; iintro HS H0 H1
  iapply (part17 X Wt K Q c) $$ HS H1; iintro %v0 HS H1
  iapply (part18 X Wt K Q c) $$ HS H2; iintro %v0 HS H2
  iapply (part19 X Wt K Q c) $$ HS H2 H0; iintro %v0 %v1 HS H2 H0
  iapply (part20 X Wt K Q c) $$ HS H0 H1; iintro %v0 %v1 %v2 HS H0 H1
  iapply (part21 X Wt K Q c) $$ HS H1 H2; iintro %v0 %v1 HS H1 H2
  iapply (part22 X Wt K Q c) $$ HS H2 H0 H1; iintro HS H2 H0 H1
  iapply (part23 X Wt K Q c) $$ HS H2 H0; iintro %v0 %v1 HS H2 H0
  iapply (part24 X Wt K Q c) $$ HS H0 H1; iintro %v0 %v1 %v2 HS H0 H1
  iapply (part25 X Wt K Q c) $$ HS H1 H2; iintro %v0 %v1 HS H1 H2
  iapply (part26 X Wt K Q c) $$ HS H2 H0; iintro HS H2 H0 H00 H01
  iapply (part27 X Wt K Q c) $$ HS H1; iintro %v0 HS H1 H10 H11
  iapply (part28 X Wt K Q c) $$ HS H2 H00; iintro %v0 HS H2 H20 H21 H00
  iapply (part29 X Wt K Q c) $$ HS H00 H01; iintro HS H00 H01
  iapply (part30 X Wt K Q c) $$ HS H01 H10; iintro %v0 HS H01 H10
  iapply (part31 X Wt K Q c) $$ HS H10 H11; iintro HS H10 H11
  iapply (part32 X Wt K Q c) $$ HS H20; iintro %v0 HS H20
  iapply (run_snd X Wt K Q c (xof 2 (7 + 1)) 21 20 rfl rfl rfl (goS X Wt c 2 1 (by decide))) $$ HS H21; iintro HS H21
  iapply (run_rcv X Wt K Q c (xof 2 (7 + 1)) 21 20 rfl (by decide) rfl rfl rfl (goT X Wt c 2 1 (by decide))) $$ HS H21; iintro HS H21
  iapply (read_pc X Wt Q c 2 1 (n := 192) rfl (off51b c)) $$ H21; iintro H21
  iapply (put_pc X Wt Q c 2 1 (by decide) (n := 192) rfl (off51b c) fun i => by simp only [k0_pay1, shapeCast_self]; rfl) $$ H21; iintro H21
  ihave ⟨Hout, Hrcv, Hsnd, Hag⟩ := (end_phases X Wt c) $$ [H0 H1 H2 H00 H01 H10 H11 H20 H21]
  · isplitl [H0 H00 H01]
    · isplitl [H0]; · iexact H0
      isplitl [H00] <;> iassumption
    isplitl [H1 H10 H11]
    · isplitl [H1]; · iexact H1
      isplitl [H10] <;> iassumption
    isplitl [H2]; · iexact H2
    isplitl [H20] <;> iassumption
  unfold Run St
  icases HS with ⟨-, -, -, Hcl, HO⟩
  ihave HO := (Entails.of_eq (show (iprop(∃ W, owes (c : Thread nD τ) (owed c (order.drop 21)) W) : sProp 𝕄) = iprop(∃ W, owes (c : Thread nD τ) 0 W) from rfl)) $$ HO
  ihave Hcl := (Entails.of_eq (show closed (F := F) c (order.take 21).reverse = closed c order.reverse from rfl)) $$ Hcl
  ihave Hall := (all_closed (F := F) c) $$ [Hcl Hid]
  · isplitl [Hcl] <;> iassumption
  iapply (WP_ret (F := F) Q c)
  imodintro
  iapply Hk $$ Hall Hz HO Hx Hw Hout Hrcv Hsnd Hag

end Cert.Fly

end
-- ==== Proof.Launch.lean ====
/-
# The launch

Every device's body from what the launch deals it, and the run of the whole program: the result of every device is the
computed one, its operands are unchanged and every semaphore is at zero.
-/
module

public import proofs.«01_k».proof.Proof.Body
public import proofs.«01_k».proof.Proof.Gen.KernelIdeal.Points
public import Idealize.ShloMosaic.Lib.Pipeline.CollectiveSegs

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- Device `c`'s block of `x` as staged. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s block of `w` as staged. -/
def wstg (c : Dev nD) : (cc0_stg1_0 : Ref sig .tc).ty.Contents (Elt F) :=
  (win0_1.blk (0 : Fin 1)).view.read (Elt F) ((s₀ m ρ).mem ((c : Thread nD τ).loc main_arg1))
/-- The result on device `c`. -/
def outAt (c : Dev nD) : (cc0_stg2_0 : Ref sig .tc).ty.Contents (Elt F) := fun i => outv (xstg m ρ) (wstg m ρ) c (i 0).val (i 1)

/-! ## The pipeline's proof data -/

/-- The grid has one point. -/
theorem cfg0_N : cfg0.N = 1 := by decide
/-- The only grid point. -/
def t₀ : Fin cfg0.N := ⟨0, by rw [cfg0_N]; decide⟩
/-- Every grid point is that one. -/
theorem fin_N (t : Fin cfg0.N) : t = t₀ := by
  obtain ⟨t, ht⟩ := t; have := cfg0_N; exact Fin.ext (by simp only [t₀]; omega)

/-- The three tokens with which device `c` tells its partners. -/
def barToks (c : Dev nD) : sProp 𝕄 :=
  iprop(dutyTok ER (barCell (partner 0 c)) 0 0 ∗ dutyTok ER (barCell (partner 1 c)) 0 1 ∗ dutyTok ER (barCell (partner 2 c)) 0 2)
/-- The tokens of transfer `x` that device `c` pays with. -/
def pays (c : Dev nD) (x : Xf) : sProp 𝕄 := iprop(dutyTok ER (xcell c x false) 0 0 ∗ dutyTok ER (xcell (partner (tdim x) c) x true) 0 0)
/-- What stays with device `c`: its positions at its cells, and the tokens it pays with. -/
def linear (c : Dev nD) : sProp 𝕄 :=
  iprop((atPos ER (barCell c) 0 ∅ 0 ∗ bigSep Finset.univ fun a : Xf × Bool => atPos ER (xcell c a.1 a.2) 0 ∅ 0) ∗ barToks c ∗ bigSep usedS (pays c))
/-- The credit for device `c`'s waits on its partners. -/
def credits (c : Dev nD) : sProp 𝕄 :=
  iprop(cred (tallyAt (barCell c) () 3) ∗ bigSep usedS fun x => cred (tallyAt (xcell c x true) () (amt x)))

/-- What device `c`'s body starts from, beside its memory. -/
def start (c : Dev nD) : sProp 𝕄 :=
  iprop((∃ K, records (xstg m ρ) (wstg m ρ) K ∗ linear (F := F) c) ∗ credits (F := F) c ∗ levAts L lv)
/-- The three scratch areas, with some contents. -/
def areas (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ ∃ f : Buf (Elt F) ((c : Thread nD τ).loc cc0_scratch2), ((c : Thread nD τ).loc cc0_scratch2) ↦{fullShare} f)

/-- What a device holds before the point, beside its windows: its share of the launch and its scratch buffers. -/
def Φ₀ (c : Dev nD) : sProp 𝕄 := iprop(start m ρ c ∗ areas (F := F) c)
/-- What it holds after: its scratch buffers and all its semaphores, at zero. -/
def Φ₁ (c : Dev nD) : sProp 𝕄 :=
  iprop(areas (F := F) c ∗ (bigSep Finset.univ fun a : Xf × Bool => semVal (xcell c a.1 a.2) 0) ∗ semVal (barCell c) 0)

/-- The windows' contents, the assertions and the debts before and after the point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- One assertion for each of the three windows. -/
theorem bigSep_W (Φ : Fin cfg0.W → sProp 𝕄) : bigSep Finset.univ Φ = iprop(Φ (0 : Fin 3) ∗ Φ (1 : Fin 3) ∗ Φ (2 : Fin 3)) := bigSep_W0 Φ

/-- Owning a whole buffer with contents `Y` is holding it at `Y`. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A staging buffer holding `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-! ## The body -/

/-- The areas, row by row. -/
theorem areas_rows (c : Dev nD) : areas (F := F) c
    ⊢ (iprop((∃ f, rcvP (F := F) c 0 1792 f) ∗ (∃ f, sndP (F := F) c 0 1792 f) ∗ ∃ f, agP (F := F) c 0 2048 f) : sProp 𝕄) := by
  unfold areas
  iintro ⟨⟨%f, H0⟩, ⟨%g, H1⟩, ⟨%h, H2⟩⟩
  ihave H0 := (Entails.of_eq (whole_rcv c f)) $$ H0
  ihave H1 := (Entails.of_eq (whole_snd c g)) $$ H1
  ihave H2 := (Entails.of_eq (whole_ag c h)) $$ H2
  isplitl [H0]; · iexists _; iexact H0
  isplitl [H1]; · iexists _; iexact H1
  iexists _; iexact H2

/-- The areas, whole again. -/
theorem rows_areas (c : Dev nD) :
    (iprop((∃ f, rcvP (F := F) c 0 1792 f) ∗ (∃ f, sndP (F := F) c 0 1792 f) ∗ ∃ f, agP (F := F) c 0 2048 f) : sProp 𝕄) ⊢ areas (F := F) c := by
  unfold areas rcvP sndP agP
  simp only [rowSet_univ]
  iintro ⟨⟨%f, H0⟩, ⟨%g, H1⟩, ⟨%h, H2⟩⟩
  isplitl [H0]; · iexists _; iexact H0
  isplitl [H1]; · iexists _; iexact H1
  iexists _; iexact H2

/-- What the wait and the sending of one transfer need, put together. -/
theorem item0_intro (c : Dev nD) (x : Xf) :
    iprop((atPos ER (xcell c x false) 0 ∅ 0 ∗ atPos ER (xcell c x true) 0 ∅ 0) ∗ pays (F := F) c x ∗ cred (tallyAt (xcell c x true) () (amt x))) ⊢ (item0 c x : sProp 𝕄) := by
  unfold item0 pays
  iintro ⟨⟨H1, H2⟩, H3, H4⟩
  isplitl [H3]; · iexact H3
  isplitl [H1]; · iexact H1
  isplitl [H2] <;> iassumption

/-- Positions, tokens and credit, put together transfer by transfer. -/
theorem items0 (c : Dev nD) :
    iprop((bigSep Finset.univ fun a : Xf × Bool => atPos ER (xcell c a.1 a.2) 0 ∅ 0) ∗ bigSep usedS (pays (F := F) c)
        ∗ bigSep usedS fun x => cred (tallyAt (xcell c x true) () (amt x)))
      ⊢ (iprop(bigSep usedS (item0 c) ∗ bigSep idleS fun a => atPos ER (xcell c a.1 a.2) 0 ∅ 0) : sProp 𝕄) := by
  rw [cells_split fun a : Xf × Bool => (atPos ER (xcell c a.1 a.2) 0 ∅ 0 : sProp 𝕄)]
  iintro ⟨⟨Ha, Hi⟩, Ht, Hc⟩
  isplitr [Hi]
  · iapply (show iprop((bigSep usedS fun x => iprop(atPos ER (xcell c x false) 0 ∅ 0 ∗ atPos ER (xcell c x true) 0 ∅ 0)) ∗ bigSep usedS (pays (F := F) c)
        ∗ bigSep usedS fun x => cred (tallyAt (xcell c x true) () (amt x))) ⊢ (bigSep usedS (item0 c) : sProp 𝕄) from by
          rw [← bigSep_sep', ← bigSep_sep']
          exact bigSep_mono fun x _ => item0_intro c x)
    isplitl [Ha]; · iexact Ha
    isplitl [Ht] <;> iassumption
  iexact Hi

section Body

variable (K : Dev nD × Ci → ℕ)

/-- What the body starts from, at the names `K` of the cells' invariants. -/
def bodyPre (c : Dev nD) : sProp 𝕄 :=
  iprop((records (xstg m ρ) (wstg m ρ) K ∗ linear (F := F) c ∗ credits (F := F) c ∗ levAts L lv ∗ areas (F := F) c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What the body ends with: the operands as they were, and the result. -/
def bodyPost (c : Dev nD) : sProp 𝕄 :=
  iprop(Φ₁ (F := F) c ∗ (dats m ρ 0 c).owesAt () t₀.succ ∗ stg c cc0_stg0_0 (xstg m ρ c) ∗ stg c cc0_stg1_0 (wstg m ρ c) ∗ stg c cc0_stg2_0 (outAt m ρ c))

/-- The body, from what the launch deals it to the finished result. -/
theorem sound_body (c : Dev nD) (Kt : PUnit → sProp 𝕄) :
    iprop(bodyPre m ρ K c ∗ (bodyPost m ρ c -∗ Kt ⟨⟩)) ⊢ WP c (on (cc0_body (F := F))) Kt := by
  unfold bodyPre linear credits barToks
  iintro ⟨⟨⟨#HR, ⟨⟨Ha, Hat⟩, Ht, Hp⟩, ⟨Hc, Hcr⟩, #HL, Har⟩, Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch0_0 t₀)]; rfl
  have hw : g1 = wstg m ρ c := by rw [hg1]; unfold Dat.before; rw [if_pos (fetch0_1 t₀)]; rfl
  subst hx hw
  unfold Dat.owesAt Pipeline.owesWithin
  icases Ho with ⟨%W, %hW, HO⟩
  rw [show (dats m ρ 0 c).owed t₀.castSucc = owedBar c order from rfl]
  ihave ⟨Hi, Hid⟩ := (items0 (F := F) c) $$ [Hat Hp Hcr]
  · isplitl [Hat]; · iexact Hat
    isplitl [Hp] <;> iassumption
  ihave Hx := (Entails.of_eq (show ((((c : Dev nD) : Thread nD τ).loc cc0_stg0_0) ↦{fullShare} xstg m ρ c : sProp 𝕄) = xP (xstg m ρ) c from rfl)) $$ Hx
  ihave Hw := (Entails.of_eq (show ((((c : Dev nD) : Thread nD τ).loc cc0_stg1_0) ↦{fullShare} wstg m ρ c : sProp 𝕄) = wP (wstg m ρ) c from rfl)) $$ Hw
  ihave ⟨Hrcv, Hsnd, Hag⟩ := (areas_rows (F := F) c) $$ Har
  ihave Hout := (Entails.of_eq (whole_out c g2)) $$ Hout
  iapply (body (xstg m ρ) (wstg m ρ) K Kt c W) $$ [HO Hc Ha Ht Hi Hid Hx Hw Hout Hrcv Hsnd Hag]
  · isplitr; · iexact HR
    isplitr; · iexact HL
    isplitl [HO]; · iexact HO
    isplitl [Hc]; · iexact Hc
    isplitl [Ha]; · iexact Ha
    isplitl [Ht]; · iexact Ht
    isplitl [Hi]; · iexact Hi
    isplitl [Hid]; · iexact Hid
    isplitl [Hx]; · iexact Hx
    isplitl [Hw]; · iexact Hw
    isplitl [Hout]; · iexists _; iexact Hout
    isplitl [Hrcv]; · iexact Hrcv
    isplitl [Hsnd] <;> iassumption
  iintro Hall Hz ⟨%W', HO⟩ Hx Hw Hout Hrcv Hsnd Hag
  unfold xP wP
  ihave Har := (rows_areas (F := F) c) $$ [Hrcv Hsnd Hag]
  · isplitl [Hrcv]; · iexact Hrcv
    isplitl [Hsnd] <;> iassumption
  iapply Hk
  unfold bodyPost Φ₁ Dat.owesAt Pipeline.owesWithin
  rw [show (dats m ρ 0 c).owed t₀.succ = 0 from rfl]
  isplitl [Har Hall Hz]
  · isplitl [Har]; · iexact Har
    isplitl [Hall] <;> iassumption
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iapply (show outP c 0 2048 (outv (xstg m ρ) (wstg m ρ) c) ⊢ ((((c : Dev nD) : Thread nD τ).loc cc0_stg2_0) ↦{fullShare} outAt m ρ c : sProp 𝕄) from by
    unfold outP; rw [rowSet_univ]; exact BI.Entails.refl _)
  iexact Hout

set_option maxRecDepth 4000 in
/-- What the pipeline gives the body, the names still unknown. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 40000 in
/-- What the pipeline asks of the body on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ WP c (on (cc0_body (F := F))) (fun _ => bodyPost m ρ c)
  unfold bodyPre' Φ₀ start
  iintro ⟨⟨⟨⟨%K, HR, Hg⟩, Hc, HL⟩, Har⟩, Ho, Hx, Hw, Hout⟩
  iapply (sound_body m ρ K c fun _ => bodyPost m ρ c)
  unfold bodyPre
  isplitr []
  · isplitl [HR Hg Hc HL Har]
    · isplitl [HR]; · iexact HR
      isplitl [Hg]; · iexact Hg
      isplitl [Hc]; · iexact Hc
      isplitl [HL] <;> iassumption
    isplitl [Ho]; · iexact Ho
    isplitl [Hx]; · iexact Hx
    isplitl [Hw] <;> iassumption
  · iintro H; iexact H

end Body

/-! ## What the launch deals -/

/-- The kernel's own semaphores, as the launch counts them. -/
abbrev osem : Fin 54 → SemLoc sig := fun k => .dma (⟨k.val + 3, by have := k.isLt; omega⟩ : Fin 57)
/-- The list of the kernel's own semaphores is as the launch requires. -/
theorem ownSemFacts : Pipeline.OwnSemFacts cfg0.spec osem := by decide +kernel

set_option backward.proofsInPublic true in
/-- The two ways of naming them. -/
def cellEquiv : Xf × Bool ≃ Fin 54 where
  toFun a := ⟨(xsem a.1 a.2).val - 3, (by decide +kernel : ∀ a : Xf × Bool, (xsem a.1 a.2).val - 3 < 54) a⟩
  invFun k := (dec (⟨k.val + 3, by have := k.isLt; omega⟩ : Fin 57)).getD ((0, 0), false)
  left_inv := by decide +kernel
  right_inv := by decide +kernel

/-- Every window is held whole. -/
theorem share_eq (c : Dev nD) (w : Fin cfg0.W) : (dats m ρ 0 c).share w = fullShare := by unfold Dat.share; split <;> rfl

/-- Two transfers, or two ends of one, have different semaphores. -/
theorem xsem_inj {a a' : Xf × Bool} (h : xsem a.1 a.2 = xsem a'.1 a'.2) : a = a' := by
  have := congrArg dec h; rw [dec_xsem, dec_xsem] at this; exact Option.some.inj this

/-- Different names stand for different cells. -/
theorem kcell_injective : Function.Injective (kcell : Dev nD × Ci → GSem nD τ sig) := by
  rintro ⟨c, k⟩ ⟨c', k'⟩ h
  have h1 : c = c' := by
    have := congrArg (fun g : GSem nD τ sig => g.1.1) h
    rcases k with _ | k <;> rcases k' with _ | k' <;> exact this
  subst h1
  have h2 := congrArg (fun g : GSem nD τ sig => g.2) h
  rcases k with _ | k <;> rcases k' with _ | k'
  · rfl
  · exact absurd h2 (by intro h3; cases h3)
  · exact absurd h2 (by intro h3; cases h3)
  · have h3 : xsem k.1 k.2 = xsem k'.1 k'.2 := SemLoc.dma.inj h2
    rw [xsem_inj h3]

/-- All the cells. -/
def ringCells : Finset (GSem nD τ sig) := Finset.univ.map ⟨kcell, kcell_injective⟩

/-- The tokens as minted: a device's three barrier duties, and one duty for each of its DMA cells. -/
def tokOf (cj : Dev nD × (Fin 3 ⊕ (Xf × Bool))) : GSem nD τ sig × ℕ × Fin 3 := match cj.2 with
  | .inl d => (barCell cj.1, 0, d)
  | .inr a => (xcell cj.1 a.1 a.2, 0, 0)
/-- Different names stand for different tokens. -/
theorem tokOf_injective : Function.Injective tokOf := by
  rintro ⟨c, j⟩ ⟨c', j'⟩ h
  have h1 : c = c' := by
    have := congrArg (fun x : GSem nD τ sig × ℕ × Fin 3 => x.1.1.1) h
    rcases j with _ | j <;> rcases j' with _ | j' <;> exact this
  subst h1
  have h2 := congrArg (fun x : GSem nD τ sig × ℕ × Fin 3 => (x.1.2, x.2.2)) h
  rcases j with j | j <;> rcases j' with j' | j'
  · rw [show j = j' from congrArg Prod.snd h2]
  · exact absurd (congrArg Prod.fst h2) (by intro h3; cases h3)
  · exact absurd (congrArg Prod.fst h2) (by intro h3; cases h3)
  · rw [xsem_inj (SemLoc.dma.inj (congrArg Prod.fst h2))]
/-- All the tokens. -/
def ringToks : Finset (GSem nD τ sig × ℕ × Fin 3) := Finset.univ.map ⟨tokOf, tokOf_injective⟩

/-- The ghost element at launch: the pipeline's cells and tokens, and those of the kernel's own semaphores. -/
def u₀ : UU :=
  (initOf (Pipeline.cells cfgs cellOf_inj) (Pipeline.launchToks cfgs cellOf_inj), initOf ringCells ringToks)

/-- The tokens of the duties at device `c`'s own cells. -/
def toks (c : Dev nD) : sProp 𝕄 :=
  iprop((dutyTok ER (barCell c) 0 0 ∗ dutyTok ER (barCell c) 0 1 ∗ dutyTok ER (barCell c) 0 2)
    ∗ bigSep Finset.univ fun a : Xf × Bool => dutyTok ER (xcell c a.1 a.2) 0 0)

/-- What the launch element deals device `c`. -/
def G (c : Dev nD) : sProp 𝕄 :=
  iprop((bigSep Finset.univ fun k : Ci => roundState ER (Rd (xstg m ρ) (wstg m ρ)) (kcell (c, k)) 0)
    ∗ (bigSep Finset.univ fun k : Ci => iprop(atPos ER (kcell (c, k)) 0 ∅ 0 ∗ reached ER (kcell (c, k)) 0)) ∗ toks c)
/-- What the global step makes of it. -/
def G' (c : Dev nD) : sProp 𝕄 := iprop(∃ K, records (xstg m ρ) (wstg m ρ) K ∗ linear (F := F) c)

/-- One assertion for each cell of a device. -/
theorem bigSep_ci (Φ : Ci → sProp 𝕄) : bigSep Finset.univ Φ = iprop(Φ none ∗ bigSep Finset.univ fun a : Xf × Bool => Φ (some a)) := by
  rw [show (Finset.univ : Finset Ci) = insert none (Finset.univ.map ⟨some, Option.some_injective _⟩) from by decide +kernel,
    bigSep_insert (by decide +kernel), bigSep_map]
  rfl

/-- One assertion for each token of a device. -/
theorem bigSep_tok (Φ : Fin 3 ⊕ (Xf × Bool) → sProp 𝕄) :
    bigSep Finset.univ Φ = iprop((Φ (.inl 0) ∗ Φ (.inl 1) ∗ Φ (.inl 2)) ∗ bigSep Finset.univ fun a : Xf × Bool => Φ (.inr a)) := by
  rw [bigSep_univ_sum, bigSep_univ_eq_bigSepL [0, 1, 2] (by decide) (by decide)]; rfl

/-- The kernel's half of it deals every device its cells and tokens. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Ci => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_tok]; rfl
  iintro HX
  imod (Rounds.fund ER (Rd (xstg m ρ) (wstg m ρ)) ringCells ringToks) $$ HX with ⟨Hst, Hr, Hat, Htok⟩
  imodintro
  ihave Hst' := (Entails.of_eq (hX fun g => roundState ER (Rd (xstg m ρ) (wstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores at zero; -/
theorem ownSems0_eq (c : Dev nD) : (Pipeline.ownSems0 (Ix := Unit) (Name := ℕ) (U := UU) (Lvl := ℕ) (Val := Elt F) (τ := τ) osem c : sProp 𝕄)
    = bigSep Finset.univ fun a : Xf × Bool => semVal (xcell c a.1 a.2) 0 := by
  unfold Pipeline.ownSems0
  rw [bigSep_univ_equiv cellEquiv]
  exact bigSep_congr fun a _ => by rw [(by decide +kernel : ∀ a : Xf × Bool, osem (cellEquiv a) = .dma (xsem a.1 a.2)) a]
/-- the barrier semaphore, the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at zero, cell by cell. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ci => semVal (kcell (c, k)) 0 : sProp 𝕄) := by
  rw [ownSems0_eq, unscopedSems0_eq, bigSep_ci]
  iintro ⟨H, HB⟩
  isplitl [HB]; · iexact HB
  iexact H

/-- The invariants of one device's cells are made from its semaphores at zero and its cells' first rounds. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (xstg m ρ) (wstg m ρ)) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Ci => semVal (kcell (c, k)) 0) ∗ bigSep Finset.univ fun k : Ci => roundState ER (Rd (xstg m ρ) (wstg m ρ)) (kcell (c, k)) 0)
      ⊢ (|={Set.univ}=> bigSep Finset.univ fun k => iprop(∃ κ : ℕ, cellInv ER (Rd (xstg m ρ) (wstg m ρ)) κ (kcell (c, k))) : sProp 𝕄) from by
        rw [← bigSep_sep']
        exact (bigSep_mono fun k _ => (Rounds.body_intro ER (Rd (xstg m ρ) (wstg m ρ)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device's tokens for its own cells, with the transfers' in pairs. -/
theorem toks_pairs (c : Dev nD) : toks (F := F) c
    ⊢ (iprop((dutyTok ER (barCell c) 0 0 ∗ dutyTok ER (barCell c) 0 1 ∗ dutyTok ER (barCell c) 0 2)
      ∗ (bigSep usedS fun x => dutyTok ER (xcell c x false) 0 0) ∗ bigSep usedS fun x => dutyTok ER (xcell c x true) 0 0) : sProp 𝕄) := by
  unfold toks
  rw [cells_split fun a : Xf × Bool => (dutyTok ER (xcell c a.1 a.2) 0 0 : sProp 𝕄), bigSep_sep']
  iintro ⟨H, ⟨H1, H2⟩, -⟩
  isplitl [H]; · iexact H
  isplitl [H1] <;> iassumption

/-- A token of every transfer's receiver, dealt to the sender. -/
theorem across_all : (bigSep Finset.univ fun c : Dev nD => bigSep usedS fun x => (dutyTok ER (xcell c x true) 0 0 : sProp 𝕄))
    = bigSep Finset.univ fun c : Dev nD => bigSep usedS fun x => (dutyTok ER (xcell (partner (tdim x) c) x true) 0 0 : sProp 𝕄) := by
  unfold usedS
  simp only [bigSep_filter]
  rw [bigSep_univ_comm, bigSep_univ_comm fun (c : Dev nD) (x : Xf) => if used x = true then (dutyTok ER (xcell (partner (tdim x) c) x true) 0 0 : sProp 𝕄) else BI.emp]
  exact bigSep_congr fun x _ => bigSep_univ_equiv (swap (tdim x)) (fun c : Dev nD => if used x = true then (dutyTok ER (xcell c x true) 0 0 : sProp 𝕄) else BI.emp)

/-- The tokens dealt across the dimensions. -/
theorem toks_around : (bigSep Finset.univ fun c : Dev nD => (toks c : sProp 𝕄)) ⊢ bigSep Finset.univ fun c : Dev nD => iprop(barToks (F := F) c ∗ bigSep usedS (pays c)) := by
  refine (bigSep_mono fun c _ => toks_pairs c).trans ?_
  unfold barToks
  have hp (c : Dev nD) : (bigSep usedS (pays c) : sProp 𝕄) = iprop((bigSep usedS fun x => dutyTok ER (xcell c x false) 0 0)
      ∗ bigSep usedS fun x => dutyTok ER (xcell (partner (tdim x) c) x true) 0 0) := bigSep_sep' _ _ _
  simp only [hp, bigSep_sep']
  rw [across_all, bigSep_univ_equiv (swap 0) (fun c : Dev nD => (dutyTok ER (barCell c) 0 0 : sProp 𝕄)),
    bigSep_univ_equiv (swap 1) (fun c : Dev nD => (dutyTok ER (barCell c) 0 1 : sProp 𝕄)),
    bigSep_univ_equiv (swap 2) (fun c : Dev nD => (dutyTok ER (barCell c) 0 2 : sProp 𝕄))]
  exact BI.Entails.refl _

/-- What a device is given once the names of the invariants are known. -/
theorem ghost_intro (K : Dev nD × Ci → ℕ) (c : Dev nD) : iprop(records (xstg m ρ) (wstg m ρ) K ∗ linear (F := F) c) ⊢ G' m ρ c := by
  unfold G'
  iintro H
  iexists K; iexact H

/-- All devices share all the invariants, and each token goes to the device that pays its duty. -/
theorem regroup :
    (bigSep Finset.univ fun c : Dev nD => iprop((bigSep Finset.univ fun k => iprop(∃ κ : ℕ, cellInv ER (Rd (xstg m ρ) (wstg m ρ)) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Ci => iprop(∃ κ : ℕ, cellInv ER (Rd (xstg m ρ) (wstg m ρ)) κ (kcell ck))),
    bigSep_congr (s := Finset.univ) (fun (c : Dev nD) _ => bigSep_sep' Finset.univ (fun k : Ci => (atPos ER (kcell (c, k)) 0 ∅ 0 : sProp 𝕄)) (fun k => reached ER (kcell (c, k)) 0)),
    bigSep_sep', ← bigSep_univ_prod (fun ck : Dev nD × Ci => (reached ER (kcell ck) 0 : sProp 𝕄))]
  iintro ⟨HI, ⟨Hat, #HR⟩, Htok⟩
  ihave HK := (BI.bigSep_exists_pi Finset.univ (fun (ck : Dev nD × Ci) (κ : ℕ) => (cellInv ER (Rd (xstg m ρ) (wstg m ρ)) κ (kcell ck) : sProp 𝕄))) $$ HI
  icases HK with ⟨%K, #HI⟩
  ihave Htk := (toks_around (F := F)) $$ Htok
  iapply (bigSep_with_persistent (R := records (xstg m ρ) (wstg m ρ) K) fun c _ => ghost_intro m ρ K c)
  isplitr
  · unfold records; isplitl; · iexact HI
    iexact HR
  · iapply ((Entails.of_eq (bigSep_sep' Finset.univ (fun c : Dev nD => bigSep Finset.univ fun k : Ci => (atPos ER (kcell (c, k)) 0 ∅ 0 : sProp 𝕄))
        (fun c => iprop(barToks (F := F) c ∗ bigSep usedS (pays c)))).symm).trans
      (bigSep_mono fun c _ => show _ ⊢ linear c from Entails.of_eq (by unfold linear; rw [bigSep_ci]; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- Barrier cells are equal on equal devices only. -/
theorem bar_eq_iff {a b : Dev nD} : Iff (barCell a = barCell b) (a = b) :=
  ⟨fun h => Fin.ext (congrArg (fun g : GSem nD τ sig => g.1.1.val) h), fun h => h ▸ rfl⟩
/-- Being partners is mutual. -/
theorem partner_eq_iff (d : Fin 3) {a b : Dev nD} : Iff (a = partner d b) (b = partner d a) :=
  ⟨fun h => by rw [h, partner_partner], fun h => by rw [h, partner_partner]⟩
/-- No barrier cell is a transfer's cell. -/
theorem xcell_ne_bar (a b : Dev nD) (x : Xf) (s : Bool) : barCell a ≠ xcell b x s := fun h => by cases congrArg Prod.snd h

/-- No transfer owes anything to a barrier cell. -/
theorem owed_at_bar (d c : Dev nD) : (l : List Xf) → owed d l (barCell c) () = 0
  | [] => rfl
  | x :: l => by
    unfold owed
    rw [Pi.add_apply, Finsupp.add_apply, tallyAt_ne_cell (xcell_ne_bar _ _ _ _), owed_at_bar d c l]; rfl

/-- What device `d` owes the receive cell of `c` for transfer `x`. -/
theorem owed_at (d c : Dev nD) (x : Xf) : (l : List Xf) → l.Nodup →
    owed d l (xcell c x true) () = if d = partner (tdim x) c then (if x ∈ l then amt x else 0) else 0
  | [], _ => by split <;> rfl
  | y :: l, hn => by
    unfold owed
    rw [Pi.add_apply, Finsupp.add_apply, tallyAt_apply, owed_at d c x l (List.nodup_cons.mp hn).2]
    by_cases hy : y = x
    · subst hy
      rw [if_neg (List.nodup_cons.mp hn).1, if_pos List.mem_cons_self]
      by_cases hd : d = partner (tdim y) c
      · subst hd; rw [partner_partner, if_pos rfl, if_pos ⟨rfl, rfl⟩, if_pos rfl, Nat.zero_add]
      · rw [if_neg hd, if_neg hd, if_neg (fun h => hd ((partner_eq_iff _).mp (Fin.ext (congrArg (fun g : GSem nD τ sig => g.1.1.val) h.1))))]
    · have h0 : ¬ (xcell c x true = xcell (partner (tdim y) d) y true ∧ () = ()) := fun h =>
        hy (congrArg Prod.fst (xsem_inj (a := (x, true)) (a' := (y, true)) (SemLoc.dma.inj (congrArg Prod.snd h.1)))).symm
      rw [if_neg h0, Nat.add_zero]
      by_cases hx : x ∈ l
      · rw [if_pos hx, if_pos (List.mem_cons_of_mem _ hx)]
      · have hc : x ∉ y :: l := fun h => by rcases List.mem_cons.mp h with h | h; exacts [hy h.symm, hx h]
        rw [if_neg hx, if_neg hc]

/-- At launch device `d` owes the barrier cell of `c` a unit for each dimension across which they are partners. -/
theorem O₀_bar (d c : Dev nD) : O₀ d (barCell c) () = ((if d = partner 2 c then 1 else 0) + (if d = partner 1 c then 1 else 0)) + (if d = partner 0 c then 1 else 0) := by
  have h (k : Fin 3) : tallyAt (barCell (partner k d)) () 1 (barCell c) () = if d = partner k c then 1 else 0 := by
    rw [tallyAt_apply]
    by_cases hd : d = partner k c
    · subst hd; rw [partner_partner, if_pos ⟨rfl, rfl⟩, if_pos rfl]
    · rw [if_neg hd, if_neg (fun e => hd ((partner_eq_iff k).mp (bar_eq_iff.mp e.1)))]
  unfold O₀ owedBar
  rw [Pi.add_apply, Finsupp.add_apply, Pi.add_apply, Finsupp.add_apply, Pi.add_apply, Finsupp.add_apply, owed_at_bar, h, h, h, Nat.zero_add]

/-- At launch device `d` owes the receive cell of `c` the amount of the transfer if `d` is its sender, and else nothing. -/
theorem O₀_rcv (d c : Dev nD) (x : Xf) (hx : x ∈ order) : O₀ d (xcell c x true) () = if d = partner (tdim x) c then amt x else 0 := by
  unfold O₀ owedBar
  rw [Pi.add_apply, Finsupp.add_apply, Pi.add_apply, Finsupp.add_apply, Pi.add_apply, Finsupp.add_apply,
    tallyAt_ne_cell (xcell_ne_bar _ _ _ _).symm, tallyAt_ne_cell (xcell_ne_bar _ _ _ _).symm, tallyAt_ne_cell (xcell_ne_bar _ _ _ _).symm,
    owed_at d c x order order_nodup, if_pos hx]
  rfl

/-- A barrier cell is owed three units in all. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_bar d c, Finset.sum_add_distrib, Finset.sum_add_distrib,
    Finset.sum_ite_eq' Finset.univ (partner 2 c) fun _ => 1, Finset.sum_ite_eq' Finset.univ (partner 1 c) fun _ => 1, Finset.sum_ite_eq' Finset.univ (partner 0 c) fun _ => 1,
    if_pos (Finset.mem_univ _), if_pos (Finset.mem_univ _), if_pos (Finset.mem_univ _)]

/-- A receive cell is owed its transfer's amount. -/
theorem launch_rcv (c : Dev nD) (x : Xf) (hx : x ∈ order) :
    tallyOn (xcell c x true) (launchCredit (Pipeline.owing O₀) 0 (xcell c x true)) = (tallyAt (xcell c x true) () (amt x) : CellTallies nD τ sig Unit) := by
  unfold tallyAt; refine congrArg _ (Finsupp.ext fun u => ?_); cases u
  rw [Pipeline.launchCredit_owing, Finsupp.single_eq_same, Finset.sum_congr rfl fun d _ => O₀_rcv d c x hx,
    Finset.sum_ite_eq' Finset.univ (partner (tdim x) c) fun _ => amt x, if_pos (Finset.mem_univ _)]

/-- The launch gives a device the credit for its barrier and for each transfer it receives. -/
theorem creds (c : Dev nD) : (Pipeline.launchCred O₀ c : sProp 𝕄) ⊢ credits c := by
  unfold Pipeline.launchCred credits
  rw [bigSep_univ_at _ (SemLoc.reg barS), launch_bar]
  refine sep_mono_right ?_
  have himg : (bigSep usedS fun x => cred (tallyAt (xcell c x true) () (amt x)) : sProp 𝕄)
      = bigSep (usedS.image fun x => (SemLoc.dma (xsem x true) : SemLoc sig))
          fun sm => cred (tallyOn ((c.tc : Thread nD τ), sm) (launchCredit (Pipeline.owing O₀) 0 ((c.tc : Thread nD τ), sm))) := by
    rw [bigSep_image_of_injOn (fun x _ y _ h => congrArg Prod.fst (xsem_inj (a := (x, true)) (a' := (y, true)) (SemLoc.dma.inj h)))]
    exact bigSep_congr fun x hx => by rw [launch_rcv c x (by rw [order_toFinset] at hx; exact List.mem_toFinset.mp hx)]
  rw [himg]
  refine bigSep_subset fun sm hs => ?_
  obtain ⟨x, _, rfl⟩ := Finset.mem_image.mp hs
  exact Finset.mem_erase.mpr ⟨(by intro h; cases h), Finset.mem_univ _⟩

/-! ### The theorem's side conditions -/

/-- What the launch deals a device is what its proof starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- That and the scratch buffers are what the point starts from. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ areas
  iintro ⟨Hs, -, Hr⟩
  isplitl [Hs] <;> iassumption

/-- After the point the semaphores and the scratch buffers are given back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ areas
  iintro ⟨Hr, Hz, HzB⟩
  isplitl [HzB]; · iexact HzB
  isplitl [Hz] <;> iassumption

/-- The waits of the staging copies are below everything that is owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

/-- What window `w`'s array of device `c` holds at the end. -/
def finalA (c : Dev nD) (w : Fin cfg0.W) : Buf (Elt F) ((cfg0.win w).arr.view.loc (c : Thread nD τ)) := (dats m ρ 0 c).arrAt w cfg0.N

/-- Every device's arrays end with the computed contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of eight devices, for any float values, from any memory with zero counters: every weakly fair execution
    terminates, and every final state has each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- `x` after the run is as it was, -/
theorem finalA_x (c : Dev nD) : finalA m ρ c (0 : Fin 3) = m ((c : Thread nD τ).loc main_arg0) := (dats (F := F) m ρ 0 c).arrAt_in (0 : Fin 3) rfl _
/-- and so is `w`. -/
theorem finalA_w (c : Dev nD) : finalA m ρ c (1 : Fin 3) = m ((c : Thread nD τ).loc main_arg1) := (dats (F := F) m ρ 0 c).arrAt_in (1 : Fin 3) rfl _

end Cert.Fly

end
-- ==== Proof.Same.lean ====
/-
# One program, read at two kinds of float

The kernel and the kernel to be read over the real numbers are printed as two programs of the same text. They are equal at every
kind of float, so what is proved of one program holds of the other.
-/
module

public import proofs.«01_k».proof.Proof.Gen.Kernel
public import proofs.«01_k».proof.Proof.Launch

@[expose] public section

noncomputable section

namespace Cert.Same

open Idealize.ShloMosaic Idealize.ShloMosaic.TcCoe Idealize.SL.Sem

variable {F : FTy → Type} [FloatOps F]

set_option maxRecDepth 100000 in
/-- The two bodies are equal. -/
theorem body_eq [Cert.Kernel.Facts] [Cert.KernelIdeal.Facts] : Cert.Kernel.cc0_body (F := F) = Cert.KernelIdeal.cc0_body (F := F) := rfl

/-- The two tables of bodies are equal. -/
theorem table_eq [Cert.Kernel.Facts] [Cert.KernelIdeal.Facts] : Cert.Kernel.defs₀ (F := F) = Cert.KernelIdeal.defs₀ (F := F) := by
  unfold Cert.Kernel.defs₀ Cert.KernelIdeal.defs₀
  refine congrArg _ (funext fun l => funext fun x => ?_)
  match l, x with
  | 0, (t, s) => rw [body_eq]
  | ⟨_ + 1, h⟩, _ => exact absurd h (Nat.not_lt.2 (Nat.le_add_left _ _))

/-- The two tables of bodies and pipelines are equal. -/
theorem defs_eq [Cert.Kernel.Facts] [Cert.KernelIdeal.Facts] : Cert.Kernel.defs (F := F) = Cert.KernelIdeal.defs (F := F) :=
  congrArg (Pipeline.defs Cert.KernelIdeal.pcfgs) table_eq

/-- The two main programs are equal. -/
theorem main_eq [Cert.Kernel.Facts] [Cert.KernelIdeal.Facts] : Cert.Kernel.main (F := F) = Cert.KernelIdeal.main (F := F) := rfl

/-- What every run of the one program ends with, every run of the other ends with. -/
theorem run_of [Cert.Kernel.Facts] [Cert.KernelIdeal.Facts]
    {s : MemSt Cert.Kernel.nD Cert.Kernel.τ Cert.Kernel.sig (Elt F)} {Q : PUnit × MemSt Cert.Kernel.nD Cert.Kernel.τ Cert.Kernel.sig (Elt F) → Prop}
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [defs_eq, main_eq]; exact h

end Cert.Same

end
-- ==== Proof.Value.lean ====
/-
# The value over the real numbers

Over the extended real numbers a change of format changes nothing and a product is the plain sum of products. So what a device holds
at a row after the three stages is the sum of all eight devices' products at that row, in the order in which the stages added them,
and every device's result is the whole product with its negative entries replaced by zero.
-/
module

public import proofs.«01_k».proof.Proof.Launch
public import proofs.«01_k».proof.Proof.Gen.ReferenceIdeal
public import Idealize.ShloMosaic.Lib.MatmulPlain
public import Idealize.ShloMosaic.Lib.Layout

@[expose] public section

noncomputable section

namespace Cert.Fly

open Cert.KernelIdeal Cert.KernelIdeal.Gen
open Idealize.ShloMosaic Idealize.ShloMosaic.TcCoe
open Idealize.ShloMosaic.ValueIdx (ix2 eq_ix2)
open Idealize.SL Idealize.SL.RA Idealize.SL.BI
open scoped Idealize.SL.BI
open Idealize.SL.BI.BIBase Idealize.SL.BI.Laws Idealize.SL.ProofMode Idealize.SL.Sem
open Idealize.ShloMosaic.Rounds

variable (X : Dev nD → Vec Ideal S2048x256 .f32) (Wt : Dev nD → Vec Ideal S256x2048 .f32)

open scoped BigOperators

/-! ## One device's product -/

set_option backward.proofsInPublic true in
/-- Device `c`'s product at row `r`, column `j`: the sum over its 256 columns of `x`. -/
def prod (c : Dev nD) (r : ℕ) (j : Fin 2048) : EReal :=
  ∑ k : Fin 256, (X c (ix2 ⟨r % 2048, Nat.mod_lt _ (by decide)⟩ k) : EReal) * (Wt c (ix2 k j) : EReal)

/-- A block of a product at a row of the block: the accumulator is zero. -/
theorem plain_at {n : ℕ} (hn : 0 < n) (d : DotDims ⟨2, ![n, 256]⟩ S256x2048 ⟨2, ![n, 2048]⟩) (hd : d = DotDims.plain n 256 2048)
    (c : Dev nD) {a r : ℕ} (h : a ≤ r) (h' : r < a + n) (j : Fin 2048) :
    at2 hn (matmul (F := Ideal) (φ₁ := .f32) (φ₂ := .f32) d none (xrows X c n a) (Wt c) (constant ⟨2, ![n, 2048]⟩ .f32 0x00000000#32)) (r - a) j = prod X Wt c r j := by
  subst hd
  have hr : (r - a) % n = r - a := Nat.mod_eq_of_lt (by omega)
  have hz : (constant (F := Ideal) ⟨2, ![n, 2048]⟩ .f32 0x00000000#32 : FVec Ideal ⟨2, ![n, 2048]⟩ .f32) = fun _ => (0 : EReal) :=
    funext fun _ => Ideal.ofBits_zero_f32
  unfold at2 prod
  rw [hz]
  refine (Ideal.matmul_plain_apply none _ _ _ _ _).trans ?_
  rw [zero_add]
  refine Finset.sum_congr rfl fun k _ => ?_
  refine congrArg (fun z : S2048x256.Idx => (X c z : EReal) * (Wt c (ix2 k j) : EReal)) (?_ : ix2 _ _ = ix2 _ _)
  have : (a + (r - a) % n) % 2048 = r % 2048 := by rw [hr, Nat.add_sub_cancel' h]
  exact congrArg (fun z : Fin 2048 => (ix2 z k : S2048x256.Idx)) (Fin.ext this)

/-- A row of a block of device `c`'s product. -/
theorem dotv_eq (c : Dev nD) (p : Fin 3) {a r : ℕ} (h : a ≤ r) (h' : r < a + sz p 0) (j : Fin 2048) :
    dotv X Wt c p a r j = prod X Wt c r j := by
  match p with
  | 0 => exact plain_at X Wt (n := 320) (by decide) _ rfl c h (lt_of_lt_of_eq h' rfl) j
  | 1 => exact plain_at X Wt (n := 320) (by decide) _ rfl c h (lt_of_lt_of_eq h' rfl) j
  | 2 => exact plain_at X Wt (n := 384) (by decide) _ rfl c h (lt_of_lt_of_eq h' rfl) j

/-! ## The sum of the eight devices' products -/

/-- The rows that device `c` keeps at the first stage of part `p`. -/
def InHalf (c : Dev nD) (p : Fin 3) (r : ℕ) : Prop := ks c p 0 ≤ r ∧ r < ks c p 0 + sz p 0

/-- The rows a device ends with lie in the half it keeps first. -/
theorem half_of_leaf {c : Dev nD} {p : Fin 3} {r : ℕ} (h : InLeaf c p r) : InHalf c p r := by
  have key : ∀ (c : Dev nD) (p : Fin 3), ks c p 0 ≤ ks c p 2 ∧ ks c p 2 + sz p 2 ≤ ks c p 0 + sz p 0 := by decide
  have := key c p
  unfold InLeaf at h; unfold InHalf; omega

/-- The partners of the later stages keep the same rows at the first. -/
theorem half_partner {c : Dev nD} {p : Fin 3} {r : ℕ} (h : InHalf c p r) (t : ℕ) (ht : t = 1 ∨ t = 2) : InHalf (partner (dm p t) c) p r := by
  have key : ∀ (c : Dev nD) (p : Fin 3), ks (partner (dm p 1) c) p 0 = ks c p 0 ∧ ks (partner (dm p 2) c) p 0 = ks c p 0 := by decide
  unfold InHalf at *
  rcases ht with rfl | rfl
  · rw [(key c p).1]; exact h
  · rw [(key c p).2]; exact h

/-- After the first stage: the two products. -/
theorem acc_one {c : Dev nD} {p : Fin 3} {r : ℕ} (h : InHalf c p r) (j : Fin 2048) :
    acc X Wt 1 c p r j = (prod X Wt c r j + prod X Wt (partner (dm p 0) c) r j : EReal) := by
  have e : ss (partner (dm p 0) c) p 0 = ks c p 0 := ss_partner c p 0
  show (dotv X Wt c p (ks c p 0) r j + dotv X Wt (partner (dm p 0) c) p (ss (partner (dm p 0) c) p 0) r j : EReal) = _
  rw [e, dotv_eq X Wt c p h.1 h.2, dotv_eq X Wt _ p h.1 h.2]

/-- After the second: four. -/
theorem acc_two {c : Dev nD} {p : Fin 3} {r : ℕ} (h : InHalf c p r) (j : Fin 2048) :
    acc X Wt 2 c p r j = ((prod X Wt c r j + prod X Wt (partner (dm p 0) c) r j)
      + (prod X Wt (partner (dm p 1) c) r j + prod X Wt (partner (dm p 0) (partner (dm p 1) c)) r j) : EReal) := by
  show (acc X Wt 1 c p r j + acc X Wt 1 (partner (dm p 1) c) p r j : EReal) = _
  rw [acc_one X Wt h, acc_one X Wt (half_partner h 1 (Or.inl rfl))]

/-- The eight devices, in the order in which the stages of part `p` bring their products to device `c`. -/
def eight (c : Dev nD) (p : Fin 3) : List (Dev nD) :=
  [c, partner (dm p 0) c, partner (dm p 1) c, partner (dm p 0) (partner (dm p 1) c),
    partner (dm p 2) c, partner (dm p 0) (partner (dm p 2) c), partner (dm p 1) (partner (dm p 2) c), partner (dm p 0) (partner (dm p 1) (partner (dm p 2) c))]
/-- Those are all eight devices, each once. -/
theorem eight_all (c : Dev nD) (p : Fin 3) : (Finset.univ : Finset (Dev nD)) = (eight c p).toFinset ∧ (eight c p).Nodup := by revert c p; decide +kernel

/-- A sum over the devices, in that order. -/
theorem sum_eight (f : Dev nD → EReal) (c : Dev nD) (p : Fin 3) : ∑ d : Dev nD, f d = ((eight c p).map f).sum := by
  rw [(eight_all c p).1, List.sum_toFinset f (eight_all c p).2]

/-- After the third stage: all eight. -/
theorem acc_three {c : Dev nD} {p : Fin 3} {r : ℕ} (h : InHalf c p r) (j : Fin 2048) :
    acc X Wt 3 c p r j = (∑ d : Dev nD, prod X Wt d r j : EReal) := by
  show (acc X Wt 2 c p r j + acc X Wt 2 (partner (dm p 2) c) p r j : EReal) = _
  rw [acc_two X Wt h, acc_two X Wt (half_partner h 2 (Or.inr rfl)), sum_eight _ c p]
  unfold eight
  simp only [List.map_cons, List.map_nil, List.sum_cons, List.sum_nil, add_zero, add_assoc]

/-- Every device's result: the sum of the products, its negative entries replaced by zero. -/
theorem outv_eq (c : Dev nD) {r : ℕ} (hr : r < 2048) (j : Fin 2048) :
    outv X Wt c r j = (max (∑ d : Dev nD, prod X Wt d r j) 0 : EReal) := by
  have hf : fin X Wt (owner r).1 (owner r).2 r j = (max (∑ d : Dev nD, prod X Wt d r j) 0 : EReal) := by
    show (max (acc X Wt 3 _ _ r j) (Ideal.ofBits .f32 0x00000000#32) : EReal) = _
    rw [acc_three X Wt (half_of_leaf (owned hr)), Ideal.ofBits_zero_f32]
  unfold outv
  split
  · rename_i h; subst h; exact hf
  · exact hf

/-! ## The whole arrays -/

/-- The reference's result of the whole arguments. -/
def whole (x w : FVec Ideal S2048x2048 .f32) : FVec Ideal S2048x2048 .f32 := fun i =>
  (max (∑ k : Fin 2048, (x (ix2 (i 0) k) : EReal) * (w (ix2 k (i 1)) : EReal)) 0 : EReal)

/-- The sum over all columns of `x`, device by device. -/
theorem sum_devices (f : Fin 2048 → EReal) : ∑ K : Fin 2048, f K = ∑ d : Fin 8, ∑ k : Fin 256, f ⟨d.val * 256 + k.val, by omega⟩ := by
  rw [← Finset.sum_product', Finset.univ_product_univ]
  refine (Fintype.sum_equiv (finProdFinEquiv (m := 8) (n := 256)) _ _ fun z => ?_).symm
  refine congrArg f (Fin.ext ?_)
  show z.1.val * 256 + z.2.val = z.2.val + 256 * z.1.val
  omega

/-- On blocks of the whole arguments the result is the reference's. -/
theorem outv_whole (x w : FVec Ideal S2048x2048 .f32) (hX : ∀ c : Dev nD, X c = Layout.block ⟨2, ![2048, 256]⟩ ⟨2, ![2048, 2048]⟩ 1 8 c x)
    (hW : ∀ c : Dev nD, Wt c = Layout.block ⟨2, ![256, 2048]⟩ ⟨2, ![2048, 2048]⟩ 0 8 c w) (c : Dev nD) (i : S2048x2048.Idx) :
    outv X Wt c (i 0).val (i 1) = whole x w i := by
  refine (outv_eq X Wt c (i 0).isLt (i 1)).trans ?_
  unfold whole
  rw [sum_devices]
  refine congrArg (fun z : EReal => max z 0) (Finset.sum_congr rfl fun d _ => Finset.sum_congr rfl fun k _ => ?_)
  rw [hX, hW]
  refine congrArg₂ (fun a b : EReal => a * b) (congrArg x (funext fun b => Fin.ext ?_)) (congrArg w (funext fun b => Fin.ext ?_))
  · match b with
    | ⟨0, _⟩ => exact Nat.mod_eq_of_lt (i 0).isLt
    | ⟨1, _⟩ => rfl
  · match b with
    | ⟨0, _⟩ => rfl
    | ⟨1, _⟩ => rfl

/-- The reference's operations compute it. -/
theorem reference_eq (x w : FVec Ideal S2048x2048 .f32) :
    maximumf (Host.dotGeneral Cert.ReferenceIdeal.dot_S2048x2048_S2048x2048_S2048x2048_1_0_0_1_n_n none x w)
      (broadcastInDim Cert.ReferenceIdeal.S2048x2048 ![] Cert.ReferenceIdeal.Gen.facts.bcast_S_S2048x2048 (constant Cert.ReferenceIdeal.S_ .f32 0x00000000#32)) = whole x w := by
  funext i
  obtain ⟨r, j, rfl⟩ : ∃ (r j : Fin 2048), i = ix2 r j := ⟨i 0, i 1, eq_ix2 i⟩
  show (max (Ideal.matmul (DotDims.plain 2048 2048 2048) x w (fun _ => 0) (ix2 r j)) (Ideal.ofBits .f32 0x00000000#32) : EReal) = _
  rw [Ideal.ofBits_zero_f32]
  refine congrArg (fun z : EReal => max z 0) ?_
  refine (Ideal.matmul_plain_apply (φ₁ := .f32) (φ₂ := .f32) none x w (fun _ => 0) r j).trans ?_
  rw [zero_add]

/-! ## The arrays of a run -/

section Arrays

variable (m : (ℓ : Loc nD τ sig) → Buf (Elt Ideal) ℓ) (ρ : Dev nD → PrngReg)

/-- The staged block of `x` is the device's array, -/
theorem xstg_eq (c : Dev nD) : xstg m ρ c = m ((c : Thread nD τ).loc main_arg0) :=
  Memref.read_access_unit_zero (Elt Ideal) main_arg0 (funext fun a => by fin_cases a <;> decide) (fun a => by fin_cases a <;> decide) _
/-- and so is that of `w`. -/
theorem wstg_eq (c : Dev nD) : wstg m ρ c = m ((c : Thread nD τ).loc main_arg1) :=
  Memref.read_access_unit_zero (Elt Ideal) main_arg1 (funext fun a => by fin_cases a <;> decide) (fun a => by fin_cases a <;> decide) _

/-- The result array holds what the body left. -/
theorem finalA_out (c : Dev nD) : finalA m ρ c (2 : Fin 3) = outAt m ρ c := by
  have hr := Memref.read_access_unit_zero (Elt Ideal) main_v1 (off := fun a => (win0_2.index (0 : Fin 1)) a * main_v1.ty.shape.size a)
    (funext fun a => by fin_cases a <;> decide) (fun a => by fin_cases a <;> decide) (finalA m ρ c (2 : Fin 3))
  have hb : (win0_2.blk (0 : Fin 1)).view.read (Elt Ideal) (finalA m ρ c (2 : Fin 3)) = outAt m ρ c := by
    unfold finalA
    rw [show cfg0.N = ((0 : Fin 1) : Fin cfg0.N).val + 1 from rfl, (dats m ρ 0 c).arrAt_succ (2 : Fin 3) (0 : Fin 1), if_pos (show (cfg0.win (2 : Fin 3)).flush (0 : Fin 1) = true from flush0_2 t₀)]
    exact View.read_write_univ _ _
  exact hr.symm.trans hb

end Arrays

end Cert.Fly

end
-- ==== Proof.lean ====
/-
# The certificate

The claims of `Cert.Claim`: the kernel, read at its own floats and over the real numbers, and the reference run without a fault,
terminate, leave their arguments unchanged and every semaphore at zero; and the kernel computes, over the real numbers, the
reference's result on every device.
-/
module

public import proofs.«01_k».proof.Defs
public import proofs.«01_k».proof.Proof.Same
public import proofs.«01_k».proof.Proof.Launch
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem

variable {F : FTy → Type} [FloatOps F]

/-- Every run of the kernel terminates with its arguments unchanged and every semaphore at zero, for any floats. -/
theorem frame (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0) :=
  (θ_run _ _ _).mono (fun _ h => ⟨fun c => ⟨(h.1 c (0 : Fin 3)).trans (Cert.Fly.finalA_x m g c), (h.1 c (1 : Fin 3)).trans (Cert.Fly.finalA_w m g c)⟩, h.2⟩)
    (Cert.Fly.run_main m g)

/-- Over the real numbers every device ends with the reference's result of the whole arguments, of which it held its blocks. -/
theorem value : Cert.algebraic_KernelIdeal_ReferenceIdeal (hKernelIdeal := Cert.KernelIdeal.Gen.facts) (hReferenceIdeal := Cert.ReferenceIdeal.Gen.facts) := by
  intro m g m' g' _ hargs
  refine ⟨Cert.Fly.whole (m' (((0 : Dev Cert.ReferenceIdeal.nD) : Thread Cert.ReferenceIdeal.nD Cert.ReferenceIdeal.τ).loc Cert.ReferenceIdeal.main_arg0))
    (m' (((0 : Dev Cert.ReferenceIdeal.nD) : Thread Cert.ReferenceIdeal.nD Cert.ReferenceIdeal.τ).loc Cert.ReferenceIdeal.main_arg1)), ?_, ?_⟩
  · refine (θ_run _ _ _).mono (fun r h c => ⟨?_, (h.1 c (0 : Fin 3)).trans (Cert.Fly.finalA_x m g c), (h.1 c (1 : Fin 3)).trans (Cert.Fly.finalA_w m g c)⟩) (Cert.Fly.run_main m g)
    refine (h.1 c (2 : Fin 3)).trans ((Cert.Fly.finalA_out m g c).trans (funext fun i => ?_))
    exact Cert.Fly.outv_whole _ _ _ _ (fun d => (Cert.Fly.xstg_eq m g d).trans (hargs d).1) (fun d => (Cert.Fly.wstg_eq m g d).trans (hargs d).2) c i
  · refine (θ_run _ _ _).mono (fun r h => ?_) (Cert.ReferenceIdeal.Value.run m' g')
    have h0 := h 0
    exact ⟨h0.1.trans (Cert.Fly.reference_eq _ _), h0.2⟩

/-- All the claims. -/
theorem claim : Cert.Claim := ⟨Cert.Kernel.Gen.facts, Cert.KernelIdeal.Gen.facts, Cert.ReferenceIdeal.Gen.facts,
  fun m g _ => Cert.Same.run_of (frame (F := Bits) m g),
  fun m g _ => frame m g,
  fun m g _ => (θ_run Cert.ReferenceIdeal.defs _ _).mono
    (fun r h => ⟨fun c => (h c).2, Idealize.ShloMosaic.sem_eq_zero_of_no_sems (by decide) r.2⟩) (Cert.ReferenceIdeal.Value.run m g),
  trivial,
  value⟩

end Cert.Proof

end
